-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S8192x512 : Shape := ⟨2, ![8192, 512]⟩
abbrev S3x8 : Shape := ⟨2, ![3, 8]⟩
abbrev S_ : Shape := ⟨0, ![]⟩
abbrev S1024x512 : Shape := ⟨2, ![1024, 512]⟩
abbrev S1x1 : Shape := ⟨2, ![1, 1]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S8192x512, .bf16⟩
  | .local _ .vmem, ⟨0, _⟩ => ⟨S2048x512, .bf16⟩
  | .local _ .vmem, ⟨1, _⟩ => ⟨S8192x512, .bf16⟩
  | _, _ => ⟨S2048x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 146 → Bool
  | ⟨i, _⟩ => dmaSemScopedAt i

abbrev sig : RefSig :=
  (ofTc nBuf bufTy 1 146 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v18 : BitVec 32 := Scalar.muli v9 c16_i32_8
  let v19 : BitVec 32 := Scalar.addi c0_i32_9 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v24 : BitVec 32 := Scalar.extui v15
  let c0_i32_12 : BitVec 32 := 0#32
  let v25 : BitVec 1 := Scalar.cmpi .ne v24 c0_i32_12
  v25

def k0_dev2 (d0 : Dev nD) : Nat :=
  let c0_i32_3538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3537 : BitVec 32 := 16#32
  let v3522 : BitVec 32 := Scalar.muli v2 c16_i32_3537
  let v3523 : BitVec 32 := Scalar.addi c0_i32_3538 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3539 : BitVec 32 := 4#32
  let v3524 : BitVec 32 := Scalar.muli v5 c4_i32_3539
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3540 : BitVec 32 := 1#32
  let v3526 : BitVec 32 := Scalar.muli v10 c1_i32_3540
  let v3527 : BitVec 32 := Scalar.addi v3525 v3526
  v3527.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v26 : BitVec 32 := Scalar.extui v16
  let c0_i32_13 : BitVec 32 := 0#32
  let v27 : BitVec 1 := Scalar.cmpi .ne v26 c0_i32_13
  v27

def k0_dev3 (d0 : Dev nD) : Nat :=
  let c0_i32_3538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3537 : BitVec 32 := 16#32
  let v3522 : BitVec 32 := Scalar.muli v2 c16_i32_3537
  let v3523 : BitVec 32 := Scalar.addi c0_i32_3538 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3539 : BitVec 32 := 4#32
  let v3524 : BitVec 32 := Scalar.muli v5 c4_i32_3539
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3540 : BitVec 32 := 1#32
  let v3526 : BitVec 32 := Scalar.muli v11 c1_i32_3540
  let v3527 : BitVec 32 := Scalar.addi v3525 v3526
  v3527.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v28 : Index := Scalar.indexCast v12
  let c0 : Index := 0#32
  ![v28.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32 : BitVec 32 := 2048#32
  let v31 : BitVec 32 := Scalar.muli v8 c2048_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v32 : BitVec 32 := Scalar.addi v31 v12
  let v33 : Index := Scalar.indexCast v32
  let c0_14 : Index := 0#32
  ![v33.toNat, 0]
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2921 : BitVec 32 := Scalar.extui v15
  let c0_i32_2222 : BitVec 32 := 0#32
  let v2922 : BitVec 1 := Scalar.cmpi .ne v2921 c0_i32_2222
  v2922

def k0_off3 (d0 : Dev nD) : Fin 2 → Nat :=
  let c3_i32_24 : BitVec 32 := 3#32
  let c0_i32_23 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_18 : BitVec 32 := 0#32
  let v42 : BitVec 32 := Scalar.addi v8 c0_i32_18
  let v48 : BitVec 32 := Scalar.maxsi c0_i32_23 v42
  let v49 : BitVec 32 := Scalar.minsi c3_i32_24 v48
  let c2048_i32_25 : BitVec 32 := 2048#32
  let v50 : BitVec 32 := Scalar.muli v49 c2048_i32_25
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v51 : BitVec 32 := Scalar.addi v50 v12
  let c0_i32_26 : BitVec 32 := 0#32
  let v52 : BitVec 32 := Scalar.addi v51 c0_i32_26
  let c0_i32_3540 : BitVec 32 := 0#32
  ![v52.toNat, 0]
def k0_dev4 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2923 : BitVec 32 := Scalar.extui v16
  let c0_i32_2227 : BitVec 32 := 0#32
  let v2924 : BitVec 1 := Scalar.cmpi .ne v2923 c0_i32_2227
  v2924

def k0_off4 (d0 : Dev nD) : Fin 2 → Nat :=
  let c3_i32_257 : BitVec 32 := 3#32
  let c0_i32_256 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_251 : BitVec 32 := 0#32
  let v330 : BitVec 32 := Scalar.subi v8 c0_i32_251
  let v336 : BitVec 32 := Scalar.maxsi c0_i32_256 v330
  let v337 : BitVec 32 := Scalar.minsi c3_i32_257 v336
  let c2048_i32_258 : BitVec 32 := 2048#32
  let v338 : BitVec 32 := Scalar.muli v337 c2048_i32_258
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v339 : BitVec 32 := Scalar.addi v338 v12
  let c0_i32_259 : BitVec 32 := 0#32
  let v340 : BitVec 32 := Scalar.addi v339 c0_i32_259
  let c0_i32_3540 : BitVec 32 := 0#32
  ![v340.toNat, 0]
def k0_dev5 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2925 : BitVec 32 := Scalar.extui v15
  let c0_i32_2232 : BitVec 32 := 0#32
  let v2926 : BitVec 1 := Scalar.cmpi .ne v2925 c0_i32_2232
  v2926

def k0_off5 (d0 : Dev nD) : Fin 2 → Nat :=
  let c3_i32_33 : BitVec 32 := 3#32
  let c0_i32_32 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_28 : BitVec 32 := 0#32
  let v54 : BitVec 32 := Scalar.addi v8 c0_i32_28
  let v60 : BitVec 32 := Scalar.maxsi c0_i32_32 v54
  let v61 : BitVec 32 := Scalar.minsi c3_i32_33 v60
  let c2048_i32_34 : BitVec 32 := 2048#32
  let v62 : BitVec 32 := Scalar.muli v61 c2048_i32_34
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v63 : BitVec 32 := Scalar.addi v62 v12
  let c128_i32_35 : BitVec 32 := 128#32
  let v64 : BitVec 32 := Scalar.addi v63 c128_i32_35
  let c0_i32_3540 : BitVec 32 := 0#32
  ![v64.toNat, 0]
def k0_dev6 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2927 : BitVec 32 := Scalar.extui v16
  let c0_i32_2237 : BitVec 32 := 0#32
  let v2928 : BitVec 1 := Scalar.cmpi .ne v2927 c0_i32_2237
  v2928

def k0_off6 (d0 : Dev nD) : Fin 2 → Nat :=
  let c3_i32_267 : BitVec 32 := 3#32
  let c0_i32_266 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_261 : BitVec 32 := 0#32
  let v342 : BitVec 32 := Scalar.subi v8 c0_i32_261
  let v348 : BitVec 32 := Scalar.maxsi c0_i32_266 v342
  let v349 : BitVec 32 := Scalar.minsi c3_i32_267 v348
  let c2048_i32_268 : BitVec 32 := 2048#32
  let v350 : BitVec 32 := Scalar.muli v349 c2048_i32_268
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v351 : BitVec 32 := Scalar.addi v350 v12
  let c128_i32_269 : BitVec 32 := 128#32
  let v352 : BitVec 32 := Scalar.addi v351 c128_i32_269
  let c0_i32_3540 : BitVec 32 := 0#32
  ![v352.toNat, 0]
def k0_dev7 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2929 : BitVec 32 := Scalar.extui v15
  let c0_i32_2242 : BitVec 32 := 0#32
  let v2930 : BitVec 1 := Scalar.cmpi .ne v2929 c0_i32_2242
  v2930

def k0_off7 (d0 : Dev nD) : Fin 2 → Nat :=
  let c3_i32_42 : BitVec 32 := 3#32
  let c0_i32_41 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_37 : BitVec 32 := 0#32
  let v66 : BitVec 32 := Scalar.addi v8 c0_i32_37
  let v72 : BitVec 32 := Scalar.maxsi c0_i32_41 v66
  let v73 : BitVec 32 := Scalar.minsi c3_i32_42 v72
  let c2048_i32_43 : BitVec 32 := 2048#32
  let v74 : BitVec 32 := Scalar.muli v73 c2048_i32_43
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v75 : BitVec 32 := Scalar.addi v74 v12
  let c256_i32_44 : BitVec 32 := 256#32
  let v76 : BitVec 32 := Scalar.addi v75 c256_i32_44
  let c0_i32_3540 : BitVec 32 := 0#32
  ![v76.toNat, 0]
def k0_dev8 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2931 : BitVec 32 := Scalar.extui v16
  let c0_i32_2247 : BitVec 32 := 0#32
  let v2932 : BitVec 1 := Scalar.cmpi .ne v2931 c0_i32_2247
  v2932

def k0_off8 (d0 : Dev nD) : Fin 2 → Nat :=
  let c3_i32_277 : BitVec 32 := 3#32
  let c0_i32_276 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_271 : BitVec 32 := 0#32
  let v354 : BitVec 32 := Scalar.subi v8 c0_i32_271
  let v360 : BitVec 32 := Scalar.maxsi c0_i32_276 v354
  let v361 : BitVec 32 := Scalar.minsi c3_i32_277 v360
  let c2048_i32_278 : BitVec 32 := 2048#32
  let v362 : BitVec 32 := Scalar.muli v361 c2048_i32_278
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v363 : BitVec 32 := Scalar.addi v362 v12
  let c256_i32_279 : BitVec 32 := 256#32
  let v364 : BitVec 32 := Scalar.addi v363 c256_i32_279
  let c0_i32_3540 : BitVec 32 := 0#32
  ![v364.toNat, 0]
def k0_dev9 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2933 : BitVec 32 := Scalar.extui v15
  let c0_i32_2252 : BitVec 32 := 0#32
  let v2934 : BitVec 1 := Scalar.cmpi .ne v2933 c0_i32_2252
  v2934

def k0_off9 (d0 : Dev nD) : Fin 2 → Nat :=
  let c3_i32_51 : BitVec 32 := 3#32
  let c0_i32_50 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_46 : BitVec 32 := 0#32
  let v78 : BitVec 32 := Scalar.addi v8 c0_i32_46
  let v84 : BitVec 32 := Scalar.maxsi c0_i32_50 v78
  let v85 : BitVec 32 := Scalar.minsi c3_i32_51 v84
  let c2048_i32_52 : BitVec 32 := 2048#32
  let v86 : BitVec 32 := Scalar.muli v85 c2048_i32_52
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v87 : BitVec 32 := Scalar.addi v86 v12
  let c384_i32_53 : BitVec 32 := 384#32
  let v88 : BitVec 32 := Scalar.addi v87 c384_i32_53
  let c0_i32_3540 : BitVec 32 := 0#32
  ![v88.toNat, 0]
def k0_dev10 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2935 : BitVec 32 := Scalar.extui v16
  let c0_i32_2257 : BitVec 32 := 0#32
  let v2936 : BitVec 1 := Scalar.cmpi .ne v2935 c0_i32_2257
  v2936

def k0_off10 (d0 : Dev nD) : Fin 2 → Nat :=
  let c3_i32_287 : BitVec 32 := 3#32
  let c0_i32_286 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_281 : BitVec 32 := 0#32
  let v366 : BitVec 32 := Scalar.subi v8 c0_i32_281
  let v372 : BitVec 32 := Scalar.maxsi c0_i32_286 v366
  let v373 : BitVec 32 := Scalar.minsi c3_i32_287 v372
  let c2048_i32_288 : BitVec 32 := 2048#32
  let v374 : BitVec 32 := Scalar.muli v373 c2048_i32_288
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v375 : BitVec 32 := Scalar.addi v374 v12
  let c384_i32_289 : BitVec 32 := 384#32
  let v376 : BitVec 32 := Scalar.addi v375 c384_i32_289
  let c0_i32_3540 : BitVec 32 := 0#32
  ![v376.toNat, 0]
def k0_dev11 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2937 : BitVec 32 := Scalar.extui v15
  let c0_i32_2262 : BitVec 32 := 0#32
  let v2938 : BitVec 1 := Scalar.cmpi .ne v2937 c0_i32_2262
  v2938

def k0_off11 (d0 : Dev nD) : Fin 2 → Nat :=
  let c3_i32_60 : BitVec 32 := 3#32
  let c0_i32_59 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_55 : BitVec 32 := 0#32
  let v90 : BitVec 32 := Scalar.addi v8 c0_i32_55
  let v96 : BitVec 32 := Scalar.maxsi c0_i32_59 v90
  let v97 : BitVec 32 := Scalar.minsi c3_i32_60 v96
  let c2048_i32_61 : BitVec 32 := 2048#32
  let v98 : BitVec 32 := Scalar.muli v97 c2048_i32_61
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v99 : BitVec 32 := Scalar.addi v98 v12
  let c512_i32_62 : BitVec 32 := 512#32
  let v100 : BitVec 32 := Scalar.addi v99 c512_i32_62
  let c0_i32_3540 : BitVec 32 := 0#32
  ![v100.toNat, 0]
def k0_dev12 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2939 : BitVec 32 := Scalar.extui v16
  let c0_i32_2267 : BitVec 32 := 0#32
  let v2940 : BitVec 1 := Scalar.cmpi .ne v2939 c0_i32_2267
  v2940

def k0_off12 (d0 : Dev nD) : Fin 2 → Nat :=
  let c3_i32_297 : BitVec 32 := 3#32
  let c0_i32_296 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_291 : BitVec 32 := 0#32
  let v378 : BitVec 32 := Scalar.subi v8 c0_i32_291
  let v384 : BitVec 32 := Scalar.maxsi c0_i32_296 v378
  let v385 : BitVec 32 := Scalar.minsi c3_i32_297 v384
  let c2048_i32_298 : BitVec 32 := 2048#32
  let v386 : BitVec 32 := Scalar.muli v385 c2048_i32_298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v387 : BitVec 32 := Scalar.addi v386 v12
  let c512_i32_299 : BitVec 32 := 512#32
  let v388 : BitVec 32 := Scalar.addi v387 c512_i32_299
  let c0_i32_3540 : BitVec 32 := 0#32
  ![v388.toNat, 0]
def k0_dev13 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2941 : BitVec 32 := Scalar.extui v15
  let c0_i32_2271 : BitVec 32 := 0#32
  let v2942 : BitVec 1 := Scalar.cmpi .ne v2941 c0_i32_2271
  v2942

def k0_off13 (d0 : Dev nD) : Fin 2 → Nat :=
  let c3_i32_69 : BitVec 32 := 3#32
  let c0_i32_68 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_64 : BitVec 32 := 0#32
  let v102 : BitVec 32 := Scalar.addi v8 c0_i32_64
  let v108 : BitVec 32 := Scalar.maxsi c0_i32_68 v102
  let v109 : BitVec 32 := Scalar.minsi c3_i32_69 v108
  let c2048_i32_70 : BitVec 32 := 2048#32
  let v110 : BitVec 32 := Scalar.muli v109 c2048_i32_70
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v111 : BitVec 32 := Scalar.addi v110 v12
  let c640_i32_71 : BitVec 32 := 640#32
  let v112 : BitVec 32 := Scalar.addi v111 c640_i32_71
  let c0_i32_3540 : BitVec 32 := 0#32
  ![v112.toNat, 0]
def k0_dev14 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2943 : BitVec 32 := Scalar.extui v16
  let c0_i32_2276 : BitVec 32 := 0#32
  let v2944 : BitVec 1 := Scalar.cmpi .ne v2943 c0_i32_2276
  v2944

def k0_off14 (d0 : Dev nD) : Fin 2 → Nat :=
  let c3_i32_307 : BitVec 32 := 3#32
  let c0_i32_306 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_301 : BitVec 32 := 0#32
  let v390 : BitVec 32 := Scalar.subi v8 c0_i32_301
  let v396 : BitVec 32 := Scalar.maxsi c0_i32_306 v390
  let v397 : BitVec 32 := Scalar.minsi c3_i32_307 v396
  let c2048_i32_308 : BitVec 32 := 2048#32
  let v398 : BitVec 32 := Scalar.muli v397 c2048_i32_308
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v399 : BitVec 32 := Scalar.addi v398 v12
  let c640_i32_309 : BitVec 32 := 640#32
  let v400 : BitVec 32 := Scalar.addi v399 c640_i32_309
  let c0_i32_3540 : BitVec 32 := 0#32
  ![v400.toNat, 0]
def k0_dev15 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2945 : BitVec 32 := Scalar.extui v15
  let c0_i32_2280 : BitVec 32 := 0#32
  let v2946 : BitVec 1 := Scalar.cmpi .ne v2945 c0_i32_2280
  v2946

def k0_off15 (d0 : Dev nD) : Fin 2 → Nat :=
  let c3_i32_78 : BitVec 32 := 3#32
  let c0_i32_77 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_73 : BitVec 32 := 0#32
  let v114 : BitVec 32 := Scalar.addi v8 c0_i32_73
  let v120 : BitVec 32 := Scalar.maxsi c0_i32_77 v114
  let v121 : BitVec 32 := Scalar.minsi c3_i32_78 v120
  let c2048_i32_79 : BitVec 32 := 2048#32
  let v122 : BitVec 32 := Scalar.muli v121 c2048_i32_79
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v123 : BitVec 32 := Scalar.addi v122 v12
  let c768_i32_80 : BitVec 32 := 768#32
  let v124 : BitVec 32 := Scalar.addi v123 c768_i32_80
  let c0_i32_3540 : BitVec 32 := 0#32
  ![v124.toNat, 0]
def k0_dev16 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2947 : BitVec 32 := Scalar.extui v16
  let c0_i32_2285 : BitVec 32 := 0#32
  let v2948 : BitVec 1 := Scalar.cmpi .ne v2947 c0_i32_2285
  v2948

def k0_off16 (d0 : Dev nD) : Fin 2 → Nat :=
  let c3_i32_317 : BitVec 32 := 3#32
  let c0_i32_316 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_311 : BitVec 32 := 0#32
  let v402 : BitVec 32 := Scalar.subi v8 c0_i32_311
  let v408 : BitVec 32 := Scalar.maxsi c0_i32_316 v402
  let v409 : BitVec 32 := Scalar.minsi c3_i32_317 v408
  let c2048_i32_318 : BitVec 32 := 2048#32
  let v410 : BitVec 32 := Scalar.muli v409 c2048_i32_318
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v411 : BitVec 32 := Scalar.addi v410 v12
  let c768_i32_319 : BitVec 32 := 768#32
  let v412 : BitVec 32 := Scalar.addi v411 c768_i32_319
  let c0_i32_3540 : BitVec 32 := 0#32
  ![v412.toNat, 0]
def k0_dev17 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v2949 : BitVec 32 := Scalar.extui v15
  let c0_i32_2289 : BitVec 32 := 0#32
  let v2950 : BitVec 1 := Scalar.cmpi .ne v2949 c0_i32_2289
  v2950

def k0_off17 (d0 : Dev nD) : Fin 2 → Nat :=
  let c3_i32_87 : BitVec 32 := 3#32
  let c0_i32_86 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_82 : BitVec 32 := 0#32
  let v126 : BitVec 32 := Scalar.addi v8 c0_i32_82
  let v132 : BitVec 32 := Scalar.maxsi c0_i32_86 v126
  let v133 : BitVec 32 := Scalar.minsi c3_i32_87 v132
  let c2048_i32_88 : BitVec 32 := 2048#32
  let v134 : BitVec 32 := Scalar.muli v133 c2048_i32_88
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v135 : BitVec 32 := Scalar.addi v134 v12
  let c896_i32_89 : BitVec 32 := 896#32
  let v136 : BitVec 32 := Scalar.addi v135 c896_i32_89
  let c0_i32_3540 : BitVec 32 := 0#32
  ![v136.toNat, 0]
def k0_dev18 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3539 : BitVec 32 := 1#32
  let v3526 : BitVec 32 := Scalar.muli v10 c1_i32_3539
  let v3527 : BitVec 32 := Scalar.addi v3525 v3526
  v3527.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v2951 : BitVec 32 := Scalar.extui v16
  let c0_i32_2294 : BitVec 32 := 0#32
  let v2952 : BitVec 1 := Scalar.cmpi .ne v2951 c0_i32_2294
  v2952

def k0_off18 (d0 : Dev nD) : Fin 2 → Nat :=
  let c3_i32_327 : BitVec 32 := 3#32
  let c0_i32_326 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_321 : BitVec 32 := 0#32
  let v414 : BitVec 32 := Scalar.subi v8 c0_i32_321
  let v420 : BitVec 32 := Scalar.maxsi c0_i32_326 v414
  let v421 : BitVec 32 := Scalar.minsi c3_i32_327 v420
  let c2048_i32_328 : BitVec 32 := 2048#32
  let v422 : BitVec 32 := Scalar.muli v421 c2048_i32_328
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v423 : BitVec 32 := Scalar.addi v422 v12
  let c896_i32_329 : BitVec 32 := 896#32
  let v424 : BitVec 32 := Scalar.addi v423 c896_i32_329
  let c0_i32_3540 : BitVec 32 := 0#32
  ![v424.toNat, 0]
def k0_dev19 (d0 : Dev nD) : Nat :=
  let c0_i32_3537 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3536 : BitVec 32 := 16#32
  let v3522 : BitVec 32 := Scalar.muli v2 c16_i32_3536
  let v3523 : BitVec 32 := Scalar.addi c0_i32_3537 v3522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3538 : BitVec 32 := 4#32
  let v3524 : BitVec 32 := Scalar.muli v5 c4_i32_3538
  let v3525 : BitVec 32 := Scalar.addi v3523 v3524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3539 : BitVec 32 := 1#32
  let v3526 : BitVec 32 := Scalar.muli v11 c1_i32_3539
  let v3527 : BitVec 32 := Scalar.addi v3525 v3526
  v3527.toNat
def k0_off19 (d0 : Dev nD) : Fin 2 → Nat :=
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c1024_i32_6 : BitVec 32 := 1024#32
  let v14 : BitVec 32 := Scalar.muli v13 c1024_i32_6
  let v2953 : Index := Scalar.indexCast v14
  let c0_2295 : Index := 0#32
  ![v2953.toNat, 0]
def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_2296 : BitVec 32 := 2048#32
  let v2956 : BitVec 32 := Scalar.muli v8 c2048_i32_2296
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c1024_i32_6 : BitVec 32 := 1024#32
  let v14 : BitVec 32 := Scalar.muli v13 c1024_i32_6
  let v2957 : BitVec 32 := Scalar.addi v2956 v14
  let v2958 : Index := Scalar.indexCast v2957
  let c0_2297 : Index := 0#32
  ![v2958.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2966 : BitVec 32 := Scalar.extui v2962
  let c0_i32_2316 : BitVec 32 := 0#32
  let v2967 : BitVec 1 := Scalar.cmpi .ne v2966 c0_i32_2316
  v2967

def k0_off21 (d0 : Dev nD) : Fin 2 → Nat :=
  let c3_i32_1075 : BitVec 32 := 3#32
  let c0_i32_1074 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1068 : BitVec 32 := 1#32
  let v1435 : BitVec 32 := Scalar.addi v8 c1_i32_1068
  let c0_i32_1069 : BitVec 32 := 0#32
  let v1436 : BitVec 32 := Scalar.addi v1435 c0_i32_1069
  let v1442 : BitVec 32 := Scalar.maxsi c0_i32_1074 v1436
  let v1443 : BitVec 32 := Scalar.minsi c3_i32_1075 v1442
  let c2048_i32_1076 : BitVec 32 := 2048#32
  let v1444 : BitVec 32 := Scalar.muli v1443 c2048_i32_1076
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1445 : BitVec 32 := Scalar.addi v1444 v12
  let c0_i32_1077 : BitVec 32 := 0#32
  let v1446 : BitVec 32 := Scalar.addi v1445 c0_i32_1077
  let c0_i32_3540 : BitVec 32 := 0#32
  ![v1446.toNat, 0]
def k0_off22 (d0 : Dev nD) : Fin 2 → Nat :=
  let c3_i32_511 : BitVec 32 := 3#32
  let c0_i32_510 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_498 : BitVec 32 := 1#32
  let v629 : BitVec 32 := Scalar.addi v8 c1_i32_498
  let c0_i32_499 : BitVec 32 := 0#32
  let v630 : BitVec 32 := Scalar.addi v629 c0_i32_499
  let c4_i32_500 : BitVec 32 := 4#32
  let c0_i32_501 : BitVec 32 := 0#32
  let v631 : BitVec 1 := Scalar.cmpi .eq c4_i32_500 c0_i32_501
  let c1_i32_502 : BitVec 32 := 1#32
  let v632 : BitVec 32 := Scalar.select v631 c1_i32_502 c4_i32_500
  let v633 : BitVec 32 := Scalar.remsi v630 v632
  let c0_i32_504 : BitVec 32 := 0#32
  let v635 : BitVec 1 := Scalar.cmpi .slt v633 c0_i32_504
  let c0_i32_505 : BitVec 32 := 0#32
  let v636 : BitVec 1 := Scalar.cmpi .slt v632 c0_i32_505
  let v637 : BitVec 1 := Scalar.xori v635 v636
  let c0_i32_503 : BitVec 32 := 0#32
  let v634 : BitVec 1 := Scalar.cmpi .ne v633 c0_i32_503
  let v638 : BitVec 1 := Scalar.andi v637 v634
  let v639 : BitVec 32 := Scalar.addi v633 v632
  let v640 : BitVec 32 := Scalar.select v638 v639 v633
  let v646 : BitVec 32 := Scalar.maxsi c0_i32_510 v640
  let v647 : BitVec 32 := Scalar.minsi c3_i32_511 v646
  let c2048_i32_512 : BitVec 32 := 2048#32
  let v648 : BitVec 32 := Scalar.muli v647 c2048_i32_512
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v649 : BitVec 32 := Scalar.addi v648 v12
  let c0_i32_513 : BitVec 32 := 0#32
  let v650 : BitVec 32 := Scalar.addi v649 c0_i32_513
  let c0_i32_3546 : BitVec 32 := 0#32
  ![v650.toNat, 0]
def k0_dev20 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off23 (d0 : Dev nD) : Fin 2 → Nat :=
  let c3_i32_97 : BitVec 32 := 3#32
  let c0_i32_96 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v138 : BitVec 32 := Scalar.addi v8 c1_i32_91
  let v144 : BitVec 32 := Scalar.maxsi c0_i32_96 v138
  let v145 : BitVec 32 := Scalar.minsi c3_i32_97 v144
  let c2048_i32_98 : BitVec 32 := 2048#32
  let v146 : BitVec 32 := Scalar.muli v145 c2048_i32_98
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v147 : BitVec 32 := Scalar.addi v146 v12
  let c0_i32_99 : BitVec 32 := 0#32
  let v148 : BitVec 32 := Scalar.addi v147 c0_i32_99
  let c0_i32_3553 : BitVec 32 := 0#32
  ![v148.toNat, 0]
def k0_dev21 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2968 : BitVec 32 := Scalar.extui v2965
  let c0_i32_2329 : BitVec 32 := 0#32
  let v2969 : BitVec 1 := Scalar.cmpi .ne v2968 c0_i32_2329
  v2969

def k0_off24 (d0 : Dev nD) : Fin 2 → Nat :=
  let c3_i32_1363 : BitVec 32 := 3#32
  let c0_i32_1362 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1356 : BitVec 32 := 1#32
  let v1771 : BitVec 32 := Scalar.subi v8 c1_i32_1356
  let c0_i32_1357 : BitVec 32 := 0#32
  let v1772 : BitVec 32 := Scalar.subi v1771 c0_i32_1357
  let v1778 : BitVec 32 := Scalar.maxsi c0_i32_1362 v1772
  let v1779 : BitVec 32 := Scalar.minsi c3_i32_1363 v1778
  let c2048_i32_1364 : BitVec 32 := 2048#32
  let v1780 : BitVec 32 := Scalar.muli v1779 c2048_i32_1364
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1781 : BitVec 32 := Scalar.addi v1780 v12
  let c0_i32_1365 : BitVec 32 := 0#32
  let v1782 : BitVec 32 := Scalar.addi v1781 c0_i32_1365
  let c0_i32_3540 : BitVec 32 := 0#32
  ![v1782.toNat, 0]
def k0_off25 (d0 : Dev nD) : Fin 2 → Nat :=
  let c3_i32_895 : BitVec 32 := 3#32
  let c0_i32_894 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v1173 : BitVec 32 := Scalar.addi v8 c1_i32_882
  let c2_i32_883 : BitVec 32 := 2#32
  let v1174 : BitVec 32 := Scalar.addi v1173 c2_i32_883
  let c4_i32_884 : BitVec 32 := 4#32
  let c0_i32_885 : BitVec 32 := 0#32
  let v1175 : BitVec 1 := Scalar.cmpi .eq c4_i32_884 c0_i32_885
  let c1_i32_886 : BitVec 32 := 1#32
  let v1176 : BitVec 32 := Scalar.select v1175 c1_i32_886 c4_i32_884
  let v1177 : BitVec 32 := Scalar.remsi v1174 v1176
  let c0_i32_888 : BitVec 32 := 0#32
  let v1179 : BitVec 1 := Scalar.cmpi .slt v1177 c0_i32_888
  let c0_i32_889 : BitVec 32 := 0#32
  let v1180 : BitVec 1 := Scalar.cmpi .slt v1176 c0_i32_889
  let v1181 : BitVec 1 := Scalar.xori v1179 v1180
  let c0_i32_887 : BitVec 32 := 0#32
  let v1178 : BitVec 1 := Scalar.cmpi .ne v1177 c0_i32_887
  let v1182 : BitVec 1 := Scalar.andi v1181 v1178
  let v1183 : BitVec 32 := Scalar.addi v1177 v1176
  let v1184 : BitVec 32 := Scalar.select v1182 v1183 v1177
  let v1190 : BitVec 32 := Scalar.maxsi c0_i32_894 v1184
  let v1191 : BitVec 32 := Scalar.minsi c3_i32_895 v1190
  let c2048_i32_896 : BitVec 32 := 2048#32
  let v1192 : BitVec 32 := Scalar.muli v1191 c2048_i32_896
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1193 : BitVec 32 := Scalar.addi v1192 v12
  let c0_i32_897 : BitVec 32 := 0#32
  let v1194 : BitVec 32 := Scalar.addi v1193 c0_i32_897
  let c0_i32_3546 : BitVec 32 := 0#32
  ![v1194.toNat, 0]
def k0_dev22 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off26 (d0 : Dev nD) : Fin 2 → Nat :=
  let c3_i32_337 : BitVec 32 := 3#32
  let c0_i32_336 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v426 : BitVec 32 := Scalar.subi v8 c1_i32_331
  let v432 : BitVec 32 := Scalar.maxsi c0_i32_336 v426
  let v433 : BitVec 32 := Scalar.minsi c3_i32_337 v432
  let c2048_i32_338 : BitVec 32 := 2048#32
  let v434 : BitVec 32 := Scalar.muli v433 c2048_i32_338
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v435 : BitVec 32 := Scalar.addi v434 v12
  let c0_i32_339 : BitVec 32 := 0#32
  let v436 : BitVec 32 := Scalar.addi v435 c0_i32_339
  let c0_i32_3553 : BitVec 32 := 0#32
  ![v436.toNat, 0]
def k0_dev23 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2970 : BitVec 32 := Scalar.extui v2962
  let c0_i32_2342 : BitVec 32 := 0#32
  let v2971 : BitVec 1 := Scalar.cmpi .ne v2970 c0_i32_2342
  v2971

def k0_off27 (d0 : Dev nD) : Fin 2 → Nat :=
  let c3_i32_1087 : BitVec 32 := 3#32
  let c0_i32_1086 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1080 : BitVec 32 := 1#32
  let v1449 : BitVec 32 := Scalar.addi v8 c1_i32_1080
  let c0_i32_1081 : BitVec 32 := 0#32
  let v1450 : BitVec 32 := Scalar.addi v1449 c0_i32_1081
  let v1456 : BitVec 32 := Scalar.maxsi c0_i32_1086 v1450
  let v1457 : BitVec 32 := Scalar.minsi c3_i32_1087 v1456
  let c2048_i32_1088 : BitVec 32 := 2048#32
  let v1458 : BitVec 32 := Scalar.muli v1457 c2048_i32_1088
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1459 : BitVec 32 := Scalar.addi v1458 v12
  let c128_i32_1089 : BitVec 32 := 128#32
  let v1460 : BitVec 32 := Scalar.addi v1459 c128_i32_1089
  let c0_i32_3540 : BitVec 32 := 0#32
  ![v1460.toNat, 0]
def k0_off28 (d0 : Dev nD) : Fin 2 → Nat :=
  let c3_i32_535 : BitVec 32 := 3#32
  let c0_i32_534 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_522 : BitVec 32 := 1#32
  let v663 : BitVec 32 := Scalar.addi v8 c1_i32_522
  let c0_i32_523 : BitVec 32 := 0#32
  let v664 : BitVec 32 := Scalar.addi v663 c0_i32_523
  let c4_i32_524 : BitVec 32 := 4#32
  let c0_i32_525 : BitVec 32 := 0#32
  let v665 : BitVec 1 := Scalar.cmpi .eq c4_i32_524 c0_i32_525
  let c1_i32_526 : BitVec 32 := 1#32
  let v666 : BitVec 32 := Scalar.select v665 c1_i32_526 c4_i32_524
  let v667 : BitVec 32 := Scalar.remsi v664 v666
  let c0_i32_528 : BitVec 32 := 0#32
  let v669 : BitVec 1 := Scalar.cmpi .slt v667 c0_i32_528
  let c0_i32_529 : BitVec 32 := 0#32
  let v670 : BitVec 1 := Scalar.cmpi .slt v666 c0_i32_529
  let v671 : BitVec 1 := Scalar.xori v669 v670
  let c0_i32_527 : BitVec 32 := 0#32
  let v668 : BitVec 1 := Scalar.cmpi .ne v667 c0_i32_527
  let v672 : BitVec 1 := Scalar.andi v671 v668
  let v673 : BitVec 32 := Scalar.addi v667 v666
  let v674 : BitVec 32 := Scalar.select v672 v673 v667
  let v680 : BitVec 32 := Scalar.maxsi c0_i32_534 v674
  let v681 : BitVec 32 := Scalar.minsi c3_i32_535 v680
  let c2048_i32_536 : BitVec 32 := 2048#32
  let v682 : BitVec 32 := Scalar.muli v681 c2048_i32_536
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v683 : BitVec 32 := Scalar.addi v682 v12
  let c128_i32_537 : BitVec 32 := 128#32
  let v684 : BitVec 32 := Scalar.addi v683 c128_i32_537
  let c0_i32_3546 : BitVec 32 := 0#32
  ![v684.toNat, 0]
def k0_dev24 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off29 (d0 : Dev nD) : Fin 2 → Nat :=
  let c3_i32_107 : BitVec 32 := 3#32
  let c0_i32_106 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v150 : BitVec 32 := Scalar.addi v8 c1_i32_101
  let v156 : BitVec 32 := Scalar.maxsi c0_i32_106 v150
  let v157 : BitVec 32 := Scalar.minsi c3_i32_107 v156
  let c2048_i32_108 : BitVec 32 := 2048#32
  let v158 : BitVec 32 := Scalar.muli v157 c2048_i32_108
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v159 : BitVec 32 := Scalar.addi v158 v12
  let c128_i32_109 : BitVec 32 := 128#32
  let v160 : BitVec 32 := Scalar.addi v159 c128_i32_109
  let c0_i32_3553 : BitVec 32 := 0#32
  ![v160.toNat, 0]
def k0_dev25 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2972 : BitVec 32 := Scalar.extui v2965
  let c0_i32_2355 : BitVec 32 := 0#32
  let v2973 : BitVec 1 := Scalar.cmpi .ne v2972 c0_i32_2355
  v2973

def k0_off30 (d0 : Dev nD) : Fin 2 → Nat :=
  let c3_i32_1375 : BitVec 32 := 3#32
  let c0_i32_1374 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1368 : BitVec 32 := 1#32
  let v1785 : BitVec 32 := Scalar.subi v8 c1_i32_1368
  let c0_i32_1369 : BitVec 32 := 0#32
  let v1786 : BitVec 32 := Scalar.subi v1785 c0_i32_1369
  let v1792 : BitVec 32 := Scalar.maxsi c0_i32_1374 v1786
  let v1793 : BitVec 32 := Scalar.minsi c3_i32_1375 v1792
  let c2048_i32_1376 : BitVec 32 := 2048#32
  let v1794 : BitVec 32 := Scalar.muli v1793 c2048_i32_1376
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1795 : BitVec 32 := Scalar.addi v1794 v12
  let c128_i32_1377 : BitVec 32 := 128#32
  let v1796 : BitVec 32 := Scalar.addi v1795 c128_i32_1377
  let c0_i32_3540 : BitVec 32 := 0#32
  ![v1796.toNat, 0]
def k0_off31 (d0 : Dev nD) : Fin 2 → Nat :=
  let c3_i32_919 : BitVec 32 := 3#32
  let c0_i32_918 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v1207 : BitVec 32 := Scalar.addi v8 c1_i32_906
  let c2_i32_907 : BitVec 32 := 2#32
  let v1208 : BitVec 32 := Scalar.addi v1207 c2_i32_907
  let c4_i32_908 : BitVec 32 := 4#32
  let c0_i32_909 : BitVec 32 := 0#32
  let v1209 : BitVec 1 := Scalar.cmpi .eq c4_i32_908 c0_i32_909
  let c1_i32_910 : BitVec 32 := 1#32
  let v1210 : BitVec 32 := Scalar.select v1209 c1_i32_910 c4_i32_908
  let v1211 : BitVec 32 := Scalar.remsi v1208 v1210
  let c0_i32_912 : BitVec 32 := 0#32
  let v1213 : BitVec 1 := Scalar.cmpi .slt v1211 c0_i32_912
  let c0_i32_913 : BitVec 32 := 0#32
  let v1214 : BitVec 1 := Scalar.cmpi .slt v1210 c0_i32_913
  let v1215 : BitVec 1 := Scalar.xori v1213 v1214
  let c0_i32_911 : BitVec 32 := 0#32
  let v1212 : BitVec 1 := Scalar.cmpi .ne v1211 c0_i32_911
  let v1216 : BitVec 1 := Scalar.andi v1215 v1212
  let v1217 : BitVec 32 := Scalar.addi v1211 v1210
  let v1218 : BitVec 32 := Scalar.select v1216 v1217 v1211
  let v1224 : BitVec 32 := Scalar.maxsi c0_i32_918 v1218
  let v1225 : BitVec 32 := Scalar.minsi c3_i32_919 v1224
  let c2048_i32_920 : BitVec 32 := 2048#32
  let v1226 : BitVec 32 := Scalar.muli v1225 c2048_i32_920
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1227 : BitVec 32 := Scalar.addi v1226 v12
  let c128_i32_921 : BitVec 32 := 128#32
  let v1228 : BitVec 32 := Scalar.addi v1227 c128_i32_921
  let c0_i32_3546 : BitVec 32 := 0#32
  ![v1228.toNat, 0]
def k0_dev26 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off32 (d0 : Dev nD) : Fin 2 → Nat :=
  let c3_i32_347 : BitVec 32 := 3#32
  let c0_i32_346 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v438 : BitVec 32 := Scalar.subi v8 c1_i32_341
  let v444 : BitVec 32 := Scalar.maxsi c0_i32_346 v438
  let v445 : BitVec 32 := Scalar.minsi c3_i32_347 v444
  let c2048_i32_348 : BitVec 32 := 2048#32
  let v446 : BitVec 32 := Scalar.muli v445 c2048_i32_348
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v447 : BitVec 32 := Scalar.addi v446 v12
  let c128_i32_349 : BitVec 32 := 128#32
  let v448 : BitVec 32 := Scalar.addi v447 c128_i32_349
  let c0_i32_3553 : BitVec 32 := 0#32
  ![v448.toNat, 0]
def k0_dev27 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2974 : BitVec 32 := Scalar.extui v2962
  let c0_i32_2368 : BitVec 32 := 0#32
  let v2975 : BitVec 1 := Scalar.cmpi .ne v2974 c0_i32_2368
  v2975

def k0_off33 (d0 : Dev nD) : Fin 2 → Nat :=
  let c3_i32_1099 : BitVec 32 := 3#32
  let c0_i32_1098 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1092 : BitVec 32 := 1#32
  let v1463 : BitVec 32 := Scalar.addi v8 c1_i32_1092
  let c0_i32_1093 : BitVec 32 := 0#32
  let v1464 : BitVec 32 := Scalar.addi v1463 c0_i32_1093
  let v1470 : BitVec 32 := Scalar.maxsi c0_i32_1098 v1464
  let v1471 : BitVec 32 := Scalar.minsi c3_i32_1099 v1470
  let c2048_i32_1100 : BitVec 32 := 2048#32
  let v1472 : BitVec 32 := Scalar.muli v1471 c2048_i32_1100
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1473 : BitVec 32 := Scalar.addi v1472 v12
  let c256_i32_1101 : BitVec 32 := 256#32
  let v1474 : BitVec 32 := Scalar.addi v1473 c256_i32_1101
  let c0_i32_3540 : BitVec 32 := 0#32
  ![v1474.toNat, 0]
def k0_off34 (d0 : Dev nD) : Fin 2 → Nat :=
  let c3_i32_559 : BitVec 32 := 3#32
  let c0_i32_558 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v697 : BitVec 32 := Scalar.addi v8 c1_i32_546
  let c0_i32_547 : BitVec 32 := 0#32
  let v698 : BitVec 32 := Scalar.addi v697 c0_i32_547
  let c4_i32_548 : BitVec 32 := 4#32
  let c0_i32_549 : BitVec 32 := 0#32
  let v699 : BitVec 1 := Scalar.cmpi .eq c4_i32_548 c0_i32_549
  let c1_i32_550 : BitVec 32 := 1#32
  let v700 : BitVec 32 := Scalar.select v699 c1_i32_550 c4_i32_548
  let v701 : BitVec 32 := Scalar.remsi v698 v700
  let c0_i32_552 : BitVec 32 := 0#32
  let v703 : BitVec 1 := Scalar.cmpi .slt v701 c0_i32_552
  let c0_i32_553 : BitVec 32 := 0#32
  let v704 : BitVec 1 := Scalar.cmpi .slt v700 c0_i32_553
  let v705 : BitVec 1 := Scalar.xori v703 v704
  let c0_i32_551 : BitVec 32 := 0#32
  let v702 : BitVec 1 := Scalar.cmpi .ne v701 c0_i32_551
  let v706 : BitVec 1 := Scalar.andi v705 v702
  let v707 : BitVec 32 := Scalar.addi v701 v700
  let v708 : BitVec 32 := Scalar.select v706 v707 v701
  let v714 : BitVec 32 := Scalar.maxsi c0_i32_558 v708
  let v715 : BitVec 32 := Scalar.minsi c3_i32_559 v714
  let c2048_i32_560 : BitVec 32 := 2048#32
  let v716 : BitVec 32 := Scalar.muli v715 c2048_i32_560
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v717 : BitVec 32 := Scalar.addi v716 v12
  let c256_i32_561 : BitVec 32 := 256#32
  let v718 : BitVec 32 := Scalar.addi v717 c256_i32_561
  let c0_i32_3546 : BitVec 32 := 0#32
  ![v718.toNat, 0]
def k0_dev28 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off35 (d0 : Dev nD) : Fin 2 → Nat :=
  let c3_i32_117 : BitVec 32 := 3#32
  let c0_i32_116 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v162 : BitVec 32 := Scalar.addi v8 c1_i32_111
  let v168 : BitVec 32 := Scalar.maxsi c0_i32_116 v162
  let v169 : BitVec 32 := Scalar.minsi c3_i32_117 v168
  let c2048_i32_118 : BitVec 32 := 2048#32
  let v170 : BitVec 32 := Scalar.muli v169 c2048_i32_118
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v171 : BitVec 32 := Scalar.addi v170 v12
  let c256_i32_119 : BitVec 32 := 256#32
  let v172 : BitVec 32 := Scalar.addi v171 c256_i32_119
  let c0_i32_3553 : BitVec 32 := 0#32
  ![v172.toNat, 0]
def k0_dev29 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2976 : BitVec 32 := Scalar.extui v2965
  let c0_i32_2381 : BitVec 32 := 0#32
  let v2977 : BitVec 1 := Scalar.cmpi .ne v2976 c0_i32_2381
  v2977

def k0_off36 (d0 : Dev nD) : Fin 2 → Nat :=
  let c3_i32_1387 : BitVec 32 := 3#32
  let c0_i32_1386 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1380 : BitVec 32 := 1#32
  let v1799 : BitVec 32 := Scalar.subi v8 c1_i32_1380
  let c0_i32_1381 : BitVec 32 := 0#32
  let v1800 : BitVec 32 := Scalar.subi v1799 c0_i32_1381
  let v1806 : BitVec 32 := Scalar.maxsi c0_i32_1386 v1800
  let v1807 : BitVec 32 := Scalar.minsi c3_i32_1387 v1806
  let c2048_i32_1388 : BitVec 32 := 2048#32
  let v1808 : BitVec 32 := Scalar.muli v1807 c2048_i32_1388
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1809 : BitVec 32 := Scalar.addi v1808 v12
  let c256_i32_1389 : BitVec 32 := 256#32
  let v1810 : BitVec 32 := Scalar.addi v1809 c256_i32_1389
  let c0_i32_3540 : BitVec 32 := 0#32
  ![v1810.toNat, 0]
def k0_off37 (d0 : Dev nD) : Fin 2 → Nat :=
  let c3_i32_943 : BitVec 32 := 3#32
  let c0_i32_942 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_930 : BitVec 32 := 1#32
  let v1241 : BitVec 32 := Scalar.addi v8 c1_i32_930
  let c2_i32_931 : BitVec 32 := 2#32
  let v1242 : BitVec 32 := Scalar.addi v1241 c2_i32_931
  let c4_i32_932 : BitVec 32 := 4#32
  let c0_i32_933 : BitVec 32 := 0#32
  let v1243 : BitVec 1 := Scalar.cmpi .eq c4_i32_932 c0_i32_933
  let c1_i32_934 : BitVec 32 := 1#32
  let v1244 : BitVec 32 := Scalar.select v1243 c1_i32_934 c4_i32_932
  let v1245 : BitVec 32 := Scalar.remsi v1242 v1244
  let c0_i32_936 : BitVec 32 := 0#32
  let v1247 : BitVec 1 := Scalar.cmpi .slt v1245 c0_i32_936
  let c0_i32_937 : BitVec 32 := 0#32
  let v1248 : BitVec 1 := Scalar.cmpi .slt v1244 c0_i32_937
  let v1249 : BitVec 1 := Scalar.xori v1247 v1248
  let c0_i32_935 : BitVec 32 := 0#32
  let v1246 : BitVec 1 := Scalar.cmpi .ne v1245 c0_i32_935
  let v1250 : BitVec 1 := Scalar.andi v1249 v1246
  let v1251 : BitVec 32 := Scalar.addi v1245 v1244
  let v1252 : BitVec 32 := Scalar.select v1250 v1251 v1245
  let v1258 : BitVec 32 := Scalar.maxsi c0_i32_942 v1252
  let v1259 : BitVec 32 := Scalar.minsi c3_i32_943 v1258
  let c2048_i32_944 : BitVec 32 := 2048#32
  let v1260 : BitVec 32 := Scalar.muli v1259 c2048_i32_944
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1261 : BitVec 32 := Scalar.addi v1260 v12
  let c256_i32_945 : BitVec 32 := 256#32
  let v1262 : BitVec 32 := Scalar.addi v1261 c256_i32_945
  let c0_i32_3546 : BitVec 32 := 0#32
  ![v1262.toNat, 0]
def k0_dev30 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off38 (d0 : Dev nD) : Fin 2 → Nat :=
  let c3_i32_357 : BitVec 32 := 3#32
  let c0_i32_356 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_351 : BitVec 32 := 1#32
  let v450 : BitVec 32 := Scalar.subi v8 c1_i32_351
  let v456 : BitVec 32 := Scalar.maxsi c0_i32_356 v450
  let v457 : BitVec 32 := Scalar.minsi c3_i32_357 v456
  let c2048_i32_358 : BitVec 32 := 2048#32
  let v458 : BitVec 32 := Scalar.muli v457 c2048_i32_358
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v459 : BitVec 32 := Scalar.addi v458 v12
  let c256_i32_359 : BitVec 32 := 256#32
  let v460 : BitVec 32 := Scalar.addi v459 c256_i32_359
  let c0_i32_3553 : BitVec 32 := 0#32
  ![v460.toNat, 0]
def k0_dev31 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2978 : BitVec 32 := Scalar.extui v2962
  let c0_i32_2394 : BitVec 32 := 0#32
  let v2979 : BitVec 1 := Scalar.cmpi .ne v2978 c0_i32_2394
  v2979

def k0_off39 (d0 : Dev nD) : Fin 2 → Nat :=
  let c3_i32_1111 : BitVec 32 := 3#32
  let c0_i32_1110 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1104 : BitVec 32 := 1#32
  let v1477 : BitVec 32 := Scalar.addi v8 c1_i32_1104
  let c0_i32_1105 : BitVec 32 := 0#32
  let v1478 : BitVec 32 := Scalar.addi v1477 c0_i32_1105
  let v1484 : BitVec 32 := Scalar.maxsi c0_i32_1110 v1478
  let v1485 : BitVec 32 := Scalar.minsi c3_i32_1111 v1484
  let c2048_i32_1112 : BitVec 32 := 2048#32
  let v1486 : BitVec 32 := Scalar.muli v1485 c2048_i32_1112
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1487 : BitVec 32 := Scalar.addi v1486 v12
  let c384_i32_1113 : BitVec 32 := 384#32
  let v1488 : BitVec 32 := Scalar.addi v1487 c384_i32_1113
  let c0_i32_3540 : BitVec 32 := 0#32
  ![v1488.toNat, 0]
def k0_off40 (d0 : Dev nD) : Fin 2 → Nat :=
  let c3_i32_583 : BitVec 32 := 3#32
  let c0_i32_582 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v731 : BitVec 32 := Scalar.addi v8 c1_i32_570
  let c0_i32_571 : BitVec 32 := 0#32
  let v732 : BitVec 32 := Scalar.addi v731 c0_i32_571
  let c4_i32_572 : BitVec 32 := 4#32
  let c0_i32_573 : BitVec 32 := 0#32
  let v733 : BitVec 1 := Scalar.cmpi .eq c4_i32_572 c0_i32_573
  let c1_i32_574 : BitVec 32 := 1#32
  let v734 : BitVec 32 := Scalar.select v733 c1_i32_574 c4_i32_572
  let v735 : BitVec 32 := Scalar.remsi v732 v734
  let c0_i32_576 : BitVec 32 := 0#32
  let v737 : BitVec 1 := Scalar.cmpi .slt v735 c0_i32_576
  let c0_i32_577 : BitVec 32 := 0#32
  let v738 : BitVec 1 := Scalar.cmpi .slt v734 c0_i32_577
  let v739 : BitVec 1 := Scalar.xori v737 v738
  let c0_i32_575 : BitVec 32 := 0#32
  let v736 : BitVec 1 := Scalar.cmpi .ne v735 c0_i32_575
  let v740 : BitVec 1 := Scalar.andi v739 v736
  let v741 : BitVec 32 := Scalar.addi v735 v734
  let v742 : BitVec 32 := Scalar.select v740 v741 v735
  let v748 : BitVec 32 := Scalar.maxsi c0_i32_582 v742
  let v749 : BitVec 32 := Scalar.minsi c3_i32_583 v748
  let c2048_i32_584 : BitVec 32 := 2048#32
  let v750 : BitVec 32 := Scalar.muli v749 c2048_i32_584
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v751 : BitVec 32 := Scalar.addi v750 v12
  let c384_i32_585 : BitVec 32 := 384#32
  let v752 : BitVec 32 := Scalar.addi v751 c384_i32_585
  let c0_i32_3546 : BitVec 32 := 0#32
  ![v752.toNat, 0]
def k0_dev32 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off41 (d0 : Dev nD) : Fin 2 → Nat :=
  let c3_i32_127 : BitVec 32 := 3#32
  let c0_i32_126 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v174 : BitVec 32 := Scalar.addi v8 c1_i32_121
  let v180 : BitVec 32 := Scalar.maxsi c0_i32_126 v174
  let v181 : BitVec 32 := Scalar.minsi c3_i32_127 v180
  let c2048_i32_128 : BitVec 32 := 2048#32
  let v182 : BitVec 32 := Scalar.muli v181 c2048_i32_128
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v183 : BitVec 32 := Scalar.addi v182 v12
  let c384_i32_129 : BitVec 32 := 384#32
  let v184 : BitVec 32 := Scalar.addi v183 c384_i32_129
  let c0_i32_3553 : BitVec 32 := 0#32
  ![v184.toNat, 0]
def k0_dev33 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2980 : BitVec 32 := Scalar.extui v2965
  let c0_i32_2407 : BitVec 32 := 0#32
  let v2981 : BitVec 1 := Scalar.cmpi .ne v2980 c0_i32_2407
  v2981

def k0_off42 (d0 : Dev nD) : Fin 2 → Nat :=
  let c3_i32_1399 : BitVec 32 := 3#32
  let c0_i32_1398 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1392 : BitVec 32 := 1#32
  let v1813 : BitVec 32 := Scalar.subi v8 c1_i32_1392
  let c0_i32_1393 : BitVec 32 := 0#32
  let v1814 : BitVec 32 := Scalar.subi v1813 c0_i32_1393
  let v1820 : BitVec 32 := Scalar.maxsi c0_i32_1398 v1814
  let v1821 : BitVec 32 := Scalar.minsi c3_i32_1399 v1820
  let c2048_i32_1400 : BitVec 32 := 2048#32
  let v1822 : BitVec 32 := Scalar.muli v1821 c2048_i32_1400
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1823 : BitVec 32 := Scalar.addi v1822 v12
  let c384_i32_1401 : BitVec 32 := 384#32
  let v1824 : BitVec 32 := Scalar.addi v1823 c384_i32_1401
  let c0_i32_3540 : BitVec 32 := 0#32
  ![v1824.toNat, 0]
def k0_off43 (d0 : Dev nD) : Fin 2 → Nat :=
  let c3_i32_967 : BitVec 32 := 3#32
  let c0_i32_966 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_954 : BitVec 32 := 1#32
  let v1275 : BitVec 32 := Scalar.addi v8 c1_i32_954
  let c2_i32_955 : BitVec 32 := 2#32
  let v1276 : BitVec 32 := Scalar.addi v1275 c2_i32_955
  let c4_i32_956 : BitVec 32 := 4#32
  let c0_i32_957 : BitVec 32 := 0#32
  let v1277 : BitVec 1 := Scalar.cmpi .eq c4_i32_956 c0_i32_957
  let c1_i32_958 : BitVec 32 := 1#32
  let v1278 : BitVec 32 := Scalar.select v1277 c1_i32_958 c4_i32_956
  let v1279 : BitVec 32 := Scalar.remsi v1276 v1278
  let c0_i32_960 : BitVec 32 := 0#32
  let v1281 : BitVec 1 := Scalar.cmpi .slt v1279 c0_i32_960
  let c0_i32_961 : BitVec 32 := 0#32
  let v1282 : BitVec 1 := Scalar.cmpi .slt v1278 c0_i32_961
  let v1283 : BitVec 1 := Scalar.xori v1281 v1282
  let c0_i32_959 : BitVec 32 := 0#32
  let v1280 : BitVec 1 := Scalar.cmpi .ne v1279 c0_i32_959
  let v1284 : BitVec 1 := Scalar.andi v1283 v1280
  let v1285 : BitVec 32 := Scalar.addi v1279 v1278
  let v1286 : BitVec 32 := Scalar.select v1284 v1285 v1279
  let v1292 : BitVec 32 := Scalar.maxsi c0_i32_966 v1286
  let v1293 : BitVec 32 := Scalar.minsi c3_i32_967 v1292
  let c2048_i32_968 : BitVec 32 := 2048#32
  let v1294 : BitVec 32 := Scalar.muli v1293 c2048_i32_968
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1295 : BitVec 32 := Scalar.addi v1294 v12
  let c384_i32_969 : BitVec 32 := 384#32
  let v1296 : BitVec 32 := Scalar.addi v1295 c384_i32_969
  let c0_i32_3546 : BitVec 32 := 0#32
  ![v1296.toNat, 0]
def k0_dev34 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off44 (d0 : Dev nD) : Fin 2 → Nat :=
  let c3_i32_367 : BitVec 32 := 3#32
  let c0_i32_366 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_361 : BitVec 32 := 1#32
  let v462 : BitVec 32 := Scalar.subi v8 c1_i32_361
  let v468 : BitVec 32 := Scalar.maxsi c0_i32_366 v462
  let v469 : BitVec 32 := Scalar.minsi c3_i32_367 v468
  let c2048_i32_368 : BitVec 32 := 2048#32
  let v470 : BitVec 32 := Scalar.muli v469 c2048_i32_368
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v471 : BitVec 32 := Scalar.addi v470 v12
  let c384_i32_369 : BitVec 32 := 384#32
  let v472 : BitVec 32 := Scalar.addi v471 c384_i32_369
  let c0_i32_3553 : BitVec 32 := 0#32
  ![v472.toNat, 0]
def k0_dev35 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2982 : BitVec 32 := Scalar.extui v2962
  let c0_i32_2420 : BitVec 32 := 0#32
  let v2983 : BitVec 1 := Scalar.cmpi .ne v2982 c0_i32_2420
  v2983

def k0_off45 (d0 : Dev nD) : Fin 2 → Nat :=
  let c3_i32_1123 : BitVec 32 := 3#32
  let c0_i32_1122 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1116 : BitVec 32 := 1#32
  let v1491 : BitVec 32 := Scalar.addi v8 c1_i32_1116
  let c0_i32_1117 : BitVec 32 := 0#32
  let v1492 : BitVec 32 := Scalar.addi v1491 c0_i32_1117
  let v1498 : BitVec 32 := Scalar.maxsi c0_i32_1122 v1492
  let v1499 : BitVec 32 := Scalar.minsi c3_i32_1123 v1498
  let c2048_i32_1124 : BitVec 32 := 2048#32
  let v1500 : BitVec 32 := Scalar.muli v1499 c2048_i32_1124
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1501 : BitVec 32 := Scalar.addi v1500 v12
  let c512_i32_1125 : BitVec 32 := 512#32
  let v1502 : BitVec 32 := Scalar.addi v1501 c512_i32_1125
  let c0_i32_3540 : BitVec 32 := 0#32
  ![v1502.toNat, 0]
def k0_off46 (d0 : Dev nD) : Fin 2 → Nat :=
  let c3_i32_607 : BitVec 32 := 3#32
  let c0_i32_606 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v765 : BitVec 32 := Scalar.addi v8 c1_i32_594
  let c0_i32_595 : BitVec 32 := 0#32
  let v766 : BitVec 32 := Scalar.addi v765 c0_i32_595
  let c4_i32_596 : BitVec 32 := 4#32
  let c0_i32_597 : BitVec 32 := 0#32
  let v767 : BitVec 1 := Scalar.cmpi .eq c4_i32_596 c0_i32_597
  let c1_i32_598 : BitVec 32 := 1#32
  let v768 : BitVec 32 := Scalar.select v767 c1_i32_598 c4_i32_596
  let v769 : BitVec 32 := Scalar.remsi v766 v768
  let c0_i32_600 : BitVec 32 := 0#32
  let v771 : BitVec 1 := Scalar.cmpi .slt v769 c0_i32_600
  let c0_i32_601 : BitVec 32 := 0#32
  let v772 : BitVec 1 := Scalar.cmpi .slt v768 c0_i32_601
  let v773 : BitVec 1 := Scalar.xori v771 v772
  let c0_i32_599 : BitVec 32 := 0#32
  let v770 : BitVec 1 := Scalar.cmpi .ne v769 c0_i32_599
  let v774 : BitVec 1 := Scalar.andi v773 v770
  let v775 : BitVec 32 := Scalar.addi v769 v768
  let v776 : BitVec 32 := Scalar.select v774 v775 v769
  let v782 : BitVec 32 := Scalar.maxsi c0_i32_606 v776
  let v783 : BitVec 32 := Scalar.minsi c3_i32_607 v782
  let c2048_i32_608 : BitVec 32 := 2048#32
  let v784 : BitVec 32 := Scalar.muli v783 c2048_i32_608
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v785 : BitVec 32 := Scalar.addi v784 v12
  let c512_i32_609 : BitVec 32 := 512#32
  let v786 : BitVec 32 := Scalar.addi v785 c512_i32_609
  let c0_i32_3546 : BitVec 32 := 0#32
  ![v786.toNat, 0]
def k0_dev36 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off47 (d0 : Dev nD) : Fin 2 → Nat :=
  let c3_i32_137 : BitVec 32 := 3#32
  let c0_i32_136 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v186 : BitVec 32 := Scalar.addi v8 c1_i32_131
  let v192 : BitVec 32 := Scalar.maxsi c0_i32_136 v186
  let v193 : BitVec 32 := Scalar.minsi c3_i32_137 v192
  let c2048_i32_138 : BitVec 32 := 2048#32
  let v194 : BitVec 32 := Scalar.muli v193 c2048_i32_138
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v195 : BitVec 32 := Scalar.addi v194 v12
  let c512_i32_139 : BitVec 32 := 512#32
  let v196 : BitVec 32 := Scalar.addi v195 c512_i32_139
  let c0_i32_3553 : BitVec 32 := 0#32
  ![v196.toNat, 0]
def k0_dev37 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2984 : BitVec 32 := Scalar.extui v2965
  let c0_i32_2433 : BitVec 32 := 0#32
  let v2985 : BitVec 1 := Scalar.cmpi .ne v2984 c0_i32_2433
  v2985

def k0_off48 (d0 : Dev nD) : Fin 2 → Nat :=
  let c3_i32_1411 : BitVec 32 := 3#32
  let c0_i32_1410 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1404 : BitVec 32 := 1#32
  let v1827 : BitVec 32 := Scalar.subi v8 c1_i32_1404
  let c0_i32_1405 : BitVec 32 := 0#32
  let v1828 : BitVec 32 := Scalar.subi v1827 c0_i32_1405
  let v1834 : BitVec 32 := Scalar.maxsi c0_i32_1410 v1828
  let v1835 : BitVec 32 := Scalar.minsi c3_i32_1411 v1834
  let c2048_i32_1412 : BitVec 32 := 2048#32
  let v1836 : BitVec 32 := Scalar.muli v1835 c2048_i32_1412
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1837 : BitVec 32 := Scalar.addi v1836 v12
  let c512_i32_1413 : BitVec 32 := 512#32
  let v1838 : BitVec 32 := Scalar.addi v1837 c512_i32_1413
  let c0_i32_3540 : BitVec 32 := 0#32
  ![v1838.toNat, 0]
def k0_off49 (d0 : Dev nD) : Fin 2 → Nat :=
  let c3_i32_991 : BitVec 32 := 3#32
  let c0_i32_990 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1309 : BitVec 32 := Scalar.addi v8 c1_i32_978
  let c2_i32_979 : BitVec 32 := 2#32
  let v1310 : BitVec 32 := Scalar.addi v1309 c2_i32_979
  let c4_i32_980 : BitVec 32 := 4#32
  let c0_i32_981 : BitVec 32 := 0#32
  let v1311 : BitVec 1 := Scalar.cmpi .eq c4_i32_980 c0_i32_981
  let c1_i32_982 : BitVec 32 := 1#32
  let v1312 : BitVec 32 := Scalar.select v1311 c1_i32_982 c4_i32_980
  let v1313 : BitVec 32 := Scalar.remsi v1310 v1312
  let c0_i32_984 : BitVec 32 := 0#32
  let v1315 : BitVec 1 := Scalar.cmpi .slt v1313 c0_i32_984
  let c0_i32_985 : BitVec 32 := 0#32
  let v1316 : BitVec 1 := Scalar.cmpi .slt v1312 c0_i32_985
  let v1317 : BitVec 1 := Scalar.xori v1315 v1316
  let c0_i32_983 : BitVec 32 := 0#32
  let v1314 : BitVec 1 := Scalar.cmpi .ne v1313 c0_i32_983
  let v1318 : BitVec 1 := Scalar.andi v1317 v1314
  let v1319 : BitVec 32 := Scalar.addi v1313 v1312
  let v1320 : BitVec 32 := Scalar.select v1318 v1319 v1313
  let v1326 : BitVec 32 := Scalar.maxsi c0_i32_990 v1320
  let v1327 : BitVec 32 := Scalar.minsi c3_i32_991 v1326
  let c2048_i32_992 : BitVec 32 := 2048#32
  let v1328 : BitVec 32 := Scalar.muli v1327 c2048_i32_992
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1329 : BitVec 32 := Scalar.addi v1328 v12
  let c512_i32_993 : BitVec 32 := 512#32
  let v1330 : BitVec 32 := Scalar.addi v1329 c512_i32_993
  let c0_i32_3546 : BitVec 32 := 0#32
  ![v1330.toNat, 0]
def k0_dev38 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off50 (d0 : Dev nD) : Fin 2 → Nat :=
  let c3_i32_377 : BitVec 32 := 3#32
  let c0_i32_376 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v474 : BitVec 32 := Scalar.subi v8 c1_i32_371
  let v480 : BitVec 32 := Scalar.maxsi c0_i32_376 v474
  let v481 : BitVec 32 := Scalar.minsi c3_i32_377 v480
  let c2048_i32_378 : BitVec 32 := 2048#32
  let v482 : BitVec 32 := Scalar.muli v481 c2048_i32_378
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v483 : BitVec 32 := Scalar.addi v482 v12
  let c512_i32_379 : BitVec 32 := 512#32
  let v484 : BitVec 32 := Scalar.addi v483 c512_i32_379
  let c0_i32_3553 : BitVec 32 := 0#32
  ![v484.toNat, 0]
def k0_dev39 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2986 : BitVec 32 := Scalar.extui v2962
  let c0_i32_2446 : BitVec 32 := 0#32
  let v2987 : BitVec 1 := Scalar.cmpi .ne v2986 c0_i32_2446
  v2987

def k0_off51 (d0 : Dev nD) : Fin 2 → Nat :=
  let c3_i32_1135 : BitVec 32 := 3#32
  let c0_i32_1134 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1128 : BitVec 32 := 1#32
  let v1505 : BitVec 32 := Scalar.addi v8 c1_i32_1128
  let c0_i32_1129 : BitVec 32 := 0#32
  let v1506 : BitVec 32 := Scalar.addi v1505 c0_i32_1129
  let v1512 : BitVec 32 := Scalar.maxsi c0_i32_1134 v1506
  let v1513 : BitVec 32 := Scalar.minsi c3_i32_1135 v1512
  let c2048_i32_1136 : BitVec 32 := 2048#32
  let v1514 : BitVec 32 := Scalar.muli v1513 c2048_i32_1136
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1515 : BitVec 32 := Scalar.addi v1514 v12
  let c640_i32_1137 : BitVec 32 := 640#32
  let v1516 : BitVec 32 := Scalar.addi v1515 c640_i32_1137
  let c0_i32_3540 : BitVec 32 := 0#32
  ![v1516.toNat, 0]
def k0_off52 (d0 : Dev nD) : Fin 2 → Nat :=
  let c3_i32_631 : BitVec 32 := 3#32
  let c0_i32_630 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_618 : BitVec 32 := 1#32
  let v799 : BitVec 32 := Scalar.addi v8 c1_i32_618
  let c0_i32_619 : BitVec 32 := 0#32
  let v800 : BitVec 32 := Scalar.addi v799 c0_i32_619
  let c4_i32_620 : BitVec 32 := 4#32
  let c0_i32_621 : BitVec 32 := 0#32
  let v801 : BitVec 1 := Scalar.cmpi .eq c4_i32_620 c0_i32_621
  let c1_i32_622 : BitVec 32 := 1#32
  let v802 : BitVec 32 := Scalar.select v801 c1_i32_622 c4_i32_620
  let v803 : BitVec 32 := Scalar.remsi v800 v802
  let c0_i32_624 : BitVec 32 := 0#32
  let v805 : BitVec 1 := Scalar.cmpi .slt v803 c0_i32_624
  let c0_i32_625 : BitVec 32 := 0#32
  let v806 : BitVec 1 := Scalar.cmpi .slt v802 c0_i32_625
  let v807 : BitVec 1 := Scalar.xori v805 v806
  let c0_i32_623 : BitVec 32 := 0#32
  let v804 : BitVec 1 := Scalar.cmpi .ne v803 c0_i32_623
  let v808 : BitVec 1 := Scalar.andi v807 v804
  let v809 : BitVec 32 := Scalar.addi v803 v802
  let v810 : BitVec 32 := Scalar.select v808 v809 v803
  let v816 : BitVec 32 := Scalar.maxsi c0_i32_630 v810
  let v817 : BitVec 32 := Scalar.minsi c3_i32_631 v816
  let c2048_i32_632 : BitVec 32 := 2048#32
  let v818 : BitVec 32 := Scalar.muli v817 c2048_i32_632
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v819 : BitVec 32 := Scalar.addi v818 v12
  let c640_i32_633 : BitVec 32 := 640#32
  let v820 : BitVec 32 := Scalar.addi v819 c640_i32_633
  let c0_i32_3546 : BitVec 32 := 0#32
  ![v820.toNat, 0]
def k0_dev40 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off53 (d0 : Dev nD) : Fin 2 → Nat :=
  let c3_i32_147 : BitVec 32 := 3#32
  let c0_i32_146 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v198 : BitVec 32 := Scalar.addi v8 c1_i32_141
  let v204 : BitVec 32 := Scalar.maxsi c0_i32_146 v198
  let v205 : BitVec 32 := Scalar.minsi c3_i32_147 v204
  let c2048_i32_148 : BitVec 32 := 2048#32
  let v206 : BitVec 32 := Scalar.muli v205 c2048_i32_148
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v207 : BitVec 32 := Scalar.addi v206 v12
  let c640_i32_149 : BitVec 32 := 640#32
  let v208 : BitVec 32 := Scalar.addi v207 c640_i32_149
  let c0_i32_3553 : BitVec 32 := 0#32
  ![v208.toNat, 0]
def k0_dev41 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2988 : BitVec 32 := Scalar.extui v2965
  let c0_i32_2459 : BitVec 32 := 0#32
  let v2989 : BitVec 1 := Scalar.cmpi .ne v2988 c0_i32_2459
  v2989

def k0_off54 (d0 : Dev nD) : Fin 2 → Nat :=
  let c3_i32_1423 : BitVec 32 := 3#32
  let c0_i32_1422 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1416 : BitVec 32 := 1#32
  let v1841 : BitVec 32 := Scalar.subi v8 c1_i32_1416
  let c0_i32_1417 : BitVec 32 := 0#32
  let v1842 : BitVec 32 := Scalar.subi v1841 c0_i32_1417
  let v1848 : BitVec 32 := Scalar.maxsi c0_i32_1422 v1842
  let v1849 : BitVec 32 := Scalar.minsi c3_i32_1423 v1848
  let c2048_i32_1424 : BitVec 32 := 2048#32
  let v1850 : BitVec 32 := Scalar.muli v1849 c2048_i32_1424
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1851 : BitVec 32 := Scalar.addi v1850 v12
  let c640_i32_1425 : BitVec 32 := 640#32
  let v1852 : BitVec 32 := Scalar.addi v1851 c640_i32_1425
  let c0_i32_3540 : BitVec 32 := 0#32
  ![v1852.toNat, 0]
def k0_off55 (d0 : Dev nD) : Fin 2 → Nat :=
  let c3_i32_1015 : BitVec 32 := 3#32
  let c0_i32_1014 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1002 : BitVec 32 := 1#32
  let v1343 : BitVec 32 := Scalar.addi v8 c1_i32_1002
  let c2_i32_1003 : BitVec 32 := 2#32
  let v1344 : BitVec 32 := Scalar.addi v1343 c2_i32_1003
  let c4_i32_1004 : BitVec 32 := 4#32
  let c0_i32_1005 : BitVec 32 := 0#32
  let v1345 : BitVec 1 := Scalar.cmpi .eq c4_i32_1004 c0_i32_1005
  let c1_i32_1006 : BitVec 32 := 1#32
  let v1346 : BitVec 32 := Scalar.select v1345 c1_i32_1006 c4_i32_1004
  let v1347 : BitVec 32 := Scalar.remsi v1344 v1346
  let c0_i32_1008 : BitVec 32 := 0#32
  let v1349 : BitVec 1 := Scalar.cmpi .slt v1347 c0_i32_1008
  let c0_i32_1009 : BitVec 32 := 0#32
  let v1350 : BitVec 1 := Scalar.cmpi .slt v1346 c0_i32_1009
  let v1351 : BitVec 1 := Scalar.xori v1349 v1350
  let c0_i32_1007 : BitVec 32 := 0#32
  let v1348 : BitVec 1 := Scalar.cmpi .ne v1347 c0_i32_1007
  let v1352 : BitVec 1 := Scalar.andi v1351 v1348
  let v1353 : BitVec 32 := Scalar.addi v1347 v1346
  let v1354 : BitVec 32 := Scalar.select v1352 v1353 v1347
  let v1360 : BitVec 32 := Scalar.maxsi c0_i32_1014 v1354
  let v1361 : BitVec 32 := Scalar.minsi c3_i32_1015 v1360
  let c2048_i32_1016 : BitVec 32 := 2048#32
  let v1362 : BitVec 32 := Scalar.muli v1361 c2048_i32_1016
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1363 : BitVec 32 := Scalar.addi v1362 v12
  let c640_i32_1017 : BitVec 32 := 640#32
  let v1364 : BitVec 32 := Scalar.addi v1363 c640_i32_1017
  let c0_i32_3546 : BitVec 32 := 0#32
  ![v1364.toNat, 0]
def k0_dev42 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off56 (d0 : Dev nD) : Fin 2 → Nat :=
  let c3_i32_387 : BitVec 32 := 3#32
  let c0_i32_386 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v486 : BitVec 32 := Scalar.subi v8 c1_i32_381
  let v492 : BitVec 32 := Scalar.maxsi c0_i32_386 v486
  let v493 : BitVec 32 := Scalar.minsi c3_i32_387 v492
  let c2048_i32_388 : BitVec 32 := 2048#32
  let v494 : BitVec 32 := Scalar.muli v493 c2048_i32_388
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v495 : BitVec 32 := Scalar.addi v494 v12
  let c640_i32_389 : BitVec 32 := 640#32
  let v496 : BitVec 32 := Scalar.addi v495 c640_i32_389
  let c0_i32_3553 : BitVec 32 := 0#32
  ![v496.toNat, 0]
def k0_dev43 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2990 : BitVec 32 := Scalar.extui v2962
  let c0_i32_2472 : BitVec 32 := 0#32
  let v2991 : BitVec 1 := Scalar.cmpi .ne v2990 c0_i32_2472
  v2991

def k0_off57 (d0 : Dev nD) : Fin 2 → Nat :=
  let c3_i32_1147 : BitVec 32 := 3#32
  let c0_i32_1146 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1140 : BitVec 32 := 1#32
  let v1519 : BitVec 32 := Scalar.addi v8 c1_i32_1140
  let c0_i32_1141 : BitVec 32 := 0#32
  let v1520 : BitVec 32 := Scalar.addi v1519 c0_i32_1141
  let v1526 : BitVec 32 := Scalar.maxsi c0_i32_1146 v1520
  let v1527 : BitVec 32 := Scalar.minsi c3_i32_1147 v1526
  let c2048_i32_1148 : BitVec 32 := 2048#32
  let v1528 : BitVec 32 := Scalar.muli v1527 c2048_i32_1148
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1529 : BitVec 32 := Scalar.addi v1528 v12
  let c768_i32_1149 : BitVec 32 := 768#32
  let v1530 : BitVec 32 := Scalar.addi v1529 c768_i32_1149
  let c0_i32_3540 : BitVec 32 := 0#32
  ![v1530.toNat, 0]
def k0_off58 (d0 : Dev nD) : Fin 2 → Nat :=
  let c3_i32_655 : BitVec 32 := 3#32
  let c0_i32_654 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_642 : BitVec 32 := 1#32
  let v833 : BitVec 32 := Scalar.addi v8 c1_i32_642
  let c0_i32_643 : BitVec 32 := 0#32
  let v834 : BitVec 32 := Scalar.addi v833 c0_i32_643
  let c4_i32_644 : BitVec 32 := 4#32
  let c0_i32_645 : BitVec 32 := 0#32
  let v835 : BitVec 1 := Scalar.cmpi .eq c4_i32_644 c0_i32_645
  let c1_i32_646 : BitVec 32 := 1#32
  let v836 : BitVec 32 := Scalar.select v835 c1_i32_646 c4_i32_644
  let v837 : BitVec 32 := Scalar.remsi v834 v836
  let c0_i32_648 : BitVec 32 := 0#32
  let v839 : BitVec 1 := Scalar.cmpi .slt v837 c0_i32_648
  let c0_i32_649 : BitVec 32 := 0#32
  let v840 : BitVec 1 := Scalar.cmpi .slt v836 c0_i32_649
  let v841 : BitVec 1 := Scalar.xori v839 v840
  let c0_i32_647 : BitVec 32 := 0#32
  let v838 : BitVec 1 := Scalar.cmpi .ne v837 c0_i32_647
  let v842 : BitVec 1 := Scalar.andi v841 v838
  let v843 : BitVec 32 := Scalar.addi v837 v836
  let v844 : BitVec 32 := Scalar.select v842 v843 v837
  let v850 : BitVec 32 := Scalar.maxsi c0_i32_654 v844
  let v851 : BitVec 32 := Scalar.minsi c3_i32_655 v850
  let c2048_i32_656 : BitVec 32 := 2048#32
  let v852 : BitVec 32 := Scalar.muli v851 c2048_i32_656
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v853 : BitVec 32 := Scalar.addi v852 v12
  let c768_i32_657 : BitVec 32 := 768#32
  let v854 : BitVec 32 := Scalar.addi v853 c768_i32_657
  let c0_i32_3546 : BitVec 32 := 0#32
  ![v854.toNat, 0]
def k0_dev44 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off59 (d0 : Dev nD) : Fin 2 → Nat :=
  let c3_i32_157 : BitVec 32 := 3#32
  let c0_i32_156 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v210 : BitVec 32 := Scalar.addi v8 c1_i32_151
  let v216 : BitVec 32 := Scalar.maxsi c0_i32_156 v210
  let v217 : BitVec 32 := Scalar.minsi c3_i32_157 v216
  let c2048_i32_158 : BitVec 32 := 2048#32
  let v218 : BitVec 32 := Scalar.muli v217 c2048_i32_158
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v219 : BitVec 32 := Scalar.addi v218 v12
  let c768_i32_159 : BitVec 32 := 768#32
  let v220 : BitVec 32 := Scalar.addi v219 c768_i32_159
  let c0_i32_3553 : BitVec 32 := 0#32
  ![v220.toNat, 0]
def k0_dev45 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2992 : BitVec 32 := Scalar.extui v2965
  let c0_i32_2485 : BitVec 32 := 0#32
  let v2993 : BitVec 1 := Scalar.cmpi .ne v2992 c0_i32_2485
  v2993

def k0_off60 (d0 : Dev nD) : Fin 2 → Nat :=
  let c3_i32_1435 : BitVec 32 := 3#32
  let c0_i32_1434 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1428 : BitVec 32 := 1#32
  let v1855 : BitVec 32 := Scalar.subi v8 c1_i32_1428
  let c0_i32_1429 : BitVec 32 := 0#32
  let v1856 : BitVec 32 := Scalar.subi v1855 c0_i32_1429
  let v1862 : BitVec 32 := Scalar.maxsi c0_i32_1434 v1856
  let v1863 : BitVec 32 := Scalar.minsi c3_i32_1435 v1862
  let c2048_i32_1436 : BitVec 32 := 2048#32
  let v1864 : BitVec 32 := Scalar.muli v1863 c2048_i32_1436
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1865 : BitVec 32 := Scalar.addi v1864 v12
  let c768_i32_1437 : BitVec 32 := 768#32
  let v1866 : BitVec 32 := Scalar.addi v1865 c768_i32_1437
  let c0_i32_3540 : BitVec 32 := 0#32
  ![v1866.toNat, 0]
def k0_off61 (d0 : Dev nD) : Fin 2 → Nat :=
  let c3_i32_1039 : BitVec 32 := 3#32
  let c0_i32_1038 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1026 : BitVec 32 := 1#32
  let v1377 : BitVec 32 := Scalar.addi v8 c1_i32_1026
  let c2_i32_1027 : BitVec 32 := 2#32
  let v1378 : BitVec 32 := Scalar.addi v1377 c2_i32_1027
  let c4_i32_1028 : BitVec 32 := 4#32
  let c0_i32_1029 : BitVec 32 := 0#32
  let v1379 : BitVec 1 := Scalar.cmpi .eq c4_i32_1028 c0_i32_1029
  let c1_i32_1030 : BitVec 32 := 1#32
  let v1380 : BitVec 32 := Scalar.select v1379 c1_i32_1030 c4_i32_1028
  let v1381 : BitVec 32 := Scalar.remsi v1378 v1380
  let c0_i32_1032 : BitVec 32 := 0#32
  let v1383 : BitVec 1 := Scalar.cmpi .slt v1381 c0_i32_1032
  let c0_i32_1033 : BitVec 32 := 0#32
  let v1384 : BitVec 1 := Scalar.cmpi .slt v1380 c0_i32_1033
  let v1385 : BitVec 1 := Scalar.xori v1383 v1384
  let c0_i32_1031 : BitVec 32 := 0#32
  let v1382 : BitVec 1 := Scalar.cmpi .ne v1381 c0_i32_1031
  let v1386 : BitVec 1 := Scalar.andi v1385 v1382
  let v1387 : BitVec 32 := Scalar.addi v1381 v1380
  let v1388 : BitVec 32 := Scalar.select v1386 v1387 v1381
  let v1394 : BitVec 32 := Scalar.maxsi c0_i32_1038 v1388
  let v1395 : BitVec 32 := Scalar.minsi c3_i32_1039 v1394
  let c2048_i32_1040 : BitVec 32 := 2048#32
  let v1396 : BitVec 32 := Scalar.muli v1395 c2048_i32_1040
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1397 : BitVec 32 := Scalar.addi v1396 v12
  let c768_i32_1041 : BitVec 32 := 768#32
  let v1398 : BitVec 32 := Scalar.addi v1397 c768_i32_1041
  let c0_i32_3546 : BitVec 32 := 0#32
  ![v1398.toNat, 0]
def k0_dev46 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off62 (d0 : Dev nD) : Fin 2 → Nat :=
  let c3_i32_397 : BitVec 32 := 3#32
  let c0_i32_396 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v498 : BitVec 32 := Scalar.subi v8 c1_i32_391
  let v504 : BitVec 32 := Scalar.maxsi c0_i32_396 v498
  let v505 : BitVec 32 := Scalar.minsi c3_i32_397 v504
  let c2048_i32_398 : BitVec 32 := 2048#32
  let v506 : BitVec 32 := Scalar.muli v505 c2048_i32_398
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v507 : BitVec 32 := Scalar.addi v506 v12
  let c768_i32_399 : BitVec 32 := 768#32
  let v508 : BitVec 32 := Scalar.addi v507 c768_i32_399
  let c0_i32_3553 : BitVec 32 := 0#32
  ![v508.toNat, 0]
def k0_dev47 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2298 : BitVec 32 := 1#32
  let v2960 : BitVec 32 := Scalar.addi v8 c1_i32_2298
  let c0_i32_2299 : BitVec 32 := 0#32
  let v2961 : BitVec 32 := Scalar.addi v2960 c0_i32_2299
  let c3_i32_2300 : BitVec 32 := 3#32
  let v2962 : BitVec 1 := Scalar.cmpi .sle v2961 c3_i32_2300
  let v2994 : BitVec 32 := Scalar.extui v2962
  let c0_i32_2498 : BitVec 32 := 0#32
  let v2995 : BitVec 1 := Scalar.cmpi .ne v2994 c0_i32_2498
  v2995

def k0_off63 (d0 : Dev nD) : Fin 2 → Nat :=
  let c3_i32_1159 : BitVec 32 := 3#32
  let c0_i32_1158 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1152 : BitVec 32 := 1#32
  let v1533 : BitVec 32 := Scalar.addi v8 c1_i32_1152
  let c0_i32_1153 : BitVec 32 := 0#32
  let v1534 : BitVec 32 := Scalar.addi v1533 c0_i32_1153
  let v1540 : BitVec 32 := Scalar.maxsi c0_i32_1158 v1534
  let v1541 : BitVec 32 := Scalar.minsi c3_i32_1159 v1540
  let c2048_i32_1160 : BitVec 32 := 2048#32
  let v1542 : BitVec 32 := Scalar.muli v1541 c2048_i32_1160
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1543 : BitVec 32 := Scalar.addi v1542 v12
  let c896_i32_1161 : BitVec 32 := 896#32
  let v1544 : BitVec 32 := Scalar.addi v1543 c896_i32_1161
  let c0_i32_3540 : BitVec 32 := 0#32
  ![v1544.toNat, 0]
def k0_off64 (d0 : Dev nD) : Fin 2 → Nat :=
  let c3_i32_679 : BitVec 32 := 3#32
  let c0_i32_678 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_666 : BitVec 32 := 1#32
  let v867 : BitVec 32 := Scalar.addi v8 c1_i32_666
  let c0_i32_667 : BitVec 32 := 0#32
  let v868 : BitVec 32 := Scalar.addi v867 c0_i32_667
  let c4_i32_668 : BitVec 32 := 4#32
  let c0_i32_669 : BitVec 32 := 0#32
  let v869 : BitVec 1 := Scalar.cmpi .eq c4_i32_668 c0_i32_669
  let c1_i32_670 : BitVec 32 := 1#32
  let v870 : BitVec 32 := Scalar.select v869 c1_i32_670 c4_i32_668
  let v871 : BitVec 32 := Scalar.remsi v868 v870
  let c0_i32_672 : BitVec 32 := 0#32
  let v873 : BitVec 1 := Scalar.cmpi .slt v871 c0_i32_672
  let c0_i32_673 : BitVec 32 := 0#32
  let v874 : BitVec 1 := Scalar.cmpi .slt v870 c0_i32_673
  let v875 : BitVec 1 := Scalar.xori v873 v874
  let c0_i32_671 : BitVec 32 := 0#32
  let v872 : BitVec 1 := Scalar.cmpi .ne v871 c0_i32_671
  let v876 : BitVec 1 := Scalar.andi v875 v872
  let v877 : BitVec 32 := Scalar.addi v871 v870
  let v878 : BitVec 32 := Scalar.select v876 v877 v871
  let v884 : BitVec 32 := Scalar.maxsi c0_i32_678 v878
  let v885 : BitVec 32 := Scalar.minsi c3_i32_679 v884
  let c2048_i32_680 : BitVec 32 := 2048#32
  let v886 : BitVec 32 := Scalar.muli v885 c2048_i32_680
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v887 : BitVec 32 := Scalar.addi v886 v12
  let c896_i32_681 : BitVec 32 := 896#32
  let v888 : BitVec 32 := Scalar.addi v887 c896_i32_681
  let c0_i32_3546 : BitVec 32 := 0#32
  ![v888.toNat, 0]
def k0_dev48 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off65 (d0 : Dev nD) : Fin 2 → Nat :=
  let c3_i32_167 : BitVec 32 := 3#32
  let c0_i32_166 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v222 : BitVec 32 := Scalar.addi v8 c1_i32_161
  let v228 : BitVec 32 := Scalar.maxsi c0_i32_166 v222
  let v229 : BitVec 32 := Scalar.minsi c3_i32_167 v228
  let c2048_i32_168 : BitVec 32 := 2048#32
  let v230 : BitVec 32 := Scalar.muli v229 c2048_i32_168
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v231 : BitVec 32 := Scalar.addi v230 v12
  let c896_i32_169 : BitVec 32 := 896#32
  let v232 : BitVec 32 := Scalar.addi v231 c896_i32_169
  let c0_i32_3553 : BitVec 32 := 0#32
  ![v232.toNat, 0]
def k0_dev49 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2301 : BitVec 32 := 1#32
  let v2963 : BitVec 32 := Scalar.subi v8 c1_i32_2301
  let c0_i32_2302 : BitVec 32 := 0#32
  let v2964 : BitVec 32 := Scalar.subi v2963 c0_i32_2302
  let c0_i32_2303 : BitVec 32 := 0#32
  let v2965 : BitVec 1 := Scalar.cmpi .sge v2964 c0_i32_2303
  let v2996 : BitVec 32 := Scalar.extui v2965
  let c0_i32_2511 : BitVec 32 := 0#32
  let v2997 : BitVec 1 := Scalar.cmpi .ne v2996 c0_i32_2511
  v2997

def k0_off66 (d0 : Dev nD) : Fin 2 → Nat :=
  let c3_i32_1447 : BitVec 32 := 3#32
  let c0_i32_1446 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1440 : BitVec 32 := 1#32
  let v1869 : BitVec 32 := Scalar.subi v8 c1_i32_1440
  let c0_i32_1441 : BitVec 32 := 0#32
  let v1870 : BitVec 32 := Scalar.subi v1869 c0_i32_1441
  let v1876 : BitVec 32 := Scalar.maxsi c0_i32_1446 v1870
  let v1877 : BitVec 32 := Scalar.minsi c3_i32_1447 v1876
  let c2048_i32_1448 : BitVec 32 := 2048#32
  let v1878 : BitVec 32 := Scalar.muli v1877 c2048_i32_1448
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1879 : BitVec 32 := Scalar.addi v1878 v12
  let c896_i32_1449 : BitVec 32 := 896#32
  let v1880 : BitVec 32 := Scalar.addi v1879 c896_i32_1449
  let c0_i32_3540 : BitVec 32 := 0#32
  ![v1880.toNat, 0]
def k0_off67 (d0 : Dev nD) : Fin 2 → Nat :=
  let c3_i32_1063 : BitVec 32 := 3#32
  let c0_i32_1062 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1050 : BitVec 32 := 1#32
  let v1411 : BitVec 32 := Scalar.addi v8 c1_i32_1050
  let c2_i32_1051 : BitVec 32 := 2#32
  let v1412 : BitVec 32 := Scalar.addi v1411 c2_i32_1051
  let c4_i32_1052 : BitVec 32 := 4#32
  let c0_i32_1053 : BitVec 32 := 0#32
  let v1413 : BitVec 1 := Scalar.cmpi .eq c4_i32_1052 c0_i32_1053
  let c1_i32_1054 : BitVec 32 := 1#32
  let v1414 : BitVec 32 := Scalar.select v1413 c1_i32_1054 c4_i32_1052
  let v1415 : BitVec 32 := Scalar.remsi v1412 v1414
  let c0_i32_1056 : BitVec 32 := 0#32
  let v1417 : BitVec 1 := Scalar.cmpi .slt v1415 c0_i32_1056
  let c0_i32_1057 : BitVec 32 := 0#32
  let v1418 : BitVec 1 := Scalar.cmpi .slt v1414 c0_i32_1057
  let v1419 : BitVec 1 := Scalar.xori v1417 v1418
  let c0_i32_1055 : BitVec 32 := 0#32
  let v1416 : BitVec 1 := Scalar.cmpi .ne v1415 c0_i32_1055
  let v1420 : BitVec 1 := Scalar.andi v1419 v1416
  let v1421 : BitVec 32 := Scalar.addi v1415 v1414
  let v1422 : BitVec 32 := Scalar.select v1420 v1421 v1415
  let v1428 : BitVec 32 := Scalar.maxsi c0_i32_1062 v1422
  let v1429 : BitVec 32 := Scalar.minsi c3_i32_1063 v1428
  let c2048_i32_1064 : BitVec 32 := 2048#32
  let v1430 : BitVec 32 := Scalar.muli v1429 c2048_i32_1064
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1431 : BitVec 32 := Scalar.addi v1430 v12
  let c896_i32_1065 : BitVec 32 := 896#32
  let v1432 : BitVec 32 := Scalar.addi v1431 c896_i32_1065
  let c0_i32_3546 : BitVec 32 := 0#32
  ![v1432.toNat, 0]
def k0_dev50 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off68 (d0 : Dev nD) : Fin 2 → Nat :=
  let c3_i32_407 : BitVec 32 := 3#32
  let c0_i32_406 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_401 : BitVec 32 := 1#32
  let v510 : BitVec 32 := Scalar.subi v8 c1_i32_401
  let v516 : BitVec 32 := Scalar.maxsi c0_i32_406 v510
  let v517 : BitVec 32 := Scalar.minsi c3_i32_407 v516
  let c2048_i32_408 : BitVec 32 := 2048#32
  let v518 : BitVec 32 := Scalar.muli v517 c2048_i32_408
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v519 : BitVec 32 := Scalar.addi v518 v12
  let c896_i32_409 : BitVec 32 := 896#32
  let v520 : BitVec 32 := Scalar.addi v519 c896_i32_409
  let c0_i32_3553 : BitVec 32 := 0#32
  ![v520.toNat, 0]
def k0_dev51 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3004 : BitVec 32 := Scalar.extui v3000
  let c0_i32_2530 : BitVec 32 := 0#32
  let v3005 : BitVec 1 := Scalar.cmpi .ne v3004 c0_i32_2530
  v3005

def k0_off69 (d0 : Dev nD) : Fin 2 → Nat :=
  let c3_i32_1171 : BitVec 32 := 3#32
  let c0_i32_1170 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1164 : BitVec 32 := 1#32
  let v1547 : BitVec 32 := Scalar.addi v8 c1_i32_1164
  let c1_i32_1165 : BitVec 32 := 1#32
  let v1548 : BitVec 32 := Scalar.addi v1547 c1_i32_1165
  let v1554 : BitVec 32 := Scalar.maxsi c0_i32_1170 v1548
  let v1555 : BitVec 32 := Scalar.minsi c3_i32_1171 v1554
  let c2048_i32_1172 : BitVec 32 := 2048#32
  let v1556 : BitVec 32 := Scalar.muli v1555 c2048_i32_1172
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1557 : BitVec 32 := Scalar.addi v1556 v12
  let c0_i32_1173 : BitVec 32 := 0#32
  let v1558 : BitVec 32 := Scalar.addi v1557 c0_i32_1173
  let c0_i32_3540 : BitVec 32 := 0#32
  ![v1558.toNat, 0]
def k0_off70 (d0 : Dev nD) : Fin 2 → Nat :=
  let c3_i32_703 : BitVec 32 := 3#32
  let c0_i32_702 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v901 : BitVec 32 := Scalar.addi v8 c1_i32_690
  let c1_i32_691 : BitVec 32 := 1#32
  let v902 : BitVec 32 := Scalar.addi v901 c1_i32_691
  let c4_i32_692 : BitVec 32 := 4#32
  let c0_i32_693 : BitVec 32 := 0#32
  let v903 : BitVec 1 := Scalar.cmpi .eq c4_i32_692 c0_i32_693
  let c1_i32_694 : BitVec 32 := 1#32
  let v904 : BitVec 32 := Scalar.select v903 c1_i32_694 c4_i32_692
  let v905 : BitVec 32 := Scalar.remsi v902 v904
  let c0_i32_696 : BitVec 32 := 0#32
  let v907 : BitVec 1 := Scalar.cmpi .slt v905 c0_i32_696
  let c0_i32_697 : BitVec 32 := 0#32
  let v908 : BitVec 1 := Scalar.cmpi .slt v904 c0_i32_697
  let v909 : BitVec 1 := Scalar.xori v907 v908
  let c0_i32_695 : BitVec 32 := 0#32
  let v906 : BitVec 1 := Scalar.cmpi .ne v905 c0_i32_695
  let v910 : BitVec 1 := Scalar.andi v909 v906
  let v911 : BitVec 32 := Scalar.addi v905 v904
  let v912 : BitVec 32 := Scalar.select v910 v911 v905
  let v918 : BitVec 32 := Scalar.maxsi c0_i32_702 v912
  let v919 : BitVec 32 := Scalar.minsi c3_i32_703 v918
  let c2048_i32_704 : BitVec 32 := 2048#32
  let v920 : BitVec 32 := Scalar.muli v919 c2048_i32_704
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v921 : BitVec 32 := Scalar.addi v920 v12
  let c0_i32_705 : BitVec 32 := 0#32
  let v922 : BitVec 32 := Scalar.addi v921 c0_i32_705
  let c0_i32_3546 : BitVec 32 := 0#32
  ![v922.toNat, 0]
def k0_dev52 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off71 (d0 : Dev nD) : Fin 2 → Nat :=
  let c3_i32_177 : BitVec 32 := 3#32
  let c0_i32_176 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_171 : BitVec 32 := 2#32
  let v234 : BitVec 32 := Scalar.addi v8 c2_i32_171
  let v240 : BitVec 32 := Scalar.maxsi c0_i32_176 v234
  let v241 : BitVec 32 := Scalar.minsi c3_i32_177 v240
  let c2048_i32_178 : BitVec 32 := 2048#32
  let v242 : BitVec 32 := Scalar.muli v241 c2048_i32_178
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v243 : BitVec 32 := Scalar.addi v242 v12
  let c0_i32_179 : BitVec 32 := 0#32
  let v244 : BitVec 32 := Scalar.addi v243 c0_i32_179
  let c0_i32_3553 : BitVec 32 := 0#32
  ![v244.toNat, 0]
def k0_dev53 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3006 : BitVec 32 := Scalar.extui v3003
  let c0_i32_2543 : BitVec 32 := 0#32
  let v3007 : BitVec 1 := Scalar.cmpi .ne v3006 c0_i32_2543
  v3007

def k0_off72 (d0 : Dev nD) : Fin 2 → Nat :=
  let c3_i32_1459 : BitVec 32 := 3#32
  let c0_i32_1458 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1452 : BitVec 32 := 1#32
  let v1883 : BitVec 32 := Scalar.subi v8 c1_i32_1452
  let c1_i32_1453 : BitVec 32 := 1#32
  let v1884 : BitVec 32 := Scalar.subi v1883 c1_i32_1453
  let v1890 : BitVec 32 := Scalar.maxsi c0_i32_1458 v1884
  let v1891 : BitVec 32 := Scalar.minsi c3_i32_1459 v1890
  let c2048_i32_1460 : BitVec 32 := 2048#32
  let v1892 : BitVec 32 := Scalar.muli v1891 c2048_i32_1460
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1893 : BitVec 32 := Scalar.addi v1892 v12
  let c0_i32_1461 : BitVec 32 := 0#32
  let v1894 : BitVec 32 := Scalar.addi v1893 c0_i32_1461
  let c0_i32_3540 : BitVec 32 := 0#32
  ![v1894.toNat, 0]
def k0_off73 (d0 : Dev nD) : Fin 2 → Nat :=
  let c3_i32_703 : BitVec 32 := 3#32
  let c0_i32_702 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v901 : BitVec 32 := Scalar.addi v8 c1_i32_690
  let c1_i32_691 : BitVec 32 := 1#32
  let v902 : BitVec 32 := Scalar.addi v901 c1_i32_691
  let c4_i32_692 : BitVec 32 := 4#32
  let c0_i32_693 : BitVec 32 := 0#32
  let v903 : BitVec 1 := Scalar.cmpi .eq c4_i32_692 c0_i32_693
  let c1_i32_694 : BitVec 32 := 1#32
  let v904 : BitVec 32 := Scalar.select v903 c1_i32_694 c4_i32_692
  let v905 : BitVec 32 := Scalar.remsi v902 v904
  let c0_i32_696 : BitVec 32 := 0#32
  let v907 : BitVec 1 := Scalar.cmpi .slt v905 c0_i32_696
  let c0_i32_697 : BitVec 32 := 0#32
  let v908 : BitVec 1 := Scalar.cmpi .slt v904 c0_i32_697
  let v909 : BitVec 1 := Scalar.xori v907 v908
  let c0_i32_695 : BitVec 32 := 0#32
  let v906 : BitVec 1 := Scalar.cmpi .ne v905 c0_i32_695
  let v910 : BitVec 1 := Scalar.andi v909 v906
  let v911 : BitVec 32 := Scalar.addi v905 v904
  let v912 : BitVec 32 := Scalar.select v910 v911 v905
  let v918 : BitVec 32 := Scalar.maxsi c0_i32_702 v912
  let v919 : BitVec 32 := Scalar.minsi c3_i32_703 v918
  let c2048_i32_704 : BitVec 32 := 2048#32
  let v920 : BitVec 32 := Scalar.muli v919 c2048_i32_704
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v921 : BitVec 32 := Scalar.addi v920 v12
  let c0_i32_705 : BitVec 32 := 0#32
  let v922 : BitVec 32 := Scalar.addi v921 c0_i32_705
  let c0_i32_3546 : BitVec 32 := 0#32
  ![v922.toNat, 0]
def k0_dev54 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off74 (d0 : Dev nD) : Fin 2 → Nat :=
  let c3_i32_417 : BitVec 32 := 3#32
  let c0_i32_416 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_411 : BitVec 32 := 2#32
  let v522 : BitVec 32 := Scalar.subi v8 c2_i32_411
  let v528 : BitVec 32 := Scalar.maxsi c0_i32_416 v522
  let v529 : BitVec 32 := Scalar.minsi c3_i32_417 v528
  let c2048_i32_418 : BitVec 32 := 2048#32
  let v530 : BitVec 32 := Scalar.muli v529 c2048_i32_418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v531 : BitVec 32 := Scalar.addi v530 v12
  let c0_i32_419 : BitVec 32 := 0#32
  let v532 : BitVec 32 := Scalar.addi v531 c0_i32_419
  let c0_i32_3553 : BitVec 32 := 0#32
  ![v532.toNat, 0]
def k0_dev55 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3008 : BitVec 32 := Scalar.extui v3000
  let c0_i32_2556 : BitVec 32 := 0#32
  let v3009 : BitVec 1 := Scalar.cmpi .ne v3008 c0_i32_2556
  v3009

def k0_off75 (d0 : Dev nD) : Fin 2 → Nat :=
  let c3_i32_1183 : BitVec 32 := 3#32
  let c0_i32_1182 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1176 : BitVec 32 := 1#32
  let v1561 : BitVec 32 := Scalar.addi v8 c1_i32_1176
  let c1_i32_1177 : BitVec 32 := 1#32
  let v1562 : BitVec 32 := Scalar.addi v1561 c1_i32_1177
  let v1568 : BitVec 32 := Scalar.maxsi c0_i32_1182 v1562
  let v1569 : BitVec 32 := Scalar.minsi c3_i32_1183 v1568
  let c2048_i32_1184 : BitVec 32 := 2048#32
  let v1570 : BitVec 32 := Scalar.muli v1569 c2048_i32_1184
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1571 : BitVec 32 := Scalar.addi v1570 v12
  let c128_i32_1185 : BitVec 32 := 128#32
  let v1572 : BitVec 32 := Scalar.addi v1571 c128_i32_1185
  let c0_i32_3540 : BitVec 32 := 0#32
  ![v1572.toNat, 0]
def k0_off76 (d0 : Dev nD) : Fin 2 → Nat :=
  let c3_i32_727 : BitVec 32 := 3#32
  let c0_i32_726 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_714 : BitVec 32 := 1#32
  let v935 : BitVec 32 := Scalar.addi v8 c1_i32_714
  let c1_i32_715 : BitVec 32 := 1#32
  let v936 : BitVec 32 := Scalar.addi v935 c1_i32_715
  let c4_i32_716 : BitVec 32 := 4#32
  let c0_i32_717 : BitVec 32 := 0#32
  let v937 : BitVec 1 := Scalar.cmpi .eq c4_i32_716 c0_i32_717
  let c1_i32_718 : BitVec 32 := 1#32
  let v938 : BitVec 32 := Scalar.select v937 c1_i32_718 c4_i32_716
  let v939 : BitVec 32 := Scalar.remsi v936 v938
  let c0_i32_720 : BitVec 32 := 0#32
  let v941 : BitVec 1 := Scalar.cmpi .slt v939 c0_i32_720
  let c0_i32_721 : BitVec 32 := 0#32
  let v942 : BitVec 1 := Scalar.cmpi .slt v938 c0_i32_721
  let v943 : BitVec 1 := Scalar.xori v941 v942
  let c0_i32_719 : BitVec 32 := 0#32
  let v940 : BitVec 1 := Scalar.cmpi .ne v939 c0_i32_719
  let v944 : BitVec 1 := Scalar.andi v943 v940
  let v945 : BitVec 32 := Scalar.addi v939 v938
  let v946 : BitVec 32 := Scalar.select v944 v945 v939
  let v952 : BitVec 32 := Scalar.maxsi c0_i32_726 v946
  let v953 : BitVec 32 := Scalar.minsi c3_i32_727 v952
  let c2048_i32_728 : BitVec 32 := 2048#32
  let v954 : BitVec 32 := Scalar.muli v953 c2048_i32_728
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v955 : BitVec 32 := Scalar.addi v954 v12
  let c128_i32_729 : BitVec 32 := 128#32
  let v956 : BitVec 32 := Scalar.addi v955 c128_i32_729
  let c0_i32_3546 : BitVec 32 := 0#32
  ![v956.toNat, 0]
def k0_dev56 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off77 (d0 : Dev nD) : Fin 2 → Nat :=
  let c3_i32_187 : BitVec 32 := 3#32
  let c0_i32_186 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_181 : BitVec 32 := 2#32
  let v246 : BitVec 32 := Scalar.addi v8 c2_i32_181
  let v252 : BitVec 32 := Scalar.maxsi c0_i32_186 v246
  let v253 : BitVec 32 := Scalar.minsi c3_i32_187 v252
  let c2048_i32_188 : BitVec 32 := 2048#32
  let v254 : BitVec 32 := Scalar.muli v253 c2048_i32_188
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v255 : BitVec 32 := Scalar.addi v254 v12
  let c128_i32_189 : BitVec 32 := 128#32
  let v256 : BitVec 32 := Scalar.addi v255 c128_i32_189
  let c0_i32_3553 : BitVec 32 := 0#32
  ![v256.toNat, 0]
def k0_dev57 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3010 : BitVec 32 := Scalar.extui v3003
  let c0_i32_2569 : BitVec 32 := 0#32
  let v3011 : BitVec 1 := Scalar.cmpi .ne v3010 c0_i32_2569
  v3011

def k0_off78 (d0 : Dev nD) : Fin 2 → Nat :=
  let c3_i32_1471 : BitVec 32 := 3#32
  let c0_i32_1470 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1464 : BitVec 32 := 1#32
  let v1897 : BitVec 32 := Scalar.subi v8 c1_i32_1464
  let c1_i32_1465 : BitVec 32 := 1#32
  let v1898 : BitVec 32 := Scalar.subi v1897 c1_i32_1465
  let v1904 : BitVec 32 := Scalar.maxsi c0_i32_1470 v1898
  let v1905 : BitVec 32 := Scalar.minsi c3_i32_1471 v1904
  let c2048_i32_1472 : BitVec 32 := 2048#32
  let v1906 : BitVec 32 := Scalar.muli v1905 c2048_i32_1472
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1907 : BitVec 32 := Scalar.addi v1906 v12
  let c128_i32_1473 : BitVec 32 := 128#32
  let v1908 : BitVec 32 := Scalar.addi v1907 c128_i32_1473
  let c0_i32_3540 : BitVec 32 := 0#32
  ![v1908.toNat, 0]
def k0_off79 (d0 : Dev nD) : Fin 2 → Nat :=
  let c3_i32_727 : BitVec 32 := 3#32
  let c0_i32_726 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_714 : BitVec 32 := 1#32
  let v935 : BitVec 32 := Scalar.addi v8 c1_i32_714
  let c1_i32_715 : BitVec 32 := 1#32
  let v936 : BitVec 32 := Scalar.addi v935 c1_i32_715
  let c4_i32_716 : BitVec 32 := 4#32
  let c0_i32_717 : BitVec 32 := 0#32
  let v937 : BitVec 1 := Scalar.cmpi .eq c4_i32_716 c0_i32_717
  let c1_i32_718 : BitVec 32 := 1#32
  let v938 : BitVec 32 := Scalar.select v937 c1_i32_718 c4_i32_716
  let v939 : BitVec 32 := Scalar.remsi v936 v938
  let c0_i32_720 : BitVec 32 := 0#32
  let v941 : BitVec 1 := Scalar.cmpi .slt v939 c0_i32_720
  let c0_i32_721 : BitVec 32 := 0#32
  let v942 : BitVec 1 := Scalar.cmpi .slt v938 c0_i32_721
  let v943 : BitVec 1 := Scalar.xori v941 v942
  let c0_i32_719 : BitVec 32 := 0#32
  let v940 : BitVec 1 := Scalar.cmpi .ne v939 c0_i32_719
  let v944 : BitVec 1 := Scalar.andi v943 v940
  let v945 : BitVec 32 := Scalar.addi v939 v938
  let v946 : BitVec 32 := Scalar.select v944 v945 v939
  let v952 : BitVec 32 := Scalar.maxsi c0_i32_726 v946
  let v953 : BitVec 32 := Scalar.minsi c3_i32_727 v952
  let c2048_i32_728 : BitVec 32 := 2048#32
  let v954 : BitVec 32 := Scalar.muli v953 c2048_i32_728
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v955 : BitVec 32 := Scalar.addi v954 v12
  let c128_i32_729 : BitVec 32 := 128#32
  let v956 : BitVec 32 := Scalar.addi v955 c128_i32_729
  let c0_i32_3546 : BitVec 32 := 0#32
  ![v956.toNat, 0]
def k0_dev58 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off80 (d0 : Dev nD) : Fin 2 → Nat :=
  let c3_i32_427 : BitVec 32 := 3#32
  let c0_i32_426 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_421 : BitVec 32 := 2#32
  let v534 : BitVec 32 := Scalar.subi v8 c2_i32_421
  let v540 : BitVec 32 := Scalar.maxsi c0_i32_426 v534
  let v541 : BitVec 32 := Scalar.minsi c3_i32_427 v540
  let c2048_i32_428 : BitVec 32 := 2048#32
  let v542 : BitVec 32 := Scalar.muli v541 c2048_i32_428
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v543 : BitVec 32 := Scalar.addi v542 v12
  let c128_i32_429 : BitVec 32 := 128#32
  let v544 : BitVec 32 := Scalar.addi v543 c128_i32_429
  let c0_i32_3553 : BitVec 32 := 0#32
  ![v544.toNat, 0]
def k0_dev59 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3012 : BitVec 32 := Scalar.extui v3000
  let c0_i32_2582 : BitVec 32 := 0#32
  let v3013 : BitVec 1 := Scalar.cmpi .ne v3012 c0_i32_2582
  v3013

def k0_off81 (d0 : Dev nD) : Fin 2 → Nat :=
  let c3_i32_1195 : BitVec 32 := 3#32
  let c0_i32_1194 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1188 : BitVec 32 := 1#32
  let v1575 : BitVec 32 := Scalar.addi v8 c1_i32_1188
  let c1_i32_1189 : BitVec 32 := 1#32
  let v1576 : BitVec 32 := Scalar.addi v1575 c1_i32_1189
  let v1582 : BitVec 32 := Scalar.maxsi c0_i32_1194 v1576
  let v1583 : BitVec 32 := Scalar.minsi c3_i32_1195 v1582
  let c2048_i32_1196 : BitVec 32 := 2048#32
  let v1584 : BitVec 32 := Scalar.muli v1583 c2048_i32_1196
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1585 : BitVec 32 := Scalar.addi v1584 v12
  let c256_i32_1197 : BitVec 32 := 256#32
  let v1586 : BitVec 32 := Scalar.addi v1585 c256_i32_1197
  let c0_i32_3540 : BitVec 32 := 0#32
  ![v1586.toNat, 0]
def k0_off82 (d0 : Dev nD) : Fin 2 → Nat :=
  let c3_i32_751 : BitVec 32 := 3#32
  let c0_i32_750 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v969 : BitVec 32 := Scalar.addi v8 c1_i32_738
  let c1_i32_739 : BitVec 32 := 1#32
  let v970 : BitVec 32 := Scalar.addi v969 c1_i32_739
  let c4_i32_740 : BitVec 32 := 4#32
  let c0_i32_741 : BitVec 32 := 0#32
  let v971 : BitVec 1 := Scalar.cmpi .eq c4_i32_740 c0_i32_741
  let c1_i32_742 : BitVec 32 := 1#32
  let v972 : BitVec 32 := Scalar.select v971 c1_i32_742 c4_i32_740
  let v973 : BitVec 32 := Scalar.remsi v970 v972
  let c0_i32_744 : BitVec 32 := 0#32
  let v975 : BitVec 1 := Scalar.cmpi .slt v973 c0_i32_744
  let c0_i32_745 : BitVec 32 := 0#32
  let v976 : BitVec 1 := Scalar.cmpi .slt v972 c0_i32_745
  let v977 : BitVec 1 := Scalar.xori v975 v976
  let c0_i32_743 : BitVec 32 := 0#32
  let v974 : BitVec 1 := Scalar.cmpi .ne v973 c0_i32_743
  let v978 : BitVec 1 := Scalar.andi v977 v974
  let v979 : BitVec 32 := Scalar.addi v973 v972
  let v980 : BitVec 32 := Scalar.select v978 v979 v973
  let v986 : BitVec 32 := Scalar.maxsi c0_i32_750 v980
  let v987 : BitVec 32 := Scalar.minsi c3_i32_751 v986
  let c2048_i32_752 : BitVec 32 := 2048#32
  let v988 : BitVec 32 := Scalar.muli v987 c2048_i32_752
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v989 : BitVec 32 := Scalar.addi v988 v12
  let c256_i32_753 : BitVec 32 := 256#32
  let v990 : BitVec 32 := Scalar.addi v989 c256_i32_753
  let c0_i32_3546 : BitVec 32 := 0#32
  ![v990.toNat, 0]
def k0_dev60 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off83 (d0 : Dev nD) : Fin 2 → Nat :=
  let c3_i32_197 : BitVec 32 := 3#32
  let c0_i32_196 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v258 : BitVec 32 := Scalar.addi v8 c2_i32_191
  let v264 : BitVec 32 := Scalar.maxsi c0_i32_196 v258
  let v265 : BitVec 32 := Scalar.minsi c3_i32_197 v264
  let c2048_i32_198 : BitVec 32 := 2048#32
  let v266 : BitVec 32 := Scalar.muli v265 c2048_i32_198
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v267 : BitVec 32 := Scalar.addi v266 v12
  let c256_i32_199 : BitVec 32 := 256#32
  let v268 : BitVec 32 := Scalar.addi v267 c256_i32_199
  let c0_i32_3553 : BitVec 32 := 0#32
  ![v268.toNat, 0]
def k0_dev61 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3014 : BitVec 32 := Scalar.extui v3003
  let c0_i32_2595 : BitVec 32 := 0#32
  let v3015 : BitVec 1 := Scalar.cmpi .ne v3014 c0_i32_2595
  v3015

def k0_off84 (d0 : Dev nD) : Fin 2 → Nat :=
  let c3_i32_1483 : BitVec 32 := 3#32
  let c0_i32_1482 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1476 : BitVec 32 := 1#32
  let v1911 : BitVec 32 := Scalar.subi v8 c1_i32_1476
  let c1_i32_1477 : BitVec 32 := 1#32
  let v1912 : BitVec 32 := Scalar.subi v1911 c1_i32_1477
  let v1918 : BitVec 32 := Scalar.maxsi c0_i32_1482 v1912
  let v1919 : BitVec 32 := Scalar.minsi c3_i32_1483 v1918
  let c2048_i32_1484 : BitVec 32 := 2048#32
  let v1920 : BitVec 32 := Scalar.muli v1919 c2048_i32_1484
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1921 : BitVec 32 := Scalar.addi v1920 v12
  let c256_i32_1485 : BitVec 32 := 256#32
  let v1922 : BitVec 32 := Scalar.addi v1921 c256_i32_1485
  let c0_i32_3540 : BitVec 32 := 0#32
  ![v1922.toNat, 0]
def k0_off85 (d0 : Dev nD) : Fin 2 → Nat :=
  let c3_i32_751 : BitVec 32 := 3#32
  let c0_i32_750 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v969 : BitVec 32 := Scalar.addi v8 c1_i32_738
  let c1_i32_739 : BitVec 32 := 1#32
  let v970 : BitVec 32 := Scalar.addi v969 c1_i32_739
  let c4_i32_740 : BitVec 32 := 4#32
  let c0_i32_741 : BitVec 32 := 0#32
  let v971 : BitVec 1 := Scalar.cmpi .eq c4_i32_740 c0_i32_741
  let c1_i32_742 : BitVec 32 := 1#32
  let v972 : BitVec 32 := Scalar.select v971 c1_i32_742 c4_i32_740
  let v973 : BitVec 32 := Scalar.remsi v970 v972
  let c0_i32_744 : BitVec 32 := 0#32
  let v975 : BitVec 1 := Scalar.cmpi .slt v973 c0_i32_744
  let c0_i32_745 : BitVec 32 := 0#32
  let v976 : BitVec 1 := Scalar.cmpi .slt v972 c0_i32_745
  let v977 : BitVec 1 := Scalar.xori v975 v976
  let c0_i32_743 : BitVec 32 := 0#32
  let v974 : BitVec 1 := Scalar.cmpi .ne v973 c0_i32_743
  let v978 : BitVec 1 := Scalar.andi v977 v974
  let v979 : BitVec 32 := Scalar.addi v973 v972
  let v980 : BitVec 32 := Scalar.select v978 v979 v973
  let v986 : BitVec 32 := Scalar.maxsi c0_i32_750 v980
  let v987 : BitVec 32 := Scalar.minsi c3_i32_751 v986
  let c2048_i32_752 : BitVec 32 := 2048#32
  let v988 : BitVec 32 := Scalar.muli v987 c2048_i32_752
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v989 : BitVec 32 := Scalar.addi v988 v12
  let c256_i32_753 : BitVec 32 := 256#32
  let v990 : BitVec 32 := Scalar.addi v989 c256_i32_753
  let c0_i32_3546 : BitVec 32 := 0#32
  ![v990.toNat, 0]
def k0_dev62 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off86 (d0 : Dev nD) : Fin 2 → Nat :=
  let c3_i32_437 : BitVec 32 := 3#32
  let c0_i32_436 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_431 : BitVec 32 := 2#32
  let v546 : BitVec 32 := Scalar.subi v8 c2_i32_431
  let v552 : BitVec 32 := Scalar.maxsi c0_i32_436 v546
  let v553 : BitVec 32 := Scalar.minsi c3_i32_437 v552
  let c2048_i32_438 : BitVec 32 := 2048#32
  let v554 : BitVec 32 := Scalar.muli v553 c2048_i32_438
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v555 : BitVec 32 := Scalar.addi v554 v12
  let c256_i32_439 : BitVec 32 := 256#32
  let v556 : BitVec 32 := Scalar.addi v555 c256_i32_439
  let c0_i32_3553 : BitVec 32 := 0#32
  ![v556.toNat, 0]
def k0_dev63 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3016 : BitVec 32 := Scalar.extui v3000
  let c0_i32_2608 : BitVec 32 := 0#32
  let v3017 : BitVec 1 := Scalar.cmpi .ne v3016 c0_i32_2608
  v3017

def k0_off87 (d0 : Dev nD) : Fin 2 → Nat :=
  let c3_i32_1207 : BitVec 32 := 3#32
  let c0_i32_1206 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1200 : BitVec 32 := 1#32
  let v1589 : BitVec 32 := Scalar.addi v8 c1_i32_1200
  let c1_i32_1201 : BitVec 32 := 1#32
  let v1590 : BitVec 32 := Scalar.addi v1589 c1_i32_1201
  let v1596 : BitVec 32 := Scalar.maxsi c0_i32_1206 v1590
  let v1597 : BitVec 32 := Scalar.minsi c3_i32_1207 v1596
  let c2048_i32_1208 : BitVec 32 := 2048#32
  let v1598 : BitVec 32 := Scalar.muli v1597 c2048_i32_1208
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1599 : BitVec 32 := Scalar.addi v1598 v12
  let c384_i32_1209 : BitVec 32 := 384#32
  let v1600 : BitVec 32 := Scalar.addi v1599 c384_i32_1209
  let c0_i32_3540 : BitVec 32 := 0#32
  ![v1600.toNat, 0]
def k0_off88 (d0 : Dev nD) : Fin 2 → Nat :=
  let c3_i32_775 : BitVec 32 := 3#32
  let c0_i32_774 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_762 : BitVec 32 := 1#32
  let v1003 : BitVec 32 := Scalar.addi v8 c1_i32_762
  let c1_i32_763 : BitVec 32 := 1#32
  let v1004 : BitVec 32 := Scalar.addi v1003 c1_i32_763
  let c4_i32_764 : BitVec 32 := 4#32
  let c0_i32_765 : BitVec 32 := 0#32
  let v1005 : BitVec 1 := Scalar.cmpi .eq c4_i32_764 c0_i32_765
  let c1_i32_766 : BitVec 32 := 1#32
  let v1006 : BitVec 32 := Scalar.select v1005 c1_i32_766 c4_i32_764
  let v1007 : BitVec 32 := Scalar.remsi v1004 v1006
  let c0_i32_768 : BitVec 32 := 0#32
  let v1009 : BitVec 1 := Scalar.cmpi .slt v1007 c0_i32_768
  let c0_i32_769 : BitVec 32 := 0#32
  let v1010 : BitVec 1 := Scalar.cmpi .slt v1006 c0_i32_769
  let v1011 : BitVec 1 := Scalar.xori v1009 v1010
  let c0_i32_767 : BitVec 32 := 0#32
  let v1008 : BitVec 1 := Scalar.cmpi .ne v1007 c0_i32_767
  let v1012 : BitVec 1 := Scalar.andi v1011 v1008
  let v1013 : BitVec 32 := Scalar.addi v1007 v1006
  let v1014 : BitVec 32 := Scalar.select v1012 v1013 v1007
  let v1020 : BitVec 32 := Scalar.maxsi c0_i32_774 v1014
  let v1021 : BitVec 32 := Scalar.minsi c3_i32_775 v1020
  let c2048_i32_776 : BitVec 32 := 2048#32
  let v1022 : BitVec 32 := Scalar.muli v1021 c2048_i32_776
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1023 : BitVec 32 := Scalar.addi v1022 v12
  let c384_i32_777 : BitVec 32 := 384#32
  let v1024 : BitVec 32 := Scalar.addi v1023 c384_i32_777
  let c0_i32_3546 : BitVec 32 := 0#32
  ![v1024.toNat, 0]
def k0_dev64 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off89 (d0 : Dev nD) : Fin 2 → Nat :=
  let c3_i32_207 : BitVec 32 := 3#32
  let c0_i32_206 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_201 : BitVec 32 := 2#32
  let v270 : BitVec 32 := Scalar.addi v8 c2_i32_201
  let v276 : BitVec 32 := Scalar.maxsi c0_i32_206 v270
  let v277 : BitVec 32 := Scalar.minsi c3_i32_207 v276
  let c2048_i32_208 : BitVec 32 := 2048#32
  let v278 : BitVec 32 := Scalar.muli v277 c2048_i32_208
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v279 : BitVec 32 := Scalar.addi v278 v12
  let c384_i32_209 : BitVec 32 := 384#32
  let v280 : BitVec 32 := Scalar.addi v279 c384_i32_209
  let c0_i32_3553 : BitVec 32 := 0#32
  ![v280.toNat, 0]
def k0_dev65 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3018 : BitVec 32 := Scalar.extui v3003
  let c0_i32_2621 : BitVec 32 := 0#32
  let v3019 : BitVec 1 := Scalar.cmpi .ne v3018 c0_i32_2621
  v3019

def k0_off90 (d0 : Dev nD) : Fin 2 → Nat :=
  let c3_i32_1495 : BitVec 32 := 3#32
  let c0_i32_1494 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1488 : BitVec 32 := 1#32
  let v1925 : BitVec 32 := Scalar.subi v8 c1_i32_1488
  let c1_i32_1489 : BitVec 32 := 1#32
  let v1926 : BitVec 32 := Scalar.subi v1925 c1_i32_1489
  let v1932 : BitVec 32 := Scalar.maxsi c0_i32_1494 v1926
  let v1933 : BitVec 32 := Scalar.minsi c3_i32_1495 v1932
  let c2048_i32_1496 : BitVec 32 := 2048#32
  let v1934 : BitVec 32 := Scalar.muli v1933 c2048_i32_1496
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1935 : BitVec 32 := Scalar.addi v1934 v12
  let c384_i32_1497 : BitVec 32 := 384#32
  let v1936 : BitVec 32 := Scalar.addi v1935 c384_i32_1497
  let c0_i32_3540 : BitVec 32 := 0#32
  ![v1936.toNat, 0]
def k0_off91 (d0 : Dev nD) : Fin 2 → Nat :=
  let c3_i32_775 : BitVec 32 := 3#32
  let c0_i32_774 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_762 : BitVec 32 := 1#32
  let v1003 : BitVec 32 := Scalar.addi v8 c1_i32_762
  let c1_i32_763 : BitVec 32 := 1#32
  let v1004 : BitVec 32 := Scalar.addi v1003 c1_i32_763
  let c4_i32_764 : BitVec 32 := 4#32
  let c0_i32_765 : BitVec 32 := 0#32
  let v1005 : BitVec 1 := Scalar.cmpi .eq c4_i32_764 c0_i32_765
  let c1_i32_766 : BitVec 32 := 1#32
  let v1006 : BitVec 32 := Scalar.select v1005 c1_i32_766 c4_i32_764
  let v1007 : BitVec 32 := Scalar.remsi v1004 v1006
  let c0_i32_768 : BitVec 32 := 0#32
  let v1009 : BitVec 1 := Scalar.cmpi .slt v1007 c0_i32_768
  let c0_i32_769 : BitVec 32 := 0#32
  let v1010 : BitVec 1 := Scalar.cmpi .slt v1006 c0_i32_769
  let v1011 : BitVec 1 := Scalar.xori v1009 v1010
  let c0_i32_767 : BitVec 32 := 0#32
  let v1008 : BitVec 1 := Scalar.cmpi .ne v1007 c0_i32_767
  let v1012 : BitVec 1 := Scalar.andi v1011 v1008
  let v1013 : BitVec 32 := Scalar.addi v1007 v1006
  let v1014 : BitVec 32 := Scalar.select v1012 v1013 v1007
  let v1020 : BitVec 32 := Scalar.maxsi c0_i32_774 v1014
  let v1021 : BitVec 32 := Scalar.minsi c3_i32_775 v1020
  let c2048_i32_776 : BitVec 32 := 2048#32
  let v1022 : BitVec 32 := Scalar.muli v1021 c2048_i32_776
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1023 : BitVec 32 := Scalar.addi v1022 v12
  let c384_i32_777 : BitVec 32 := 384#32
  let v1024 : BitVec 32 := Scalar.addi v1023 c384_i32_777
  let c0_i32_3546 : BitVec 32 := 0#32
  ![v1024.toNat, 0]
def k0_dev66 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off92 (d0 : Dev nD) : Fin 2 → Nat :=
  let c3_i32_447 : BitVec 32 := 3#32
  let c0_i32_446 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_441 : BitVec 32 := 2#32
  let v558 : BitVec 32 := Scalar.subi v8 c2_i32_441
  let v564 : BitVec 32 := Scalar.maxsi c0_i32_446 v558
  let v565 : BitVec 32 := Scalar.minsi c3_i32_447 v564
  let c2048_i32_448 : BitVec 32 := 2048#32
  let v566 : BitVec 32 := Scalar.muli v565 c2048_i32_448
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v567 : BitVec 32 := Scalar.addi v566 v12
  let c384_i32_449 : BitVec 32 := 384#32
  let v568 : BitVec 32 := Scalar.addi v567 c384_i32_449
  let c0_i32_3553 : BitVec 32 := 0#32
  ![v568.toNat, 0]
def k0_dev67 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3020 : BitVec 32 := Scalar.extui v3000
  let c0_i32_2634 : BitVec 32 := 0#32
  let v3021 : BitVec 1 := Scalar.cmpi .ne v3020 c0_i32_2634
  v3021

def k0_off93 (d0 : Dev nD) : Fin 2 → Nat :=
  let c3_i32_1219 : BitVec 32 := 3#32
  let c0_i32_1218 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1212 : BitVec 32 := 1#32
  let v1603 : BitVec 32 := Scalar.addi v8 c1_i32_1212
  let c1_i32_1213 : BitVec 32 := 1#32
  let v1604 : BitVec 32 := Scalar.addi v1603 c1_i32_1213
  let v1610 : BitVec 32 := Scalar.maxsi c0_i32_1218 v1604
  let v1611 : BitVec 32 := Scalar.minsi c3_i32_1219 v1610
  let c2048_i32_1220 : BitVec 32 := 2048#32
  let v1612 : BitVec 32 := Scalar.muli v1611 c2048_i32_1220
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1613 : BitVec 32 := Scalar.addi v1612 v12
  let c512_i32_1221 : BitVec 32 := 512#32
  let v1614 : BitVec 32 := Scalar.addi v1613 c512_i32_1221
  let c0_i32_3540 : BitVec 32 := 0#32
  ![v1614.toNat, 0]
def k0_off94 (d0 : Dev nD) : Fin 2 → Nat :=
  let c3_i32_799 : BitVec 32 := 3#32
  let c0_i32_798 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v1037 : BitVec 32 := Scalar.addi v8 c1_i32_786
  let c1_i32_787 : BitVec 32 := 1#32
  let v1038 : BitVec 32 := Scalar.addi v1037 c1_i32_787
  let c4_i32_788 : BitVec 32 := 4#32
  let c0_i32_789 : BitVec 32 := 0#32
  let v1039 : BitVec 1 := Scalar.cmpi .eq c4_i32_788 c0_i32_789
  let c1_i32_790 : BitVec 32 := 1#32
  let v1040 : BitVec 32 := Scalar.select v1039 c1_i32_790 c4_i32_788
  let v1041 : BitVec 32 := Scalar.remsi v1038 v1040
  let c0_i32_792 : BitVec 32 := 0#32
  let v1043 : BitVec 1 := Scalar.cmpi .slt v1041 c0_i32_792
  let c0_i32_793 : BitVec 32 := 0#32
  let v1044 : BitVec 1 := Scalar.cmpi .slt v1040 c0_i32_793
  let v1045 : BitVec 1 := Scalar.xori v1043 v1044
  let c0_i32_791 : BitVec 32 := 0#32
  let v1042 : BitVec 1 := Scalar.cmpi .ne v1041 c0_i32_791
  let v1046 : BitVec 1 := Scalar.andi v1045 v1042
  let v1047 : BitVec 32 := Scalar.addi v1041 v1040
  let v1048 : BitVec 32 := Scalar.select v1046 v1047 v1041
  let v1054 : BitVec 32 := Scalar.maxsi c0_i32_798 v1048
  let v1055 : BitVec 32 := Scalar.minsi c3_i32_799 v1054
  let c2048_i32_800 : BitVec 32 := 2048#32
  let v1056 : BitVec 32 := Scalar.muli v1055 c2048_i32_800
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1057 : BitVec 32 := Scalar.addi v1056 v12
  let c512_i32_801 : BitVec 32 := 512#32
  let v1058 : BitVec 32 := Scalar.addi v1057 c512_i32_801
  let c0_i32_3546 : BitVec 32 := 0#32
  ![v1058.toNat, 0]
def k0_dev68 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off95 (d0 : Dev nD) : Fin 2 → Nat :=
  let c3_i32_217 : BitVec 32 := 3#32
  let c0_i32_216 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_211 : BitVec 32 := 2#32
  let v282 : BitVec 32 := Scalar.addi v8 c2_i32_211
  let v288 : BitVec 32 := Scalar.maxsi c0_i32_216 v282
  let v289 : BitVec 32 := Scalar.minsi c3_i32_217 v288
  let c2048_i32_218 : BitVec 32 := 2048#32
  let v290 : BitVec 32 := Scalar.muli v289 c2048_i32_218
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v291 : BitVec 32 := Scalar.addi v290 v12
  let c512_i32_219 : BitVec 32 := 512#32
  let v292 : BitVec 32 := Scalar.addi v291 c512_i32_219
  let c0_i32_3553 : BitVec 32 := 0#32
  ![v292.toNat, 0]
def k0_dev69 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3022 : BitVec 32 := Scalar.extui v3003
  let c0_i32_2647 : BitVec 32 := 0#32
  let v3023 : BitVec 1 := Scalar.cmpi .ne v3022 c0_i32_2647
  v3023

def k0_off96 (d0 : Dev nD) : Fin 2 → Nat :=
  let c3_i32_1507 : BitVec 32 := 3#32
  let c0_i32_1506 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1500 : BitVec 32 := 1#32
  let v1939 : BitVec 32 := Scalar.subi v8 c1_i32_1500
  let c1_i32_1501 : BitVec 32 := 1#32
  let v1940 : BitVec 32 := Scalar.subi v1939 c1_i32_1501
  let v1946 : BitVec 32 := Scalar.maxsi c0_i32_1506 v1940
  let v1947 : BitVec 32 := Scalar.minsi c3_i32_1507 v1946
  let c2048_i32_1508 : BitVec 32 := 2048#32
  let v1948 : BitVec 32 := Scalar.muli v1947 c2048_i32_1508
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1949 : BitVec 32 := Scalar.addi v1948 v12
  let c512_i32_1509 : BitVec 32 := 512#32
  let v1950 : BitVec 32 := Scalar.addi v1949 c512_i32_1509
  let c0_i32_3540 : BitVec 32 := 0#32
  ![v1950.toNat, 0]
def k0_off97 (d0 : Dev nD) : Fin 2 → Nat :=
  let c3_i32_799 : BitVec 32 := 3#32
  let c0_i32_798 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_786 : BitVec 32 := 1#32
  let v1037 : BitVec 32 := Scalar.addi v8 c1_i32_786
  let c1_i32_787 : BitVec 32 := 1#32
  let v1038 : BitVec 32 := Scalar.addi v1037 c1_i32_787
  let c4_i32_788 : BitVec 32 := 4#32
  let c0_i32_789 : BitVec 32 := 0#32
  let v1039 : BitVec 1 := Scalar.cmpi .eq c4_i32_788 c0_i32_789
  let c1_i32_790 : BitVec 32 := 1#32
  let v1040 : BitVec 32 := Scalar.select v1039 c1_i32_790 c4_i32_788
  let v1041 : BitVec 32 := Scalar.remsi v1038 v1040
  let c0_i32_792 : BitVec 32 := 0#32
  let v1043 : BitVec 1 := Scalar.cmpi .slt v1041 c0_i32_792
  let c0_i32_793 : BitVec 32 := 0#32
  let v1044 : BitVec 1 := Scalar.cmpi .slt v1040 c0_i32_793
  let v1045 : BitVec 1 := Scalar.xori v1043 v1044
  let c0_i32_791 : BitVec 32 := 0#32
  let v1042 : BitVec 1 := Scalar.cmpi .ne v1041 c0_i32_791
  let v1046 : BitVec 1 := Scalar.andi v1045 v1042
  let v1047 : BitVec 32 := Scalar.addi v1041 v1040
  let v1048 : BitVec 32 := Scalar.select v1046 v1047 v1041
  let v1054 : BitVec 32 := Scalar.maxsi c0_i32_798 v1048
  let v1055 : BitVec 32 := Scalar.minsi c3_i32_799 v1054
  let c2048_i32_800 : BitVec 32 := 2048#32
  let v1056 : BitVec 32 := Scalar.muli v1055 c2048_i32_800
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1057 : BitVec 32 := Scalar.addi v1056 v12
  let c512_i32_801 : BitVec 32 := 512#32
  let v1058 : BitVec 32 := Scalar.addi v1057 c512_i32_801
  let c0_i32_3546 : BitVec 32 := 0#32
  ![v1058.toNat, 0]
def k0_dev70 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off98 (d0 : Dev nD) : Fin 2 → Nat :=
  let c3_i32_457 : BitVec 32 := 3#32
  let c0_i32_456 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_451 : BitVec 32 := 2#32
  let v570 : BitVec 32 := Scalar.subi v8 c2_i32_451
  let v576 : BitVec 32 := Scalar.maxsi c0_i32_456 v570
  let v577 : BitVec 32 := Scalar.minsi c3_i32_457 v576
  let c2048_i32_458 : BitVec 32 := 2048#32
  let v578 : BitVec 32 := Scalar.muli v577 c2048_i32_458
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v579 : BitVec 32 := Scalar.addi v578 v12
  let c512_i32_459 : BitVec 32 := 512#32
  let v580 : BitVec 32 := Scalar.addi v579 c512_i32_459
  let c0_i32_3553 : BitVec 32 := 0#32
  ![v580.toNat, 0]
def k0_dev71 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3024 : BitVec 32 := Scalar.extui v3000
  let c0_i32_2660 : BitVec 32 := 0#32
  let v3025 : BitVec 1 := Scalar.cmpi .ne v3024 c0_i32_2660
  v3025

def k0_off99 (d0 : Dev nD) : Fin 2 → Nat :=
  let c3_i32_1231 : BitVec 32 := 3#32
  let c0_i32_1230 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1224 : BitVec 32 := 1#32
  let v1617 : BitVec 32 := Scalar.addi v8 c1_i32_1224
  let c1_i32_1225 : BitVec 32 := 1#32
  let v1618 : BitVec 32 := Scalar.addi v1617 c1_i32_1225
  let v1624 : BitVec 32 := Scalar.maxsi c0_i32_1230 v1618
  let v1625 : BitVec 32 := Scalar.minsi c3_i32_1231 v1624
  let c2048_i32_1232 : BitVec 32 := 2048#32
  let v1626 : BitVec 32 := Scalar.muli v1625 c2048_i32_1232
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1627 : BitVec 32 := Scalar.addi v1626 v12
  let c640_i32_1233 : BitVec 32 := 640#32
  let v1628 : BitVec 32 := Scalar.addi v1627 c640_i32_1233
  let c0_i32_3540 : BitVec 32 := 0#32
  ![v1628.toNat, 0]
def k0_off100 (d0 : Dev nD) : Fin 2 → Nat :=
  let c3_i32_823 : BitVec 32 := 3#32
  let c0_i32_822 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1071 : BitVec 32 := Scalar.addi v8 c1_i32_810
  let c1_i32_811 : BitVec 32 := 1#32
  let v1072 : BitVec 32 := Scalar.addi v1071 c1_i32_811
  let c4_i32_812 : BitVec 32 := 4#32
  let c0_i32_813 : BitVec 32 := 0#32
  let v1073 : BitVec 1 := Scalar.cmpi .eq c4_i32_812 c0_i32_813
  let c1_i32_814 : BitVec 32 := 1#32
  let v1074 : BitVec 32 := Scalar.select v1073 c1_i32_814 c4_i32_812
  let v1075 : BitVec 32 := Scalar.remsi v1072 v1074
  let c0_i32_816 : BitVec 32 := 0#32
  let v1077 : BitVec 1 := Scalar.cmpi .slt v1075 c0_i32_816
  let c0_i32_817 : BitVec 32 := 0#32
  let v1078 : BitVec 1 := Scalar.cmpi .slt v1074 c0_i32_817
  let v1079 : BitVec 1 := Scalar.xori v1077 v1078
  let c0_i32_815 : BitVec 32 := 0#32
  let v1076 : BitVec 1 := Scalar.cmpi .ne v1075 c0_i32_815
  let v1080 : BitVec 1 := Scalar.andi v1079 v1076
  let v1081 : BitVec 32 := Scalar.addi v1075 v1074
  let v1082 : BitVec 32 := Scalar.select v1080 v1081 v1075
  let v1088 : BitVec 32 := Scalar.maxsi c0_i32_822 v1082
  let v1089 : BitVec 32 := Scalar.minsi c3_i32_823 v1088
  let c2048_i32_824 : BitVec 32 := 2048#32
  let v1090 : BitVec 32 := Scalar.muli v1089 c2048_i32_824
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1091 : BitVec 32 := Scalar.addi v1090 v12
  let c640_i32_825 : BitVec 32 := 640#32
  let v1092 : BitVec 32 := Scalar.addi v1091 c640_i32_825
  let c0_i32_3546 : BitVec 32 := 0#32
  ![v1092.toNat, 0]
def k0_dev72 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off101 (d0 : Dev nD) : Fin 2 → Nat :=
  let c3_i32_227 : BitVec 32 := 3#32
  let c0_i32_226 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_221 : BitVec 32 := 2#32
  let v294 : BitVec 32 := Scalar.addi v8 c2_i32_221
  let v300 : BitVec 32 := Scalar.maxsi c0_i32_226 v294
  let v301 : BitVec 32 := Scalar.minsi c3_i32_227 v300
  let c2048_i32_228 : BitVec 32 := 2048#32
  let v302 : BitVec 32 := Scalar.muli v301 c2048_i32_228
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v303 : BitVec 32 := Scalar.addi v302 v12
  let c640_i32_229 : BitVec 32 := 640#32
  let v304 : BitVec 32 := Scalar.addi v303 c640_i32_229
  let c0_i32_3553 : BitVec 32 := 0#32
  ![v304.toNat, 0]
def k0_dev73 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3026 : BitVec 32 := Scalar.extui v3003
  let c0_i32_2673 : BitVec 32 := 0#32
  let v3027 : BitVec 1 := Scalar.cmpi .ne v3026 c0_i32_2673
  v3027

def k0_off102 (d0 : Dev nD) : Fin 2 → Nat :=
  let c3_i32_1519 : BitVec 32 := 3#32
  let c0_i32_1518 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v1953 : BitVec 32 := Scalar.subi v8 c1_i32_1512
  let c1_i32_1513 : BitVec 32 := 1#32
  let v1954 : BitVec 32 := Scalar.subi v1953 c1_i32_1513
  let v1960 : BitVec 32 := Scalar.maxsi c0_i32_1518 v1954
  let v1961 : BitVec 32 := Scalar.minsi c3_i32_1519 v1960
  let c2048_i32_1520 : BitVec 32 := 2048#32
  let v1962 : BitVec 32 := Scalar.muli v1961 c2048_i32_1520
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1963 : BitVec 32 := Scalar.addi v1962 v12
  let c640_i32_1521 : BitVec 32 := 640#32
  let v1964 : BitVec 32 := Scalar.addi v1963 c640_i32_1521
  let c0_i32_3540 : BitVec 32 := 0#32
  ![v1964.toNat, 0]
def k0_off103 (d0 : Dev nD) : Fin 2 → Nat :=
  let c3_i32_823 : BitVec 32 := 3#32
  let c0_i32_822 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v1071 : BitVec 32 := Scalar.addi v8 c1_i32_810
  let c1_i32_811 : BitVec 32 := 1#32
  let v1072 : BitVec 32 := Scalar.addi v1071 c1_i32_811
  let c4_i32_812 : BitVec 32 := 4#32
  let c0_i32_813 : BitVec 32 := 0#32
  let v1073 : BitVec 1 := Scalar.cmpi .eq c4_i32_812 c0_i32_813
  let c1_i32_814 : BitVec 32 := 1#32
  let v1074 : BitVec 32 := Scalar.select v1073 c1_i32_814 c4_i32_812
  let v1075 : BitVec 32 := Scalar.remsi v1072 v1074
  let c0_i32_816 : BitVec 32 := 0#32
  let v1077 : BitVec 1 := Scalar.cmpi .slt v1075 c0_i32_816
  let c0_i32_817 : BitVec 32 := 0#32
  let v1078 : BitVec 1 := Scalar.cmpi .slt v1074 c0_i32_817
  let v1079 : BitVec 1 := Scalar.xori v1077 v1078
  let c0_i32_815 : BitVec 32 := 0#32
  let v1076 : BitVec 1 := Scalar.cmpi .ne v1075 c0_i32_815
  let v1080 : BitVec 1 := Scalar.andi v1079 v1076
  let v1081 : BitVec 32 := Scalar.addi v1075 v1074
  let v1082 : BitVec 32 := Scalar.select v1080 v1081 v1075
  let v1088 : BitVec 32 := Scalar.maxsi c0_i32_822 v1082
  let v1089 : BitVec 32 := Scalar.minsi c3_i32_823 v1088
  let c2048_i32_824 : BitVec 32 := 2048#32
  let v1090 : BitVec 32 := Scalar.muli v1089 c2048_i32_824
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1091 : BitVec 32 := Scalar.addi v1090 v12
  let c640_i32_825 : BitVec 32 := 640#32
  let v1092 : BitVec 32 := Scalar.addi v1091 c640_i32_825
  let c0_i32_3546 : BitVec 32 := 0#32
  ![v1092.toNat, 0]
def k0_dev74 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off104 (d0 : Dev nD) : Fin 2 → Nat :=
  let c3_i32_467 : BitVec 32 := 3#32
  let c0_i32_466 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_461 : BitVec 32 := 2#32
  let v582 : BitVec 32 := Scalar.subi v8 c2_i32_461
  let v588 : BitVec 32 := Scalar.maxsi c0_i32_466 v582
  let v589 : BitVec 32 := Scalar.minsi c3_i32_467 v588
  let c2048_i32_468 : BitVec 32 := 2048#32
  let v590 : BitVec 32 := Scalar.muli v589 c2048_i32_468
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v591 : BitVec 32 := Scalar.addi v590 v12
  let c640_i32_469 : BitVec 32 := 640#32
  let v592 : BitVec 32 := Scalar.addi v591 c640_i32_469
  let c0_i32_3553 : BitVec 32 := 0#32
  ![v592.toNat, 0]
def k0_dev75 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3028 : BitVec 32 := Scalar.extui v3000
  let c0_i32_2686 : BitVec 32 := 0#32
  let v3029 : BitVec 1 := Scalar.cmpi .ne v3028 c0_i32_2686
  v3029

def k0_off105 (d0 : Dev nD) : Fin 2 → Nat :=
  let c3_i32_1243 : BitVec 32 := 3#32
  let c0_i32_1242 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1236 : BitVec 32 := 1#32
  let v1631 : BitVec 32 := Scalar.addi v8 c1_i32_1236
  let c1_i32_1237 : BitVec 32 := 1#32
  let v1632 : BitVec 32 := Scalar.addi v1631 c1_i32_1237
  let v1638 : BitVec 32 := Scalar.maxsi c0_i32_1242 v1632
  let v1639 : BitVec 32 := Scalar.minsi c3_i32_1243 v1638
  let c2048_i32_1244 : BitVec 32 := 2048#32
  let v1640 : BitVec 32 := Scalar.muli v1639 c2048_i32_1244
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1641 : BitVec 32 := Scalar.addi v1640 v12
  let c768_i32_1245 : BitVec 32 := 768#32
  let v1642 : BitVec 32 := Scalar.addi v1641 c768_i32_1245
  let c0_i32_3540 : BitVec 32 := 0#32
  ![v1642.toNat, 0]
def k0_off106 (d0 : Dev nD) : Fin 2 → Nat :=
  let c3_i32_847 : BitVec 32 := 3#32
  let c0_i32_846 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v1105 : BitVec 32 := Scalar.addi v8 c1_i32_834
  let c1_i32_835 : BitVec 32 := 1#32
  let v1106 : BitVec 32 := Scalar.addi v1105 c1_i32_835
  let c4_i32_836 : BitVec 32 := 4#32
  let c0_i32_837 : BitVec 32 := 0#32
  let v1107 : BitVec 1 := Scalar.cmpi .eq c4_i32_836 c0_i32_837
  let c1_i32_838 : BitVec 32 := 1#32
  let v1108 : BitVec 32 := Scalar.select v1107 c1_i32_838 c4_i32_836
  let v1109 : BitVec 32 := Scalar.remsi v1106 v1108
  let c0_i32_840 : BitVec 32 := 0#32
  let v1111 : BitVec 1 := Scalar.cmpi .slt v1109 c0_i32_840
  let c0_i32_841 : BitVec 32 := 0#32
  let v1112 : BitVec 1 := Scalar.cmpi .slt v1108 c0_i32_841
  let v1113 : BitVec 1 := Scalar.xori v1111 v1112
  let c0_i32_839 : BitVec 32 := 0#32
  let v1110 : BitVec 1 := Scalar.cmpi .ne v1109 c0_i32_839
  let v1114 : BitVec 1 := Scalar.andi v1113 v1110
  let v1115 : BitVec 32 := Scalar.addi v1109 v1108
  let v1116 : BitVec 32 := Scalar.select v1114 v1115 v1109
  let v1122 : BitVec 32 := Scalar.maxsi c0_i32_846 v1116
  let v1123 : BitVec 32 := Scalar.minsi c3_i32_847 v1122
  let c2048_i32_848 : BitVec 32 := 2048#32
  let v1124 : BitVec 32 := Scalar.muli v1123 c2048_i32_848
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1125 : BitVec 32 := Scalar.addi v1124 v12
  let c768_i32_849 : BitVec 32 := 768#32
  let v1126 : BitVec 32 := Scalar.addi v1125 c768_i32_849
  let c0_i32_3546 : BitVec 32 := 0#32
  ![v1126.toNat, 0]
def k0_dev76 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off107 (d0 : Dev nD) : Fin 2 → Nat :=
  let c3_i32_237 : BitVec 32 := 3#32
  let c0_i32_236 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_231 : BitVec 32 := 2#32
  let v306 : BitVec 32 := Scalar.addi v8 c2_i32_231
  let v312 : BitVec 32 := Scalar.maxsi c0_i32_236 v306
  let v313 : BitVec 32 := Scalar.minsi c3_i32_237 v312
  let c2048_i32_238 : BitVec 32 := 2048#32
  let v314 : BitVec 32 := Scalar.muli v313 c2048_i32_238
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v315 : BitVec 32 := Scalar.addi v314 v12
  let c768_i32_239 : BitVec 32 := 768#32
  let v316 : BitVec 32 := Scalar.addi v315 c768_i32_239
  let c0_i32_3553 : BitVec 32 := 0#32
  ![v316.toNat, 0]
def k0_dev77 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3030 : BitVec 32 := Scalar.extui v3003
  let c0_i32_2699 : BitVec 32 := 0#32
  let v3031 : BitVec 1 := Scalar.cmpi .ne v3030 c0_i32_2699
  v3031

def k0_off108 (d0 : Dev nD) : Fin 2 → Nat :=
  let c3_i32_1531 : BitVec 32 := 3#32
  let c0_i32_1530 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1524 : BitVec 32 := 1#32
  let v1967 : BitVec 32 := Scalar.subi v8 c1_i32_1524
  let c1_i32_1525 : BitVec 32 := 1#32
  let v1968 : BitVec 32 := Scalar.subi v1967 c1_i32_1525
  let v1974 : BitVec 32 := Scalar.maxsi c0_i32_1530 v1968
  let v1975 : BitVec 32 := Scalar.minsi c3_i32_1531 v1974
  let c2048_i32_1532 : BitVec 32 := 2048#32
  let v1976 : BitVec 32 := Scalar.muli v1975 c2048_i32_1532
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1977 : BitVec 32 := Scalar.addi v1976 v12
  let c768_i32_1533 : BitVec 32 := 768#32
  let v1978 : BitVec 32 := Scalar.addi v1977 c768_i32_1533
  let c0_i32_3540 : BitVec 32 := 0#32
  ![v1978.toNat, 0]
def k0_off109 (d0 : Dev nD) : Fin 2 → Nat :=
  let c3_i32_847 : BitVec 32 := 3#32
  let c0_i32_846 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v1105 : BitVec 32 := Scalar.addi v8 c1_i32_834
  let c1_i32_835 : BitVec 32 := 1#32
  let v1106 : BitVec 32 := Scalar.addi v1105 c1_i32_835
  let c4_i32_836 : BitVec 32 := 4#32
  let c0_i32_837 : BitVec 32 := 0#32
  let v1107 : BitVec 1 := Scalar.cmpi .eq c4_i32_836 c0_i32_837
  let c1_i32_838 : BitVec 32 := 1#32
  let v1108 : BitVec 32 := Scalar.select v1107 c1_i32_838 c4_i32_836
  let v1109 : BitVec 32 := Scalar.remsi v1106 v1108
  let c0_i32_840 : BitVec 32 := 0#32
  let v1111 : BitVec 1 := Scalar.cmpi .slt v1109 c0_i32_840
  let c0_i32_841 : BitVec 32 := 0#32
  let v1112 : BitVec 1 := Scalar.cmpi .slt v1108 c0_i32_841
  let v1113 : BitVec 1 := Scalar.xori v1111 v1112
  let c0_i32_839 : BitVec 32 := 0#32
  let v1110 : BitVec 1 := Scalar.cmpi .ne v1109 c0_i32_839
  let v1114 : BitVec 1 := Scalar.andi v1113 v1110
  let v1115 : BitVec 32 := Scalar.addi v1109 v1108
  let v1116 : BitVec 32 := Scalar.select v1114 v1115 v1109
  let v1122 : BitVec 32 := Scalar.maxsi c0_i32_846 v1116
  let v1123 : BitVec 32 := Scalar.minsi c3_i32_847 v1122
  let c2048_i32_848 : BitVec 32 := 2048#32
  let v1124 : BitVec 32 := Scalar.muli v1123 c2048_i32_848
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1125 : BitVec 32 := Scalar.addi v1124 v12
  let c768_i32_849 : BitVec 32 := 768#32
  let v1126 : BitVec 32 := Scalar.addi v1125 c768_i32_849
  let c0_i32_3546 : BitVec 32 := 0#32
  ![v1126.toNat, 0]
def k0_dev78 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off110 (d0 : Dev nD) : Fin 2 → Nat :=
  let c3_i32_477 : BitVec 32 := 3#32
  let c0_i32_476 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_471 : BitVec 32 := 2#32
  let v594 : BitVec 32 := Scalar.subi v8 c2_i32_471
  let v600 : BitVec 32 := Scalar.maxsi c0_i32_476 v594
  let v601 : BitVec 32 := Scalar.minsi c3_i32_477 v600
  let c2048_i32_478 : BitVec 32 := 2048#32
  let v602 : BitVec 32 := Scalar.muli v601 c2048_i32_478
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v603 : BitVec 32 := Scalar.addi v602 v12
  let c768_i32_479 : BitVec 32 := 768#32
  let v604 : BitVec 32 := Scalar.addi v603 c768_i32_479
  let c0_i32_3553 : BitVec 32 := 0#32
  ![v604.toNat, 0]
def k0_dev79 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2512 : BitVec 32 := 1#32
  let v2998 : BitVec 32 := Scalar.addi v8 c1_i32_2512
  let c1_i32_2513 : BitVec 32 := 1#32
  let v2999 : BitVec 32 := Scalar.addi v2998 c1_i32_2513
  let c3_i32_2514 : BitVec 32 := 3#32
  let v3000 : BitVec 1 := Scalar.cmpi .sle v2999 c3_i32_2514
  let v3032 : BitVec 32 := Scalar.extui v3000
  let c0_i32_2712 : BitVec 32 := 0#32
  let v3033 : BitVec 1 := Scalar.cmpi .ne v3032 c0_i32_2712
  v3033

def k0_off111 (d0 : Dev nD) : Fin 2 → Nat :=
  let c3_i32_1255 : BitVec 32 := 3#32
  let c0_i32_1254 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1248 : BitVec 32 := 1#32
  let v1645 : BitVec 32 := Scalar.addi v8 c1_i32_1248
  let c1_i32_1249 : BitVec 32 := 1#32
  let v1646 : BitVec 32 := Scalar.addi v1645 c1_i32_1249
  let v1652 : BitVec 32 := Scalar.maxsi c0_i32_1254 v1646
  let v1653 : BitVec 32 := Scalar.minsi c3_i32_1255 v1652
  let c2048_i32_1256 : BitVec 32 := 2048#32
  let v1654 : BitVec 32 := Scalar.muli v1653 c2048_i32_1256
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1655 : BitVec 32 := Scalar.addi v1654 v12
  let c896_i32_1257 : BitVec 32 := 896#32
  let v1656 : BitVec 32 := Scalar.addi v1655 c896_i32_1257
  let c0_i32_3540 : BitVec 32 := 0#32
  ![v1656.toNat, 0]
def k0_off112 (d0 : Dev nD) : Fin 2 → Nat :=
  let c3_i32_871 : BitVec 32 := 3#32
  let c0_i32_870 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v1139 : BitVec 32 := Scalar.addi v8 c1_i32_858
  let c1_i32_859 : BitVec 32 := 1#32
  let v1140 : BitVec 32 := Scalar.addi v1139 c1_i32_859
  let c4_i32_860 : BitVec 32 := 4#32
  let c0_i32_861 : BitVec 32 := 0#32
  let v1141 : BitVec 1 := Scalar.cmpi .eq c4_i32_860 c0_i32_861
  let c1_i32_862 : BitVec 32 := 1#32
  let v1142 : BitVec 32 := Scalar.select v1141 c1_i32_862 c4_i32_860
  let v1143 : BitVec 32 := Scalar.remsi v1140 v1142
  let c0_i32_864 : BitVec 32 := 0#32
  let v1145 : BitVec 1 := Scalar.cmpi .slt v1143 c0_i32_864
  let c0_i32_865 : BitVec 32 := 0#32
  let v1146 : BitVec 1 := Scalar.cmpi .slt v1142 c0_i32_865
  let v1147 : BitVec 1 := Scalar.xori v1145 v1146
  let c0_i32_863 : BitVec 32 := 0#32
  let v1144 : BitVec 1 := Scalar.cmpi .ne v1143 c0_i32_863
  let v1148 : BitVec 1 := Scalar.andi v1147 v1144
  let v1149 : BitVec 32 := Scalar.addi v1143 v1142
  let v1150 : BitVec 32 := Scalar.select v1148 v1149 v1143
  let v1156 : BitVec 32 := Scalar.maxsi c0_i32_870 v1150
  let v1157 : BitVec 32 := Scalar.minsi c3_i32_871 v1156
  let c2048_i32_872 : BitVec 32 := 2048#32
  let v1158 : BitVec 32 := Scalar.muli v1157 c2048_i32_872
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1159 : BitVec 32 := Scalar.addi v1158 v12
  let c896_i32_873 : BitVec 32 := 896#32
  let v1160 : BitVec 32 := Scalar.addi v1159 c896_i32_873
  let c0_i32_3546 : BitVec 32 := 0#32
  ![v1160.toNat, 0]
def k0_dev80 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3544 : BitVec 32 := Scalar.extui v15
  let c0_i32_3548 : BitVec 32 := 0#32
  let v3545 : BitVec 1 := Scalar.cmpi .ne v3544 c0_i32_3548
  v3545

def k0_off113 (d0 : Dev nD) : Fin 2 → Nat :=
  let c3_i32_247 : BitVec 32 := 3#32
  let c0_i32_246 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_241 : BitVec 32 := 2#32
  let v318 : BitVec 32 := Scalar.addi v8 c2_i32_241
  let v324 : BitVec 32 := Scalar.maxsi c0_i32_246 v318
  let v325 : BitVec 32 := Scalar.minsi c3_i32_247 v324
  let c2048_i32_248 : BitVec 32 := 2048#32
  let v326 : BitVec 32 := Scalar.muli v325 c2048_i32_248
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v327 : BitVec 32 := Scalar.addi v326 v12
  let c896_i32_249 : BitVec 32 := 896#32
  let v328 : BitVec 32 := Scalar.addi v327 c896_i32_249
  let c0_i32_3553 : BitVec 32 := 0#32
  ![v328.toNat, 0]
def k0_dev81 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.subi v8 c1_i32_3
  let c1_i32_3552 : BitVec 32 := 1#32
  let v3550 : BitVec 32 := Scalar.muli v10 c1_i32_3552
  let v3551 : BitVec 32 := Scalar.addi v3549 v3550
  v3551.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2515 : BitVec 32 := 1#32
  let v3001 : BitVec 32 := Scalar.subi v8 c1_i32_2515
  let c1_i32_2516 : BitVec 32 := 1#32
  let v3002 : BitVec 32 := Scalar.subi v3001 c1_i32_2516
  let c0_i32_2517 : BitVec 32 := 0#32
  let v3003 : BitVec 1 := Scalar.cmpi .sge v3002 c0_i32_2517
  let v3034 : BitVec 32 := Scalar.extui v3003
  let c0_i32_2725 : BitVec 32 := 0#32
  let v3035 : BitVec 1 := Scalar.cmpi .ne v3034 c0_i32_2725
  v3035

def k0_off114 (d0 : Dev nD) : Fin 2 → Nat :=
  let c3_i32_1543 : BitVec 32 := 3#32
  let c0_i32_1542 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1536 : BitVec 32 := 1#32
  let v1981 : BitVec 32 := Scalar.subi v8 c1_i32_1536
  let c1_i32_1537 : BitVec 32 := 1#32
  let v1982 : BitVec 32 := Scalar.subi v1981 c1_i32_1537
  let v1988 : BitVec 32 := Scalar.maxsi c0_i32_1542 v1982
  let v1989 : BitVec 32 := Scalar.minsi c3_i32_1543 v1988
  let c2048_i32_1544 : BitVec 32 := 2048#32
  let v1990 : BitVec 32 := Scalar.muli v1989 c2048_i32_1544
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1991 : BitVec 32 := Scalar.addi v1990 v12
  let c896_i32_1545 : BitVec 32 := 896#32
  let v1992 : BitVec 32 := Scalar.addi v1991 c896_i32_1545
  let c0_i32_3540 : BitVec 32 := 0#32
  ![v1992.toNat, 0]
def k0_off115 (d0 : Dev nD) : Fin 2 → Nat :=
  let c3_i32_871 : BitVec 32 := 3#32
  let c0_i32_870 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v1139 : BitVec 32 := Scalar.addi v8 c1_i32_858
  let c1_i32_859 : BitVec 32 := 1#32
  let v1140 : BitVec 32 := Scalar.addi v1139 c1_i32_859
  let c4_i32_860 : BitVec 32 := 4#32
  let c0_i32_861 : BitVec 32 := 0#32
  let v1141 : BitVec 1 := Scalar.cmpi .eq c4_i32_860 c0_i32_861
  let c1_i32_862 : BitVec 32 := 1#32
  let v1142 : BitVec 32 := Scalar.select v1141 c1_i32_862 c4_i32_860
  let v1143 : BitVec 32 := Scalar.remsi v1140 v1142
  let c0_i32_864 : BitVec 32 := 0#32
  let v1145 : BitVec 1 := Scalar.cmpi .slt v1143 c0_i32_864
  let c0_i32_865 : BitVec 32 := 0#32
  let v1146 : BitVec 1 := Scalar.cmpi .slt v1142 c0_i32_865
  let v1147 : BitVec 1 := Scalar.xori v1145 v1146
  let c0_i32_863 : BitVec 32 := 0#32
  let v1144 : BitVec 1 := Scalar.cmpi .ne v1143 c0_i32_863
  let v1148 : BitVec 1 := Scalar.andi v1147 v1144
  let v1149 : BitVec 32 := Scalar.addi v1143 v1142
  let v1150 : BitVec 32 := Scalar.select v1148 v1149 v1143
  let v1156 : BitVec 32 := Scalar.maxsi c0_i32_870 v1150
  let v1157 : BitVec 32 := Scalar.minsi c3_i32_871 v1156
  let c2048_i32_872 : BitVec 32 := 2048#32
  let v1158 : BitVec 32 := Scalar.muli v1157 c2048_i32_872
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1159 : BitVec 32 := Scalar.addi v1158 v12
  let c896_i32_873 : BitVec 32 := 896#32
  let v1160 : BitVec 32 := Scalar.addi v1159 c896_i32_873
  let c0_i32_3546 : BitVec 32 := 0#32
  ![v1160.toNat, 0]
def k0_dev82 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3544 : BitVec 32 := Scalar.extui v16
  let c0_i32_3548 : BitVec 32 := 0#32
  let v3545 : BitVec 1 := Scalar.cmpi .ne v3544 c0_i32_3548
  v3545

def k0_off116 (d0 : Dev nD) : Fin 2 → Nat :=
  let c3_i32_487 : BitVec 32 := 3#32
  let c0_i32_486 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_481 : BitVec 32 := 2#32
  let v606 : BitVec 32 := Scalar.subi v8 c2_i32_481
  let v612 : BitVec 32 := Scalar.maxsi c0_i32_486 v606
  let v613 : BitVec 32 := Scalar.minsi c3_i32_487 v612
  let c2048_i32_488 : BitVec 32 := 2048#32
  let v614 : BitVec 32 := Scalar.muli v613 c2048_i32_488
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v615 : BitVec 32 := Scalar.addi v614 v12
  let c896_i32_489 : BitVec 32 := 896#32
  let v616 : BitVec 32 := Scalar.addi v615 c896_i32_489
  let c0_i32_3553 : BitVec 32 := 0#32
  ![v616.toNat, 0]
def k0_dev83 (d0 : Dev nD) : Nat :=
  let c0_i32_3550 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3549 : BitVec 32 := 16#32
  let v3546 : BitVec 32 := Scalar.muli v2 c16_i32_3549
  let v3547 : BitVec 32 := Scalar.addi c0_i32_3550 v3546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3551 : BitVec 32 := 4#32
  let v3548 : BitVec 32 := Scalar.muli v5 c4_i32_3551
  let v3549 : BitVec 32 := Scalar.addi v3547 v3548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c1_i32_3552 : BitVec 32 := 1#32
  let v3550 : BitVec 32 := Scalar.muli v11 c1_i32_3552
  let v3551 : BitVec 32 := Scalar.addi v3549 v3550
  v3551.toNat
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3042 : BitVec 32 := Scalar.extui v3038
  let c0_i32_2740 : BitVec 32 := 0#32
  let v3043 : BitVec 1 := Scalar.cmpi .ne v3042 c0_i32_2740
  v3043

def k0_off117 (d0 : Dev nD) : Fin 2 → Nat :=
  let c3_i32_1267 : BitVec 32 := 3#32
  let c0_i32_1266 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1260 : BitVec 32 := 1#32
  let v1659 : BitVec 32 := Scalar.addi v8 c1_i32_1260
  let c2_i32_1261 : BitVec 32 := 2#32
  let v1660 : BitVec 32 := Scalar.addi v1659 c2_i32_1261
  let v1666 : BitVec 32 := Scalar.maxsi c0_i32_1266 v1660
  let v1667 : BitVec 32 := Scalar.minsi c3_i32_1267 v1666
  let c2048_i32_1268 : BitVec 32 := 2048#32
  let v1668 : BitVec 32 := Scalar.muli v1667 c2048_i32_1268
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1669 : BitVec 32 := Scalar.addi v1668 v12
  let c0_i32_1269 : BitVec 32 := 0#32
  let v1670 : BitVec 32 := Scalar.addi v1669 c0_i32_1269
  let c0_i32_3540 : BitVec 32 := 0#32
  ![v1670.toNat, 0]
def k0_off118 (d0 : Dev nD) : Fin 2 → Nat :=
  let c3_i32_895 : BitVec 32 := 3#32
  let c0_i32_894 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v1173 : BitVec 32 := Scalar.addi v8 c1_i32_882
  let c2_i32_883 : BitVec 32 := 2#32
  let v1174 : BitVec 32 := Scalar.addi v1173 c2_i32_883
  let c4_i32_884 : BitVec 32 := 4#32
  let c0_i32_885 : BitVec 32 := 0#32
  let v1175 : BitVec 1 := Scalar.cmpi .eq c4_i32_884 c0_i32_885
  let c1_i32_886 : BitVec 32 := 1#32
  let v1176 : BitVec 32 := Scalar.select v1175 c1_i32_886 c4_i32_884
  let v1177 : BitVec 32 := Scalar.remsi v1174 v1176
  let c0_i32_888 : BitVec 32 := 0#32
  let v1179 : BitVec 1 := Scalar.cmpi .slt v1177 c0_i32_888
  let c0_i32_889 : BitVec 32 := 0#32
  let v1180 : BitVec 1 := Scalar.cmpi .slt v1176 c0_i32_889
  let v1181 : BitVec 1 := Scalar.xori v1179 v1180
  let c0_i32_887 : BitVec 32 := 0#32
  let v1178 : BitVec 1 := Scalar.cmpi .ne v1177 c0_i32_887
  let v1182 : BitVec 1 := Scalar.andi v1181 v1178
  let v1183 : BitVec 32 := Scalar.addi v1177 v1176
  let v1184 : BitVec 32 := Scalar.select v1182 v1183 v1177
  let v1190 : BitVec 32 := Scalar.maxsi c0_i32_894 v1184
  let v1191 : BitVec 32 := Scalar.minsi c3_i32_895 v1190
  let c2048_i32_896 : BitVec 32 := 2048#32
  let v1192 : BitVec 32 := Scalar.muli v1191 c2048_i32_896
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1193 : BitVec 32 := Scalar.addi v1192 v12
  let c0_i32_897 : BitVec 32 := 0#32
  let v1194 : BitVec 32 := Scalar.addi v1193 c0_i32_897
  let c0_i32_3546 : BitVec 32 := 0#32
  ![v1194.toNat, 0]
def k0_dev84 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3044 : BitVec 32 := Scalar.extui v3041
  let c0_i32_2749 : BitVec 32 := 0#32
  let v3045 : BitVec 1 := Scalar.cmpi .ne v3044 c0_i32_2749
  v3045

def k0_off119 (d0 : Dev nD) : Fin 2 → Nat :=
  let c3_i32_1555 : BitVec 32 := 3#32
  let c0_i32_1554 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1548 : BitVec 32 := 1#32
  let v1995 : BitVec 32 := Scalar.subi v8 c1_i32_1548
  let c2_i32_1549 : BitVec 32 := 2#32
  let v1996 : BitVec 32 := Scalar.subi v1995 c2_i32_1549
  let v2002 : BitVec 32 := Scalar.maxsi c0_i32_1554 v1996
  let v2003 : BitVec 32 := Scalar.minsi c3_i32_1555 v2002
  let c2048_i32_1556 : BitVec 32 := 2048#32
  let v2004 : BitVec 32 := Scalar.muli v2003 c2048_i32_1556
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2005 : BitVec 32 := Scalar.addi v2004 v12
  let c0_i32_1557 : BitVec 32 := 0#32
  let v2006 : BitVec 32 := Scalar.addi v2005 c0_i32_1557
  let c0_i32_3540 : BitVec 32 := 0#32
  ![v2006.toNat, 0]
def k0_off120 (d0 : Dev nD) : Fin 2 → Nat :=
  let c3_i32_511 : BitVec 32 := 3#32
  let c0_i32_510 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_498 : BitVec 32 := 1#32
  let v629 : BitVec 32 := Scalar.addi v8 c1_i32_498
  let c0_i32_499 : BitVec 32 := 0#32
  let v630 : BitVec 32 := Scalar.addi v629 c0_i32_499
  let c4_i32_500 : BitVec 32 := 4#32
  let c0_i32_501 : BitVec 32 := 0#32
  let v631 : BitVec 1 := Scalar.cmpi .eq c4_i32_500 c0_i32_501
  let c1_i32_502 : BitVec 32 := 1#32
  let v632 : BitVec 32 := Scalar.select v631 c1_i32_502 c4_i32_500
  let v633 : BitVec 32 := Scalar.remsi v630 v632
  let c0_i32_504 : BitVec 32 := 0#32
  let v635 : BitVec 1 := Scalar.cmpi .slt v633 c0_i32_504
  let c0_i32_505 : BitVec 32 := 0#32
  let v636 : BitVec 1 := Scalar.cmpi .slt v632 c0_i32_505
  let v637 : BitVec 1 := Scalar.xori v635 v636
  let c0_i32_503 : BitVec 32 := 0#32
  let v634 : BitVec 1 := Scalar.cmpi .ne v633 c0_i32_503
  let v638 : BitVec 1 := Scalar.andi v637 v634
  let v639 : BitVec 32 := Scalar.addi v633 v632
  let v640 : BitVec 32 := Scalar.select v638 v639 v633
  let v646 : BitVec 32 := Scalar.maxsi c0_i32_510 v640
  let v647 : BitVec 32 := Scalar.minsi c3_i32_511 v646
  let c2048_i32_512 : BitVec 32 := 2048#32
  let v648 : BitVec 32 := Scalar.muli v647 c2048_i32_512
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v649 : BitVec 32 := Scalar.addi v648 v12
  let c0_i32_513 : BitVec 32 := 0#32
  let v650 : BitVec 32 := Scalar.addi v649 c0_i32_513
  let c0_i32_3546 : BitVec 32 := 0#32
  ![v650.toNat, 0]
def k0_dev85 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3046 : BitVec 32 := Scalar.extui v3038
  let c0_i32_2758 : BitVec 32 := 0#32
  let v3047 : BitVec 1 := Scalar.cmpi .ne v3046 c0_i32_2758
  v3047

def k0_off121 (d0 : Dev nD) : Fin 2 → Nat :=
  let c3_i32_1279 : BitVec 32 := 3#32
  let c0_i32_1278 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1673 : BitVec 32 := Scalar.addi v8 c1_i32_1272
  let c2_i32_1273 : BitVec 32 := 2#32
  let v1674 : BitVec 32 := Scalar.addi v1673 c2_i32_1273
  let v1680 : BitVec 32 := Scalar.maxsi c0_i32_1278 v1674
  let v1681 : BitVec 32 := Scalar.minsi c3_i32_1279 v1680
  let c2048_i32_1280 : BitVec 32 := 2048#32
  let v1682 : BitVec 32 := Scalar.muli v1681 c2048_i32_1280
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1683 : BitVec 32 := Scalar.addi v1682 v12
  let c128_i32_1281 : BitVec 32 := 128#32
  let v1684 : BitVec 32 := Scalar.addi v1683 c128_i32_1281
  let c0_i32_3540 : BitVec 32 := 0#32
  ![v1684.toNat, 0]
def k0_off122 (d0 : Dev nD) : Fin 2 → Nat :=
  let c3_i32_919 : BitVec 32 := 3#32
  let c0_i32_918 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v1207 : BitVec 32 := Scalar.addi v8 c1_i32_906
  let c2_i32_907 : BitVec 32 := 2#32
  let v1208 : BitVec 32 := Scalar.addi v1207 c2_i32_907
  let c4_i32_908 : BitVec 32 := 4#32
  let c0_i32_909 : BitVec 32 := 0#32
  let v1209 : BitVec 1 := Scalar.cmpi .eq c4_i32_908 c0_i32_909
  let c1_i32_910 : BitVec 32 := 1#32
  let v1210 : BitVec 32 := Scalar.select v1209 c1_i32_910 c4_i32_908
  let v1211 : BitVec 32 := Scalar.remsi v1208 v1210
  let c0_i32_912 : BitVec 32 := 0#32
  let v1213 : BitVec 1 := Scalar.cmpi .slt v1211 c0_i32_912
  let c0_i32_913 : BitVec 32 := 0#32
  let v1214 : BitVec 1 := Scalar.cmpi .slt v1210 c0_i32_913
  let v1215 : BitVec 1 := Scalar.xori v1213 v1214
  let c0_i32_911 : BitVec 32 := 0#32
  let v1212 : BitVec 1 := Scalar.cmpi .ne v1211 c0_i32_911
  let v1216 : BitVec 1 := Scalar.andi v1215 v1212
  let v1217 : BitVec 32 := Scalar.addi v1211 v1210
  let v1218 : BitVec 32 := Scalar.select v1216 v1217 v1211
  let v1224 : BitVec 32 := Scalar.maxsi c0_i32_918 v1218
  let v1225 : BitVec 32 := Scalar.minsi c3_i32_919 v1224
  let c2048_i32_920 : BitVec 32 := 2048#32
  let v1226 : BitVec 32 := Scalar.muli v1225 c2048_i32_920
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1227 : BitVec 32 := Scalar.addi v1226 v12
  let c128_i32_921 : BitVec 32 := 128#32
  let v1228 : BitVec 32 := Scalar.addi v1227 c128_i32_921
  let c0_i32_3546 : BitVec 32 := 0#32
  ![v1228.toNat, 0]
def k0_dev86 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3048 : BitVec 32 := Scalar.extui v3041
  let c0_i32_2767 : BitVec 32 := 0#32
  let v3049 : BitVec 1 := Scalar.cmpi .ne v3048 c0_i32_2767
  v3049

def k0_off123 (d0 : Dev nD) : Fin 2 → Nat :=
  let c3_i32_1567 : BitVec 32 := 3#32
  let c0_i32_1566 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1560 : BitVec 32 := 1#32
  let v2009 : BitVec 32 := Scalar.subi v8 c1_i32_1560
  let c2_i32_1561 : BitVec 32 := 2#32
  let v2010 : BitVec 32 := Scalar.subi v2009 c2_i32_1561
  let v2016 : BitVec 32 := Scalar.maxsi c0_i32_1566 v2010
  let v2017 : BitVec 32 := Scalar.minsi c3_i32_1567 v2016
  let c2048_i32_1568 : BitVec 32 := 2048#32
  let v2018 : BitVec 32 := Scalar.muli v2017 c2048_i32_1568
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2019 : BitVec 32 := Scalar.addi v2018 v12
  let c128_i32_1569 : BitVec 32 := 128#32
  let v2020 : BitVec 32 := Scalar.addi v2019 c128_i32_1569
  let c0_i32_3540 : BitVec 32 := 0#32
  ![v2020.toNat, 0]
def k0_off124 (d0 : Dev nD) : Fin 2 → Nat :=
  let c3_i32_535 : BitVec 32 := 3#32
  let c0_i32_534 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_522 : BitVec 32 := 1#32
  let v663 : BitVec 32 := Scalar.addi v8 c1_i32_522
  let c0_i32_523 : BitVec 32 := 0#32
  let v664 : BitVec 32 := Scalar.addi v663 c0_i32_523
  let c4_i32_524 : BitVec 32 := 4#32
  let c0_i32_525 : BitVec 32 := 0#32
  let v665 : BitVec 1 := Scalar.cmpi .eq c4_i32_524 c0_i32_525
  let c1_i32_526 : BitVec 32 := 1#32
  let v666 : BitVec 32 := Scalar.select v665 c1_i32_526 c4_i32_524
  let v667 : BitVec 32 := Scalar.remsi v664 v666
  let c0_i32_528 : BitVec 32 := 0#32
  let v669 : BitVec 1 := Scalar.cmpi .slt v667 c0_i32_528
  let c0_i32_529 : BitVec 32 := 0#32
  let v670 : BitVec 1 := Scalar.cmpi .slt v666 c0_i32_529
  let v671 : BitVec 1 := Scalar.xori v669 v670
  let c0_i32_527 : BitVec 32 := 0#32
  let v668 : BitVec 1 := Scalar.cmpi .ne v667 c0_i32_527
  let v672 : BitVec 1 := Scalar.andi v671 v668
  let v673 : BitVec 32 := Scalar.addi v667 v666
  let v674 : BitVec 32 := Scalar.select v672 v673 v667
  let v680 : BitVec 32 := Scalar.maxsi c0_i32_534 v674
  let v681 : BitVec 32 := Scalar.minsi c3_i32_535 v680
  let c2048_i32_536 : BitVec 32 := 2048#32
  let v682 : BitVec 32 := Scalar.muli v681 c2048_i32_536
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v683 : BitVec 32 := Scalar.addi v682 v12
  let c128_i32_537 : BitVec 32 := 128#32
  let v684 : BitVec 32 := Scalar.addi v683 c128_i32_537
  let c0_i32_3546 : BitVec 32 := 0#32
  ![v684.toNat, 0]
def k0_dev87 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3050 : BitVec 32 := Scalar.extui v3038
  let c0_i32_2776 : BitVec 32 := 0#32
  let v3051 : BitVec 1 := Scalar.cmpi .ne v3050 c0_i32_2776
  v3051

def k0_off125 (d0 : Dev nD) : Fin 2 → Nat :=
  let c3_i32_1291 : BitVec 32 := 3#32
  let c0_i32_1290 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1284 : BitVec 32 := 1#32
  let v1687 : BitVec 32 := Scalar.addi v8 c1_i32_1284
  let c2_i32_1285 : BitVec 32 := 2#32
  let v1688 : BitVec 32 := Scalar.addi v1687 c2_i32_1285
  let v1694 : BitVec 32 := Scalar.maxsi c0_i32_1290 v1688
  let v1695 : BitVec 32 := Scalar.minsi c3_i32_1291 v1694
  let c2048_i32_1292 : BitVec 32 := 2048#32
  let v1696 : BitVec 32 := Scalar.muli v1695 c2048_i32_1292
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1697 : BitVec 32 := Scalar.addi v1696 v12
  let c256_i32_1293 : BitVec 32 := 256#32
  let v1698 : BitVec 32 := Scalar.addi v1697 c256_i32_1293
  let c0_i32_3540 : BitVec 32 := 0#32
  ![v1698.toNat, 0]
def k0_off126 (d0 : Dev nD) : Fin 2 → Nat :=
  let c3_i32_943 : BitVec 32 := 3#32
  let c0_i32_942 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_930 : BitVec 32 := 1#32
  let v1241 : BitVec 32 := Scalar.addi v8 c1_i32_930
  let c2_i32_931 : BitVec 32 := 2#32
  let v1242 : BitVec 32 := Scalar.addi v1241 c2_i32_931
  let c4_i32_932 : BitVec 32 := 4#32
  let c0_i32_933 : BitVec 32 := 0#32
  let v1243 : BitVec 1 := Scalar.cmpi .eq c4_i32_932 c0_i32_933
  let c1_i32_934 : BitVec 32 := 1#32
  let v1244 : BitVec 32 := Scalar.select v1243 c1_i32_934 c4_i32_932
  let v1245 : BitVec 32 := Scalar.remsi v1242 v1244
  let c0_i32_936 : BitVec 32 := 0#32
  let v1247 : BitVec 1 := Scalar.cmpi .slt v1245 c0_i32_936
  let c0_i32_937 : BitVec 32 := 0#32
  let v1248 : BitVec 1 := Scalar.cmpi .slt v1244 c0_i32_937
  let v1249 : BitVec 1 := Scalar.xori v1247 v1248
  let c0_i32_935 : BitVec 32 := 0#32
  let v1246 : BitVec 1 := Scalar.cmpi .ne v1245 c0_i32_935
  let v1250 : BitVec 1 := Scalar.andi v1249 v1246
  let v1251 : BitVec 32 := Scalar.addi v1245 v1244
  let v1252 : BitVec 32 := Scalar.select v1250 v1251 v1245
  let v1258 : BitVec 32 := Scalar.maxsi c0_i32_942 v1252
  let v1259 : BitVec 32 := Scalar.minsi c3_i32_943 v1258
  let c2048_i32_944 : BitVec 32 := 2048#32
  let v1260 : BitVec 32 := Scalar.muli v1259 c2048_i32_944
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1261 : BitVec 32 := Scalar.addi v1260 v12
  let c256_i32_945 : BitVec 32 := 256#32
  let v1262 : BitVec 32 := Scalar.addi v1261 c256_i32_945
  let c0_i32_3546 : BitVec 32 := 0#32
  ![v1262.toNat, 0]
def k0_dev88 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3052 : BitVec 32 := Scalar.extui v3041
  let c0_i32_2785 : BitVec 32 := 0#32
  let v3053 : BitVec 1 := Scalar.cmpi .ne v3052 c0_i32_2785
  v3053

def k0_off127 (d0 : Dev nD) : Fin 2 → Nat :=
  let c3_i32_1579 : BitVec 32 := 3#32
  let c0_i32_1578 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1572 : BitVec 32 := 1#32
  let v2023 : BitVec 32 := Scalar.subi v8 c1_i32_1572
  let c2_i32_1573 : BitVec 32 := 2#32
  let v2024 : BitVec 32 := Scalar.subi v2023 c2_i32_1573
  let v2030 : BitVec 32 := Scalar.maxsi c0_i32_1578 v2024
  let v2031 : BitVec 32 := Scalar.minsi c3_i32_1579 v2030
  let c2048_i32_1580 : BitVec 32 := 2048#32
  let v2032 : BitVec 32 := Scalar.muli v2031 c2048_i32_1580
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2033 : BitVec 32 := Scalar.addi v2032 v12
  let c256_i32_1581 : BitVec 32 := 256#32
  let v2034 : BitVec 32 := Scalar.addi v2033 c256_i32_1581
  let c0_i32_3540 : BitVec 32 := 0#32
  ![v2034.toNat, 0]
def k0_off128 (d0 : Dev nD) : Fin 2 → Nat :=
  let c3_i32_559 : BitVec 32 := 3#32
  let c0_i32_558 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v697 : BitVec 32 := Scalar.addi v8 c1_i32_546
  let c0_i32_547 : BitVec 32 := 0#32
  let v698 : BitVec 32 := Scalar.addi v697 c0_i32_547
  let c4_i32_548 : BitVec 32 := 4#32
  let c0_i32_549 : BitVec 32 := 0#32
  let v699 : BitVec 1 := Scalar.cmpi .eq c4_i32_548 c0_i32_549
  let c1_i32_550 : BitVec 32 := 1#32
  let v700 : BitVec 32 := Scalar.select v699 c1_i32_550 c4_i32_548
  let v701 : BitVec 32 := Scalar.remsi v698 v700
  let c0_i32_552 : BitVec 32 := 0#32
  let v703 : BitVec 1 := Scalar.cmpi .slt v701 c0_i32_552
  let c0_i32_553 : BitVec 32 := 0#32
  let v704 : BitVec 1 := Scalar.cmpi .slt v700 c0_i32_553
  let v705 : BitVec 1 := Scalar.xori v703 v704
  let c0_i32_551 : BitVec 32 := 0#32
  let v702 : BitVec 1 := Scalar.cmpi .ne v701 c0_i32_551
  let v706 : BitVec 1 := Scalar.andi v705 v702
  let v707 : BitVec 32 := Scalar.addi v701 v700
  let v708 : BitVec 32 := Scalar.select v706 v707 v701
  let v714 : BitVec 32 := Scalar.maxsi c0_i32_558 v708
  let v715 : BitVec 32 := Scalar.minsi c3_i32_559 v714
  let c2048_i32_560 : BitVec 32 := 2048#32
  let v716 : BitVec 32 := Scalar.muli v715 c2048_i32_560
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v717 : BitVec 32 := Scalar.addi v716 v12
  let c256_i32_561 : BitVec 32 := 256#32
  let v718 : BitVec 32 := Scalar.addi v717 c256_i32_561
  let c0_i32_3546 : BitVec 32 := 0#32
  ![v718.toNat, 0]
def k0_dev89 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3054 : BitVec 32 := Scalar.extui v3038
  let c0_i32_2794 : BitVec 32 := 0#32
  let v3055 : BitVec 1 := Scalar.cmpi .ne v3054 c0_i32_2794
  v3055

def k0_off129 (d0 : Dev nD) : Fin 2 → Nat :=
  let c3_i32_1303 : BitVec 32 := 3#32
  let c0_i32_1302 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1296 : BitVec 32 := 1#32
  let v1701 : BitVec 32 := Scalar.addi v8 c1_i32_1296
  let c2_i32_1297 : BitVec 32 := 2#32
  let v1702 : BitVec 32 := Scalar.addi v1701 c2_i32_1297
  let v1708 : BitVec 32 := Scalar.maxsi c0_i32_1302 v1702
  let v1709 : BitVec 32 := Scalar.minsi c3_i32_1303 v1708
  let c2048_i32_1304 : BitVec 32 := 2048#32
  let v1710 : BitVec 32 := Scalar.muli v1709 c2048_i32_1304
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1711 : BitVec 32 := Scalar.addi v1710 v12
  let c384_i32_1305 : BitVec 32 := 384#32
  let v1712 : BitVec 32 := Scalar.addi v1711 c384_i32_1305
  let c0_i32_3540 : BitVec 32 := 0#32
  ![v1712.toNat, 0]
def k0_off130 (d0 : Dev nD) : Fin 2 → Nat :=
  let c3_i32_967 : BitVec 32 := 3#32
  let c0_i32_966 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_954 : BitVec 32 := 1#32
  let v1275 : BitVec 32 := Scalar.addi v8 c1_i32_954
  let c2_i32_955 : BitVec 32 := 2#32
  let v1276 : BitVec 32 := Scalar.addi v1275 c2_i32_955
  let c4_i32_956 : BitVec 32 := 4#32
  let c0_i32_957 : BitVec 32 := 0#32
  let v1277 : BitVec 1 := Scalar.cmpi .eq c4_i32_956 c0_i32_957
  let c1_i32_958 : BitVec 32 := 1#32
  let v1278 : BitVec 32 := Scalar.select v1277 c1_i32_958 c4_i32_956
  let v1279 : BitVec 32 := Scalar.remsi v1276 v1278
  let c0_i32_960 : BitVec 32 := 0#32
  let v1281 : BitVec 1 := Scalar.cmpi .slt v1279 c0_i32_960
  let c0_i32_961 : BitVec 32 := 0#32
  let v1282 : BitVec 1 := Scalar.cmpi .slt v1278 c0_i32_961
  let v1283 : BitVec 1 := Scalar.xori v1281 v1282
  let c0_i32_959 : BitVec 32 := 0#32
  let v1280 : BitVec 1 := Scalar.cmpi .ne v1279 c0_i32_959
  let v1284 : BitVec 1 := Scalar.andi v1283 v1280
  let v1285 : BitVec 32 := Scalar.addi v1279 v1278
  let v1286 : BitVec 32 := Scalar.select v1284 v1285 v1279
  let v1292 : BitVec 32 := Scalar.maxsi c0_i32_966 v1286
  let v1293 : BitVec 32 := Scalar.minsi c3_i32_967 v1292
  let c2048_i32_968 : BitVec 32 := 2048#32
  let v1294 : BitVec 32 := Scalar.muli v1293 c2048_i32_968
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1295 : BitVec 32 := Scalar.addi v1294 v12
  let c384_i32_969 : BitVec 32 := 384#32
  let v1296 : BitVec 32 := Scalar.addi v1295 c384_i32_969
  let c0_i32_3546 : BitVec 32 := 0#32
  ![v1296.toNat, 0]
def k0_dev90 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3056 : BitVec 32 := Scalar.extui v3041
  let c0_i32_2803 : BitVec 32 := 0#32
  let v3057 : BitVec 1 := Scalar.cmpi .ne v3056 c0_i32_2803
  v3057

def k0_off131 (d0 : Dev nD) : Fin 2 → Nat :=
  let c3_i32_1591 : BitVec 32 := 3#32
  let c0_i32_1590 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1584 : BitVec 32 := 1#32
  let v2037 : BitVec 32 := Scalar.subi v8 c1_i32_1584
  let c2_i32_1585 : BitVec 32 := 2#32
  let v2038 : BitVec 32 := Scalar.subi v2037 c2_i32_1585
  let v2044 : BitVec 32 := Scalar.maxsi c0_i32_1590 v2038
  let v2045 : BitVec 32 := Scalar.minsi c3_i32_1591 v2044
  let c2048_i32_1592 : BitVec 32 := 2048#32
  let v2046 : BitVec 32 := Scalar.muli v2045 c2048_i32_1592
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2047 : BitVec 32 := Scalar.addi v2046 v12
  let c384_i32_1593 : BitVec 32 := 384#32
  let v2048 : BitVec 32 := Scalar.addi v2047 c384_i32_1593
  let c0_i32_3540 : BitVec 32 := 0#32
  ![v2048.toNat, 0]
def k0_off132 (d0 : Dev nD) : Fin 2 → Nat :=
  let c3_i32_583 : BitVec 32 := 3#32
  let c0_i32_582 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_570 : BitVec 32 := 1#32
  let v731 : BitVec 32 := Scalar.addi v8 c1_i32_570
  let c0_i32_571 : BitVec 32 := 0#32
  let v732 : BitVec 32 := Scalar.addi v731 c0_i32_571
  let c4_i32_572 : BitVec 32 := 4#32
  let c0_i32_573 : BitVec 32 := 0#32
  let v733 : BitVec 1 := Scalar.cmpi .eq c4_i32_572 c0_i32_573
  let c1_i32_574 : BitVec 32 := 1#32
  let v734 : BitVec 32 := Scalar.select v733 c1_i32_574 c4_i32_572
  let v735 : BitVec 32 := Scalar.remsi v732 v734
  let c0_i32_576 : BitVec 32 := 0#32
  let v737 : BitVec 1 := Scalar.cmpi .slt v735 c0_i32_576
  let c0_i32_577 : BitVec 32 := 0#32
  let v738 : BitVec 1 := Scalar.cmpi .slt v734 c0_i32_577
  let v739 : BitVec 1 := Scalar.xori v737 v738
  let c0_i32_575 : BitVec 32 := 0#32
  let v736 : BitVec 1 := Scalar.cmpi .ne v735 c0_i32_575
  let v740 : BitVec 1 := Scalar.andi v739 v736
  let v741 : BitVec 32 := Scalar.addi v735 v734
  let v742 : BitVec 32 := Scalar.select v740 v741 v735
  let v748 : BitVec 32 := Scalar.maxsi c0_i32_582 v742
  let v749 : BitVec 32 := Scalar.minsi c3_i32_583 v748
  let c2048_i32_584 : BitVec 32 := 2048#32
  let v750 : BitVec 32 := Scalar.muli v749 c2048_i32_584
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v751 : BitVec 32 := Scalar.addi v750 v12
  let c384_i32_585 : BitVec 32 := 384#32
  let v752 : BitVec 32 := Scalar.addi v751 c384_i32_585
  let c0_i32_3546 : BitVec 32 := 0#32
  ![v752.toNat, 0]
def k0_dev91 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3058 : BitVec 32 := Scalar.extui v3038
  let c0_i32_2812 : BitVec 32 := 0#32
  let v3059 : BitVec 1 := Scalar.cmpi .ne v3058 c0_i32_2812
  v3059

def k0_off133 (d0 : Dev nD) : Fin 2 → Nat :=
  let c3_i32_1315 : BitVec 32 := 3#32
  let c0_i32_1314 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1308 : BitVec 32 := 1#32
  let v1715 : BitVec 32 := Scalar.addi v8 c1_i32_1308
  let c2_i32_1309 : BitVec 32 := 2#32
  let v1716 : BitVec 32 := Scalar.addi v1715 c2_i32_1309
  let v1722 : BitVec 32 := Scalar.maxsi c0_i32_1314 v1716
  let v1723 : BitVec 32 := Scalar.minsi c3_i32_1315 v1722
  let c2048_i32_1316 : BitVec 32 := 2048#32
  let v1724 : BitVec 32 := Scalar.muli v1723 c2048_i32_1316
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1725 : BitVec 32 := Scalar.addi v1724 v12
  let c512_i32_1317 : BitVec 32 := 512#32
  let v1726 : BitVec 32 := Scalar.addi v1725 c512_i32_1317
  let c0_i32_3540 : BitVec 32 := 0#32
  ![v1726.toNat, 0]
def k0_off134 (d0 : Dev nD) : Fin 2 → Nat :=
  let c3_i32_991 : BitVec 32 := 3#32
  let c0_i32_990 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1309 : BitVec 32 := Scalar.addi v8 c1_i32_978
  let c2_i32_979 : BitVec 32 := 2#32
  let v1310 : BitVec 32 := Scalar.addi v1309 c2_i32_979
  let c4_i32_980 : BitVec 32 := 4#32
  let c0_i32_981 : BitVec 32 := 0#32
  let v1311 : BitVec 1 := Scalar.cmpi .eq c4_i32_980 c0_i32_981
  let c1_i32_982 : BitVec 32 := 1#32
  let v1312 : BitVec 32 := Scalar.select v1311 c1_i32_982 c4_i32_980
  let v1313 : BitVec 32 := Scalar.remsi v1310 v1312
  let c0_i32_984 : BitVec 32 := 0#32
  let v1315 : BitVec 1 := Scalar.cmpi .slt v1313 c0_i32_984
  let c0_i32_985 : BitVec 32 := 0#32
  let v1316 : BitVec 1 := Scalar.cmpi .slt v1312 c0_i32_985
  let v1317 : BitVec 1 := Scalar.xori v1315 v1316
  let c0_i32_983 : BitVec 32 := 0#32
  let v1314 : BitVec 1 := Scalar.cmpi .ne v1313 c0_i32_983
  let v1318 : BitVec 1 := Scalar.andi v1317 v1314
  let v1319 : BitVec 32 := Scalar.addi v1313 v1312
  let v1320 : BitVec 32 := Scalar.select v1318 v1319 v1313
  let v1326 : BitVec 32 := Scalar.maxsi c0_i32_990 v1320
  let v1327 : BitVec 32 := Scalar.minsi c3_i32_991 v1326
  let c2048_i32_992 : BitVec 32 := 2048#32
  let v1328 : BitVec 32 := Scalar.muli v1327 c2048_i32_992
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1329 : BitVec 32 := Scalar.addi v1328 v12
  let c512_i32_993 : BitVec 32 := 512#32
  let v1330 : BitVec 32 := Scalar.addi v1329 c512_i32_993
  let c0_i32_3546 : BitVec 32 := 0#32
  ![v1330.toNat, 0]
def k0_dev92 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3060 : BitVec 32 := Scalar.extui v3041
  let c0_i32_2821 : BitVec 32 := 0#32
  let v3061 : BitVec 1 := Scalar.cmpi .ne v3060 c0_i32_2821
  v3061

def k0_off135 (d0 : Dev nD) : Fin 2 → Nat :=
  let c3_i32_1603 : BitVec 32 := 3#32
  let c0_i32_1602 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1596 : BitVec 32 := 1#32
  let v2051 : BitVec 32 := Scalar.subi v8 c1_i32_1596
  let c2_i32_1597 : BitVec 32 := 2#32
  let v2052 : BitVec 32 := Scalar.subi v2051 c2_i32_1597
  let v2058 : BitVec 32 := Scalar.maxsi c0_i32_1602 v2052
  let v2059 : BitVec 32 := Scalar.minsi c3_i32_1603 v2058
  let c2048_i32_1604 : BitVec 32 := 2048#32
  let v2060 : BitVec 32 := Scalar.muli v2059 c2048_i32_1604
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2061 : BitVec 32 := Scalar.addi v2060 v12
  let c512_i32_1605 : BitVec 32 := 512#32
  let v2062 : BitVec 32 := Scalar.addi v2061 c512_i32_1605
  let c0_i32_3540 : BitVec 32 := 0#32
  ![v2062.toNat, 0]
def k0_off136 (d0 : Dev nD) : Fin 2 → Nat :=
  let c3_i32_607 : BitVec 32 := 3#32
  let c0_i32_606 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v765 : BitVec 32 := Scalar.addi v8 c1_i32_594
  let c0_i32_595 : BitVec 32 := 0#32
  let v766 : BitVec 32 := Scalar.addi v765 c0_i32_595
  let c4_i32_596 : BitVec 32 := 4#32
  let c0_i32_597 : BitVec 32 := 0#32
  let v767 : BitVec 1 := Scalar.cmpi .eq c4_i32_596 c0_i32_597
  let c1_i32_598 : BitVec 32 := 1#32
  let v768 : BitVec 32 := Scalar.select v767 c1_i32_598 c4_i32_596
  let v769 : BitVec 32 := Scalar.remsi v766 v768
  let c0_i32_600 : BitVec 32 := 0#32
  let v771 : BitVec 1 := Scalar.cmpi .slt v769 c0_i32_600
  let c0_i32_601 : BitVec 32 := 0#32
  let v772 : BitVec 1 := Scalar.cmpi .slt v768 c0_i32_601
  let v773 : BitVec 1 := Scalar.xori v771 v772
  let c0_i32_599 : BitVec 32 := 0#32
  let v770 : BitVec 1 := Scalar.cmpi .ne v769 c0_i32_599
  let v774 : BitVec 1 := Scalar.andi v773 v770
  let v775 : BitVec 32 := Scalar.addi v769 v768
  let v776 : BitVec 32 := Scalar.select v774 v775 v769
  let v782 : BitVec 32 := Scalar.maxsi c0_i32_606 v776
  let v783 : BitVec 32 := Scalar.minsi c3_i32_607 v782
  let c2048_i32_608 : BitVec 32 := 2048#32
  let v784 : BitVec 32 := Scalar.muli v783 c2048_i32_608
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v785 : BitVec 32 := Scalar.addi v784 v12
  let c512_i32_609 : BitVec 32 := 512#32
  let v786 : BitVec 32 := Scalar.addi v785 c512_i32_609
  let c0_i32_3546 : BitVec 32 := 0#32
  ![v786.toNat, 0]
def k0_dev93 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3062 : BitVec 32 := Scalar.extui v3038
  let c0_i32_2830 : BitVec 32 := 0#32
  let v3063 : BitVec 1 := Scalar.cmpi .ne v3062 c0_i32_2830
  v3063

def k0_off137 (d0 : Dev nD) : Fin 2 → Nat :=
  let c3_i32_1327 : BitVec 32 := 3#32
  let c0_i32_1326 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1320 : BitVec 32 := 1#32
  let v1729 : BitVec 32 := Scalar.addi v8 c1_i32_1320
  let c2_i32_1321 : BitVec 32 := 2#32
  let v1730 : BitVec 32 := Scalar.addi v1729 c2_i32_1321
  let v1736 : BitVec 32 := Scalar.maxsi c0_i32_1326 v1730
  let v1737 : BitVec 32 := Scalar.minsi c3_i32_1327 v1736
  let c2048_i32_1328 : BitVec 32 := 2048#32
  let v1738 : BitVec 32 := Scalar.muli v1737 c2048_i32_1328
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1739 : BitVec 32 := Scalar.addi v1738 v12
  let c640_i32_1329 : BitVec 32 := 640#32
  let v1740 : BitVec 32 := Scalar.addi v1739 c640_i32_1329
  let c0_i32_3540 : BitVec 32 := 0#32
  ![v1740.toNat, 0]
def k0_off138 (d0 : Dev nD) : Fin 2 → Nat :=
  let c3_i32_1015 : BitVec 32 := 3#32
  let c0_i32_1014 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1002 : BitVec 32 := 1#32
  let v1343 : BitVec 32 := Scalar.addi v8 c1_i32_1002
  let c2_i32_1003 : BitVec 32 := 2#32
  let v1344 : BitVec 32 := Scalar.addi v1343 c2_i32_1003
  let c4_i32_1004 : BitVec 32 := 4#32
  let c0_i32_1005 : BitVec 32 := 0#32
  let v1345 : BitVec 1 := Scalar.cmpi .eq c4_i32_1004 c0_i32_1005
  let c1_i32_1006 : BitVec 32 := 1#32
  let v1346 : BitVec 32 := Scalar.select v1345 c1_i32_1006 c4_i32_1004
  let v1347 : BitVec 32 := Scalar.remsi v1344 v1346
  let c0_i32_1008 : BitVec 32 := 0#32
  let v1349 : BitVec 1 := Scalar.cmpi .slt v1347 c0_i32_1008
  let c0_i32_1009 : BitVec 32 := 0#32
  let v1350 : BitVec 1 := Scalar.cmpi .slt v1346 c0_i32_1009
  let v1351 : BitVec 1 := Scalar.xori v1349 v1350
  let c0_i32_1007 : BitVec 32 := 0#32
  let v1348 : BitVec 1 := Scalar.cmpi .ne v1347 c0_i32_1007
  let v1352 : BitVec 1 := Scalar.andi v1351 v1348
  let v1353 : BitVec 32 := Scalar.addi v1347 v1346
  let v1354 : BitVec 32 := Scalar.select v1352 v1353 v1347
  let v1360 : BitVec 32 := Scalar.maxsi c0_i32_1014 v1354
  let v1361 : BitVec 32 := Scalar.minsi c3_i32_1015 v1360
  let c2048_i32_1016 : BitVec 32 := 2048#32
  let v1362 : BitVec 32 := Scalar.muli v1361 c2048_i32_1016
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1363 : BitVec 32 := Scalar.addi v1362 v12
  let c640_i32_1017 : BitVec 32 := 640#32
  let v1364 : BitVec 32 := Scalar.addi v1363 c640_i32_1017
  let c0_i32_3546 : BitVec 32 := 0#32
  ![v1364.toNat, 0]
def k0_dev94 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3064 : BitVec 32 := Scalar.extui v3041
  let c0_i32_2839 : BitVec 32 := 0#32
  let v3065 : BitVec 1 := Scalar.cmpi .ne v3064 c0_i32_2839
  v3065

def k0_off139 (d0 : Dev nD) : Fin 2 → Nat :=
  let c3_i32_1615 : BitVec 32 := 3#32
  let c0_i32_1614 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1608 : BitVec 32 := 1#32
  let v2065 : BitVec 32 := Scalar.subi v8 c1_i32_1608
  let c2_i32_1609 : BitVec 32 := 2#32
  let v2066 : BitVec 32 := Scalar.subi v2065 c2_i32_1609
  let v2072 : BitVec 32 := Scalar.maxsi c0_i32_1614 v2066
  let v2073 : BitVec 32 := Scalar.minsi c3_i32_1615 v2072
  let c2048_i32_1616 : BitVec 32 := 2048#32
  let v2074 : BitVec 32 := Scalar.muli v2073 c2048_i32_1616
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2075 : BitVec 32 := Scalar.addi v2074 v12
  let c640_i32_1617 : BitVec 32 := 640#32
  let v2076 : BitVec 32 := Scalar.addi v2075 c640_i32_1617
  let c0_i32_3540 : BitVec 32 := 0#32
  ![v2076.toNat, 0]
def k0_off140 (d0 : Dev nD) : Fin 2 → Nat :=
  let c3_i32_631 : BitVec 32 := 3#32
  let c0_i32_630 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_618 : BitVec 32 := 1#32
  let v799 : BitVec 32 := Scalar.addi v8 c1_i32_618
  let c0_i32_619 : BitVec 32 := 0#32
  let v800 : BitVec 32 := Scalar.addi v799 c0_i32_619
  let c4_i32_620 : BitVec 32 := 4#32
  let c0_i32_621 : BitVec 32 := 0#32
  let v801 : BitVec 1 := Scalar.cmpi .eq c4_i32_620 c0_i32_621
  let c1_i32_622 : BitVec 32 := 1#32
  let v802 : BitVec 32 := Scalar.select v801 c1_i32_622 c4_i32_620
  let v803 : BitVec 32 := Scalar.remsi v800 v802
  let c0_i32_624 : BitVec 32 := 0#32
  let v805 : BitVec 1 := Scalar.cmpi .slt v803 c0_i32_624
  let c0_i32_625 : BitVec 32 := 0#32
  let v806 : BitVec 1 := Scalar.cmpi .slt v802 c0_i32_625
  let v807 : BitVec 1 := Scalar.xori v805 v806
  let c0_i32_623 : BitVec 32 := 0#32
  let v804 : BitVec 1 := Scalar.cmpi .ne v803 c0_i32_623
  let v808 : BitVec 1 := Scalar.andi v807 v804
  let v809 : BitVec 32 := Scalar.addi v803 v802
  let v810 : BitVec 32 := Scalar.select v808 v809 v803
  let v816 : BitVec 32 := Scalar.maxsi c0_i32_630 v810
  let v817 : BitVec 32 := Scalar.minsi c3_i32_631 v816
  let c2048_i32_632 : BitVec 32 := 2048#32
  let v818 : BitVec 32 := Scalar.muli v817 c2048_i32_632
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v819 : BitVec 32 := Scalar.addi v818 v12
  let c640_i32_633 : BitVec 32 := 640#32
  let v820 : BitVec 32 := Scalar.addi v819 c640_i32_633
  let c0_i32_3546 : BitVec 32 := 0#32
  ![v820.toNat, 0]
def k0_dev95 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3066 : BitVec 32 := Scalar.extui v3038
  let c0_i32_2848 : BitVec 32 := 0#32
  let v3067 : BitVec 1 := Scalar.cmpi .ne v3066 c0_i32_2848
  v3067

def k0_off141 (d0 : Dev nD) : Fin 2 → Nat :=
  let c3_i32_1339 : BitVec 32 := 3#32
  let c0_i32_1338 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1332 : BitVec 32 := 1#32
  let v1743 : BitVec 32 := Scalar.addi v8 c1_i32_1332
  let c2_i32_1333 : BitVec 32 := 2#32
  let v1744 : BitVec 32 := Scalar.addi v1743 c2_i32_1333
  let v1750 : BitVec 32 := Scalar.maxsi c0_i32_1338 v1744
  let v1751 : BitVec 32 := Scalar.minsi c3_i32_1339 v1750
  let c2048_i32_1340 : BitVec 32 := 2048#32
  let v1752 : BitVec 32 := Scalar.muli v1751 c2048_i32_1340
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1753 : BitVec 32 := Scalar.addi v1752 v12
  let c768_i32_1341 : BitVec 32 := 768#32
  let v1754 : BitVec 32 := Scalar.addi v1753 c768_i32_1341
  let c0_i32_3540 : BitVec 32 := 0#32
  ![v1754.toNat, 0]
def k0_off142 (d0 : Dev nD) : Fin 2 → Nat :=
  let c3_i32_1039 : BitVec 32 := 3#32
  let c0_i32_1038 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1026 : BitVec 32 := 1#32
  let v1377 : BitVec 32 := Scalar.addi v8 c1_i32_1026
  let c2_i32_1027 : BitVec 32 := 2#32
  let v1378 : BitVec 32 := Scalar.addi v1377 c2_i32_1027
  let c4_i32_1028 : BitVec 32 := 4#32
  let c0_i32_1029 : BitVec 32 := 0#32
  let v1379 : BitVec 1 := Scalar.cmpi .eq c4_i32_1028 c0_i32_1029
  let c1_i32_1030 : BitVec 32 := 1#32
  let v1380 : BitVec 32 := Scalar.select v1379 c1_i32_1030 c4_i32_1028
  let v1381 : BitVec 32 := Scalar.remsi v1378 v1380
  let c0_i32_1032 : BitVec 32 := 0#32
  let v1383 : BitVec 1 := Scalar.cmpi .slt v1381 c0_i32_1032
  let c0_i32_1033 : BitVec 32 := 0#32
  let v1384 : BitVec 1 := Scalar.cmpi .slt v1380 c0_i32_1033
  let v1385 : BitVec 1 := Scalar.xori v1383 v1384
  let c0_i32_1031 : BitVec 32 := 0#32
  let v1382 : BitVec 1 := Scalar.cmpi .ne v1381 c0_i32_1031
  let v1386 : BitVec 1 := Scalar.andi v1385 v1382
  let v1387 : BitVec 32 := Scalar.addi v1381 v1380
  let v1388 : BitVec 32 := Scalar.select v1386 v1387 v1381
  let v1394 : BitVec 32 := Scalar.maxsi c0_i32_1038 v1388
  let v1395 : BitVec 32 := Scalar.minsi c3_i32_1039 v1394
  let c2048_i32_1040 : BitVec 32 := 2048#32
  let v1396 : BitVec 32 := Scalar.muli v1395 c2048_i32_1040
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1397 : BitVec 32 := Scalar.addi v1396 v12
  let c768_i32_1041 : BitVec 32 := 768#32
  let v1398 : BitVec 32 := Scalar.addi v1397 c768_i32_1041
  let c0_i32_3546 : BitVec 32 := 0#32
  ![v1398.toNat, 0]
def k0_dev96 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3068 : BitVec 32 := Scalar.extui v3041
  let c0_i32_2857 : BitVec 32 := 0#32
  let v3069 : BitVec 1 := Scalar.cmpi .ne v3068 c0_i32_2857
  v3069

def k0_off143 (d0 : Dev nD) : Fin 2 → Nat :=
  let c3_i32_1627 : BitVec 32 := 3#32
  let c0_i32_1626 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1620 : BitVec 32 := 1#32
  let v2079 : BitVec 32 := Scalar.subi v8 c1_i32_1620
  let c2_i32_1621 : BitVec 32 := 2#32
  let v2080 : BitVec 32 := Scalar.subi v2079 c2_i32_1621
  let v2086 : BitVec 32 := Scalar.maxsi c0_i32_1626 v2080
  let v2087 : BitVec 32 := Scalar.minsi c3_i32_1627 v2086
  let c2048_i32_1628 : BitVec 32 := 2048#32
  let v2088 : BitVec 32 := Scalar.muli v2087 c2048_i32_1628
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2089 : BitVec 32 := Scalar.addi v2088 v12
  let c768_i32_1629 : BitVec 32 := 768#32
  let v2090 : BitVec 32 := Scalar.addi v2089 c768_i32_1629
  let c0_i32_3540 : BitVec 32 := 0#32
  ![v2090.toNat, 0]
def k0_off144 (d0 : Dev nD) : Fin 2 → Nat :=
  let c3_i32_655 : BitVec 32 := 3#32
  let c0_i32_654 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_642 : BitVec 32 := 1#32
  let v833 : BitVec 32 := Scalar.addi v8 c1_i32_642
  let c0_i32_643 : BitVec 32 := 0#32
  let v834 : BitVec 32 := Scalar.addi v833 c0_i32_643
  let c4_i32_644 : BitVec 32 := 4#32
  let c0_i32_645 : BitVec 32 := 0#32
  let v835 : BitVec 1 := Scalar.cmpi .eq c4_i32_644 c0_i32_645
  let c1_i32_646 : BitVec 32 := 1#32
  let v836 : BitVec 32 := Scalar.select v835 c1_i32_646 c4_i32_644
  let v837 : BitVec 32 := Scalar.remsi v834 v836
  let c0_i32_648 : BitVec 32 := 0#32
  let v839 : BitVec 1 := Scalar.cmpi .slt v837 c0_i32_648
  let c0_i32_649 : BitVec 32 := 0#32
  let v840 : BitVec 1 := Scalar.cmpi .slt v836 c0_i32_649
  let v841 : BitVec 1 := Scalar.xori v839 v840
  let c0_i32_647 : BitVec 32 := 0#32
  let v838 : BitVec 1 := Scalar.cmpi .ne v837 c0_i32_647
  let v842 : BitVec 1 := Scalar.andi v841 v838
  let v843 : BitVec 32 := Scalar.addi v837 v836
  let v844 : BitVec 32 := Scalar.select v842 v843 v837
  let v850 : BitVec 32 := Scalar.maxsi c0_i32_654 v844
  let v851 : BitVec 32 := Scalar.minsi c3_i32_655 v850
  let c2048_i32_656 : BitVec 32 := 2048#32
  let v852 : BitVec 32 := Scalar.muli v851 c2048_i32_656
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v853 : BitVec 32 := Scalar.addi v852 v12
  let c768_i32_657 : BitVec 32 := 768#32
  let v854 : BitVec 32 := Scalar.addi v853 c768_i32_657
  let c0_i32_3546 : BitVec 32 := 0#32
  ![v854.toNat, 0]
def k0_dev97 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2726 : BitVec 32 := 1#32
  let v3036 : BitVec 32 := Scalar.addi v8 c1_i32_2726
  let c2_i32_2727 : BitVec 32 := 2#32
  let v3037 : BitVec 32 := Scalar.addi v3036 c2_i32_2727
  let c3_i32_2728 : BitVec 32 := 3#32
  let v3038 : BitVec 1 := Scalar.cmpi .sle v3037 c3_i32_2728
  let v3070 : BitVec 32 := Scalar.extui v3038
  let c0_i32_2866 : BitVec 32 := 0#32
  let v3071 : BitVec 1 := Scalar.cmpi .ne v3070 c0_i32_2866
  v3071

def k0_off145 (d0 : Dev nD) : Fin 2 → Nat :=
  let c3_i32_1351 : BitVec 32 := 3#32
  let c0_i32_1350 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1757 : BitVec 32 := Scalar.addi v8 c1_i32_1344
  let c2_i32_1345 : BitVec 32 := 2#32
  let v1758 : BitVec 32 := Scalar.addi v1757 c2_i32_1345
  let v1764 : BitVec 32 := Scalar.maxsi c0_i32_1350 v1758
  let v1765 : BitVec 32 := Scalar.minsi c3_i32_1351 v1764
  let c2048_i32_1352 : BitVec 32 := 2048#32
  let v1766 : BitVec 32 := Scalar.muli v1765 c2048_i32_1352
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1767 : BitVec 32 := Scalar.addi v1766 v12
  let c896_i32_1353 : BitVec 32 := 896#32
  let v1768 : BitVec 32 := Scalar.addi v1767 c896_i32_1353
  let c0_i32_3540 : BitVec 32 := 0#32
  ![v1768.toNat, 0]
def k0_off146 (d0 : Dev nD) : Fin 2 → Nat :=
  let c3_i32_1063 : BitVec 32 := 3#32
  let c0_i32_1062 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1050 : BitVec 32 := 1#32
  let v1411 : BitVec 32 := Scalar.addi v8 c1_i32_1050
  let c2_i32_1051 : BitVec 32 := 2#32
  let v1412 : BitVec 32 := Scalar.addi v1411 c2_i32_1051
  let c4_i32_1052 : BitVec 32 := 4#32
  let c0_i32_1053 : BitVec 32 := 0#32
  let v1413 : BitVec 1 := Scalar.cmpi .eq c4_i32_1052 c0_i32_1053
  let c1_i32_1054 : BitVec 32 := 1#32
  let v1414 : BitVec 32 := Scalar.select v1413 c1_i32_1054 c4_i32_1052
  let v1415 : BitVec 32 := Scalar.remsi v1412 v1414
  let c0_i32_1056 : BitVec 32 := 0#32
  let v1417 : BitVec 1 := Scalar.cmpi .slt v1415 c0_i32_1056
  let c0_i32_1057 : BitVec 32 := 0#32
  let v1418 : BitVec 1 := Scalar.cmpi .slt v1414 c0_i32_1057
  let v1419 : BitVec 1 := Scalar.xori v1417 v1418
  let c0_i32_1055 : BitVec 32 := 0#32
  let v1416 : BitVec 1 := Scalar.cmpi .ne v1415 c0_i32_1055
  let v1420 : BitVec 1 := Scalar.andi v1419 v1416
  let v1421 : BitVec 32 := Scalar.addi v1415 v1414
  let v1422 : BitVec 32 := Scalar.select v1420 v1421 v1415
  let v1428 : BitVec 32 := Scalar.maxsi c0_i32_1062 v1422
  let v1429 : BitVec 32 := Scalar.minsi c3_i32_1063 v1428
  let c2048_i32_1064 : BitVec 32 := 2048#32
  let v1430 : BitVec 32 := Scalar.muli v1429 c2048_i32_1064
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v1431 : BitVec 32 := Scalar.addi v1430 v12
  let c896_i32_1065 : BitVec 32 := 896#32
  let v1432 : BitVec 32 := Scalar.addi v1431 c896_i32_1065
  let c0_i32_3546 : BitVec 32 := 0#32
  ![v1432.toNat, 0]
def k0_dev98 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2729 : BitVec 32 := 1#32
  let v3039 : BitVec 32 := Scalar.subi v8 c1_i32_2729
  let c2_i32_2730 : BitVec 32 := 2#32
  let v3040 : BitVec 32 := Scalar.subi v3039 c2_i32_2730
  let c0_i32_2731 : BitVec 32 := 0#32
  let v3041 : BitVec 1 := Scalar.cmpi .sge v3040 c0_i32_2731
  let v3072 : BitVec 32 := Scalar.extui v3041
  let c0_i32_2875 : BitVec 32 := 0#32
  let v3073 : BitVec 1 := Scalar.cmpi .ne v3072 c0_i32_2875
  v3073

def k0_off147 (d0 : Dev nD) : Fin 2 → Nat :=
  let c3_i32_1639 : BitVec 32 := 3#32
  let c0_i32_1638 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1632 : BitVec 32 := 1#32
  let v2093 : BitVec 32 := Scalar.subi v8 c1_i32_1632
  let c2_i32_1633 : BitVec 32 := 2#32
  let v2094 : BitVec 32 := Scalar.subi v2093 c2_i32_1633
  let v2100 : BitVec 32 := Scalar.maxsi c0_i32_1638 v2094
  let v2101 : BitVec 32 := Scalar.minsi c3_i32_1639 v2100
  let c2048_i32_1640 : BitVec 32 := 2048#32
  let v2102 : BitVec 32 := Scalar.muli v2101 c2048_i32_1640
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v2103 : BitVec 32 := Scalar.addi v2102 v12
  let c896_i32_1641 : BitVec 32 := 896#32
  let v2104 : BitVec 32 := Scalar.addi v2103 c896_i32_1641
  let c0_i32_3540 : BitVec 32 := 0#32
  ![v2104.toNat, 0]
def k0_off148 (d0 : Dev nD) : Fin 2 → Nat :=
  let c3_i32_679 : BitVec 32 := 3#32
  let c0_i32_678 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_666 : BitVec 32 := 1#32
  let v867 : BitVec 32 := Scalar.addi v8 c1_i32_666
  let c0_i32_667 : BitVec 32 := 0#32
  let v868 : BitVec 32 := Scalar.addi v867 c0_i32_667
  let c4_i32_668 : BitVec 32 := 4#32
  let c0_i32_669 : BitVec 32 := 0#32
  let v869 : BitVec 1 := Scalar.cmpi .eq c4_i32_668 c0_i32_669
  let c1_i32_670 : BitVec 32 := 1#32
  let v870 : BitVec 32 := Scalar.select v869 c1_i32_670 c4_i32_668
  let v871 : BitVec 32 := Scalar.remsi v868 v870
  let c0_i32_672 : BitVec 32 := 0#32
  let v873 : BitVec 1 := Scalar.cmpi .slt v871 c0_i32_672
  let c0_i32_673 : BitVec 32 := 0#32
  let v874 : BitVec 1 := Scalar.cmpi .slt v870 c0_i32_673
  let v875 : BitVec 1 := Scalar.xori v873 v874
  let c0_i32_671 : BitVec 32 := 0#32
  let v872 : BitVec 1 := Scalar.cmpi .ne v871 c0_i32_671
  let v876 : BitVec 1 := Scalar.andi v875 v872
  let v877 : BitVec 32 := Scalar.addi v871 v870
  let v878 : BitVec 32 := Scalar.select v876 v877 v871
  let v884 : BitVec 32 := Scalar.maxsi c0_i32_678 v878
  let v885 : BitVec 32 := Scalar.minsi c3_i32_679 v884
  let c2048_i32_680 : BitVec 32 := 2048#32
  let v886 : BitVec 32 := Scalar.muli v885 c2048_i32_680
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v887 : BitVec 32 := Scalar.addi v886 v12
  let c896_i32_681 : BitVec 32 := 896#32
  let v888 : BitVec 32 := Scalar.addi v887 c896_i32_681
  let c0_i32_3546 : BitVec 32 := 0#32
  ![v888.toNat, 0]
def k0_dev99 (d0 : Dev nD) : Nat :=
  let c0_i32_3543 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_3542 : BitVec 32 := 16#32
  let v3532 : BitVec 32 := Scalar.muli v9 c16_i32_3542
  let v3533 : BitVec 32 := Scalar.addi c0_i32_3543 v3532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3544 : BitVec 32 := 4#32
  let v3534 : BitVec 32 := Scalar.muli v5 c4_i32_3544
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3545 : BitVec 32 := 1#32
  let v3536 : BitVec 32 := Scalar.muli v8 c1_i32_3545
  let v3537 : BitVec 32 := Scalar.addi v3535 v3536
  v3537.toNat
def k0_off149 (d0 : Dev nD) (c0_i32_1651 : BitVec 32) (c0_i32_1665 : BitVec 32) : Fin 2 → Nat :=
  let c3_i32_1663 : BitVec 32 := 3#32
  let c0_i32_1662 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1650 : BitVec 32 := 1#32
  let v2117 : BitVec 32 := Scalar.addi v8 c1_i32_1650
  let v2118 : BitVec 32 := Scalar.addi v2117 c0_i32_1651
  let c4_i32_1652 : BitVec 32 := 4#32
  let c0_i32_1653 : BitVec 32 := 0#32
  let v2119 : BitVec 1 := Scalar.cmpi .eq c4_i32_1652 c0_i32_1653
  let c1_i32_1654 : BitVec 32 := 1#32
  let v2120 : BitVec 32 := Scalar.select v2119 c1_i32_1654 c4_i32_1652
  let v2121 : BitVec 32 := Scalar.remsi v2118 v2120
  let c0_i32_1656 : BitVec 32 := 0#32
  let v2123 : BitVec 1 := Scalar.cmpi .slt v2121 c0_i32_1656
  let c0_i32_1657 : BitVec 32 := 0#32
  let v2124 : BitVec 1 := Scalar.cmpi .slt v2120 c0_i32_1657
  let v2125 : BitVec 1 := Scalar.xori v2123 v2124
  let c0_i32_1655 : BitVec 32 := 0#32
  let v2122 : BitVec 1 := Scalar.cmpi .ne v2121 c0_i32_1655
  let v2126 : BitVec 1 := Scalar.andi v2125 v2122
  let v2127 : BitVec 32 := Scalar.addi v2121 v2120
  let v2128 : BitVec 32 := Scalar.select v2126 v2127 v2121
  let v2134 : BitVec 32 := Scalar.maxsi c0_i32_1662 v2128
  let v2135 : BitVec 32 := Scalar.minsi c3_i32_1663 v2134
  let c2048_i32_1664 : BitVec 32 := 2048#32
  let v2136 : BitVec 32 := Scalar.muli v2135 c2048_i32_1664
  let c1_i32_5 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v13 : BitVec 32 := Scalar.subi c1_i32_5 v2
  let c1024_i32_6 : BitVec 32 := 1024#32
  let v14 : BitVec 32 := Scalar.muli v13 c1024_i32_6
  let v2137 : BitVec 32 := Scalar.addi v2136 v14
  let v2138 : BitVec 32 := Scalar.addi v2137 c0_i32_1665
  let c0_i32_2884 : BitVec 32 := 0#32
  ![v2138.toNat, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3314 : BitVec 32 := Scalar.extui v15
  let c0_i32_3120 : BitVec 32 := 0#32
  let v3315 : BitVec 1 := Scalar.cmpi .ne v3314 c0_i32_3120
  v3315

def k0_off150 (d0 : Dev nD) : Fin 2 → Nat :=
  let c3_i32_20 : BitVec 32 := 3#32
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_17 : BitVec 32 := 0#32
  let v41 : BitVec 32 := Scalar.addi v8 c0_i32_17
  let v43 : BitVec 32 := Scalar.maxsi c0_i32_19 v41
  let v44 : BitVec 32 := Scalar.minsi c3_i32_20 v43
  let c2048_i32_21 : BitVec 32 := 2048#32
  let v45 : BitVec 32 := Scalar.muli v44 c2048_i32_21
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v46 : BitVec 32 := Scalar.addi v45 v12
  let c0_i32_22 : BitVec 32 := 0#32
  let v47 : BitVec 32 := Scalar.addi v46 c0_i32_22
  let c0_i32_3537 : BitVec 32 := 0#32
  ![v47.toNat, 0]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3316 : BitVec 32 := Scalar.extui v16
  let c0_i32_3125 : BitVec 32 := 0#32
  let v3317 : BitVec 1 := Scalar.cmpi .ne v3316 c0_i32_3125
  v3317

def k0_off151 (d0 : Dev nD) : Fin 2 → Nat :=
  let c3_i32_253 : BitVec 32 := 3#32
  let c0_i32_252 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_250 : BitVec 32 := 0#32
  let v329 : BitVec 32 := Scalar.subi v8 c0_i32_250
  let v331 : BitVec 32 := Scalar.maxsi c0_i32_252 v329
  let v332 : BitVec 32 := Scalar.minsi c3_i32_253 v331
  let c2048_i32_254 : BitVec 32 := 2048#32
  let v333 : BitVec 32 := Scalar.muli v332 c2048_i32_254
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v334 : BitVec 32 := Scalar.addi v333 v12
  let c0_i32_255 : BitVec 32 := 0#32
  let v335 : BitVec 32 := Scalar.addi v334 c0_i32_255
  let c0_i32_3537 : BitVec 32 := 0#32
  ![v335.toNat, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3318 : BitVec 32 := Scalar.extui v15
  let c0_i32_3130 : BitVec 32 := 0#32
  let v3319 : BitVec 1 := Scalar.cmpi .ne v3318 c0_i32_3130
  v3319

def k0_off152 (d0 : Dev nD) : Fin 2 → Nat :=
  let c3_i32_30 : BitVec 32 := 3#32
  let c0_i32_29 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_27 : BitVec 32 := 0#32
  let v53 : BitVec 32 := Scalar.addi v8 c0_i32_27
  let v55 : BitVec 32 := Scalar.maxsi c0_i32_29 v53
  let v56 : BitVec 32 := Scalar.minsi c3_i32_30 v55
  let c2048_i32_31 : BitVec 32 := 2048#32
  let v57 : BitVec 32 := Scalar.muli v56 c2048_i32_31
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v58 : BitVec 32 := Scalar.addi v57 v12
  let c128_i32 : BitVec 32 := 128#32
  let v59 : BitVec 32 := Scalar.addi v58 c128_i32
  let c0_i32_3537 : BitVec 32 := 0#32
  ![v59.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3320 : BitVec 32 := Scalar.extui v16
  let c0_i32_3135 : BitVec 32 := 0#32
  let v3321 : BitVec 1 := Scalar.cmpi .ne v3320 c0_i32_3135
  v3321

def k0_off153 (d0 : Dev nD) : Fin 2 → Nat :=
  let c3_i32_263 : BitVec 32 := 3#32
  let c0_i32_262 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_260 : BitVec 32 := 0#32
  let v341 : BitVec 32 := Scalar.subi v8 c0_i32_260
  let v343 : BitVec 32 := Scalar.maxsi c0_i32_262 v341
  let v344 : BitVec 32 := Scalar.minsi c3_i32_263 v343
  let c2048_i32_264 : BitVec 32 := 2048#32
  let v345 : BitVec 32 := Scalar.muli v344 c2048_i32_264
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v346 : BitVec 32 := Scalar.addi v345 v12
  let c128_i32_265 : BitVec 32 := 128#32
  let v347 : BitVec 32 := Scalar.addi v346 c128_i32_265
  let c0_i32_3537 : BitVec 32 := 0#32
  ![v347.toNat, 0]
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3322 : BitVec 32 := Scalar.extui v15
  let c0_i32_3140 : BitVec 32 := 0#32
  let v3323 : BitVec 1 := Scalar.cmpi .ne v3322 c0_i32_3140
  v3323

def k0_off154 (d0 : Dev nD) : Fin 2 → Nat :=
  let c3_i32_39 : BitVec 32 := 3#32
  let c0_i32_38 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_36 : BitVec 32 := 0#32
  let v65 : BitVec 32 := Scalar.addi v8 c0_i32_36
  let v67 : BitVec 32 := Scalar.maxsi c0_i32_38 v65
  let v68 : BitVec 32 := Scalar.minsi c3_i32_39 v67
  let c2048_i32_40 : BitVec 32 := 2048#32
  let v69 : BitVec 32 := Scalar.muli v68 c2048_i32_40
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v70 : BitVec 32 := Scalar.addi v69 v12
  let c256_i32 : BitVec 32 := 256#32
  let v71 : BitVec 32 := Scalar.addi v70 c256_i32
  let c0_i32_3537 : BitVec 32 := 0#32
  ![v71.toNat, 0]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3324 : BitVec 32 := Scalar.extui v16
  let c0_i32_3145 : BitVec 32 := 0#32
  let v3325 : BitVec 1 := Scalar.cmpi .ne v3324 c0_i32_3145
  v3325

def k0_off155 (d0 : Dev nD) : Fin 2 → Nat :=
  let c3_i32_273 : BitVec 32 := 3#32
  let c0_i32_272 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_270 : BitVec 32 := 0#32
  let v353 : BitVec 32 := Scalar.subi v8 c0_i32_270
  let v355 : BitVec 32 := Scalar.maxsi c0_i32_272 v353
  let v356 : BitVec 32 := Scalar.minsi c3_i32_273 v355
  let c2048_i32_274 : BitVec 32 := 2048#32
  let v357 : BitVec 32 := Scalar.muli v356 c2048_i32_274
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v358 : BitVec 32 := Scalar.addi v357 v12
  let c256_i32_275 : BitVec 32 := 256#32
  let v359 : BitVec 32 := Scalar.addi v358 c256_i32_275
  let c0_i32_3537 : BitVec 32 := 0#32
  ![v359.toNat, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3326 : BitVec 32 := Scalar.extui v15
  let c0_i32_3150 : BitVec 32 := 0#32
  let v3327 : BitVec 1 := Scalar.cmpi .ne v3326 c0_i32_3150
  v3327

def k0_off156 (d0 : Dev nD) : Fin 2 → Nat :=
  let c3_i32_48 : BitVec 32 := 3#32
  let c0_i32_47 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v77 : BitVec 32 := Scalar.addi v8 c0_i32_45
  let v79 : BitVec 32 := Scalar.maxsi c0_i32_47 v77
  let v80 : BitVec 32 := Scalar.minsi c3_i32_48 v79
  let c2048_i32_49 : BitVec 32 := 2048#32
  let v81 : BitVec 32 := Scalar.muli v80 c2048_i32_49
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v82 : BitVec 32 := Scalar.addi v81 v12
  let c384_i32 : BitVec 32 := 384#32
  let v83 : BitVec 32 := Scalar.addi v82 c384_i32
  let c0_i32_3537 : BitVec 32 := 0#32
  ![v83.toNat, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3328 : BitVec 32 := Scalar.extui v16
  let c0_i32_3155 : BitVec 32 := 0#32
  let v3329 : BitVec 1 := Scalar.cmpi .ne v3328 c0_i32_3155
  v3329

def k0_off157 (d0 : Dev nD) : Fin 2 → Nat :=
  let c3_i32_283 : BitVec 32 := 3#32
  let c0_i32_282 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_280 : BitVec 32 := 0#32
  let v365 : BitVec 32 := Scalar.subi v8 c0_i32_280
  let v367 : BitVec 32 := Scalar.maxsi c0_i32_282 v365
  let v368 : BitVec 32 := Scalar.minsi c3_i32_283 v367
  let c2048_i32_284 : BitVec 32 := 2048#32
  let v369 : BitVec 32 := Scalar.muli v368 c2048_i32_284
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v370 : BitVec 32 := Scalar.addi v369 v12
  let c384_i32_285 : BitVec 32 := 384#32
  let v371 : BitVec 32 := Scalar.addi v370 c384_i32_285
  let c0_i32_3537 : BitVec 32 := 0#32
  ![v371.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3330 : BitVec 32 := Scalar.extui v15
  let c0_i32_3160 : BitVec 32 := 0#32
  let v3331 : BitVec 1 := Scalar.cmpi .ne v3330 c0_i32_3160
  v3331

def k0_off158 (d0 : Dev nD) : Fin 2 → Nat :=
  let c3_i32_57 : BitVec 32 := 3#32
  let c0_i32_56 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_54 : BitVec 32 := 0#32
  let v89 : BitVec 32 := Scalar.addi v8 c0_i32_54
  let v91 : BitVec 32 := Scalar.maxsi c0_i32_56 v89
  let v92 : BitVec 32 := Scalar.minsi c3_i32_57 v91
  let c2048_i32_58 : BitVec 32 := 2048#32
  let v93 : BitVec 32 := Scalar.muli v92 c2048_i32_58
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v94 : BitVec 32 := Scalar.addi v93 v12
  let c512_i32 : BitVec 32 := 512#32
  let v95 : BitVec 32 := Scalar.addi v94 c512_i32
  let c0_i32_3537 : BitVec 32 := 0#32
  ![v95.toNat, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3332 : BitVec 32 := Scalar.extui v16
  let c0_i32_3165 : BitVec 32 := 0#32
  let v3333 : BitVec 1 := Scalar.cmpi .ne v3332 c0_i32_3165
  v3333

def k0_off159 (d0 : Dev nD) : Fin 2 → Nat :=
  let c3_i32_293 : BitVec 32 := 3#32
  let c0_i32_292 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_290 : BitVec 32 := 0#32
  let v377 : BitVec 32 := Scalar.subi v8 c0_i32_290
  let v379 : BitVec 32 := Scalar.maxsi c0_i32_292 v377
  let v380 : BitVec 32 := Scalar.minsi c3_i32_293 v379
  let c2048_i32_294 : BitVec 32 := 2048#32
  let v381 : BitVec 32 := Scalar.muli v380 c2048_i32_294
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v382 : BitVec 32 := Scalar.addi v381 v12
  let c512_i32_295 : BitVec 32 := 512#32
  let v383 : BitVec 32 := Scalar.addi v382 c512_i32_295
  let c0_i32_3537 : BitVec 32 := 0#32
  ![v383.toNat, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3334 : BitVec 32 := Scalar.extui v15
  let c0_i32_3170 : BitVec 32 := 0#32
  let v3335 : BitVec 1 := Scalar.cmpi .ne v3334 c0_i32_3170
  v3335

def k0_off160 (d0 : Dev nD) : Fin 2 → Nat :=
  let c3_i32_66 : BitVec 32 := 3#32
  let c0_i32_65 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_63 : BitVec 32 := 0#32
  let v101 : BitVec 32 := Scalar.addi v8 c0_i32_63
  let v103 : BitVec 32 := Scalar.maxsi c0_i32_65 v101
  let v104 : BitVec 32 := Scalar.minsi c3_i32_66 v103
  let c2048_i32_67 : BitVec 32 := 2048#32
  let v105 : BitVec 32 := Scalar.muli v104 c2048_i32_67
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v106 : BitVec 32 := Scalar.addi v105 v12
  let c640_i32 : BitVec 32 := 640#32
  let v107 : BitVec 32 := Scalar.addi v106 c640_i32
  let c0_i32_3537 : BitVec 32 := 0#32
  ![v107.toNat, 0]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3336 : BitVec 32 := Scalar.extui v16
  let c0_i32_3175 : BitVec 32 := 0#32
  let v3337 : BitVec 1 := Scalar.cmpi .ne v3336 c0_i32_3175
  v3337

def k0_off161 (d0 : Dev nD) : Fin 2 → Nat :=
  let c3_i32_303 : BitVec 32 := 3#32
  let c0_i32_302 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_300 : BitVec 32 := 0#32
  let v389 : BitVec 32 := Scalar.subi v8 c0_i32_300
  let v391 : BitVec 32 := Scalar.maxsi c0_i32_302 v389
  let v392 : BitVec 32 := Scalar.minsi c3_i32_303 v391
  let c2048_i32_304 : BitVec 32 := 2048#32
  let v393 : BitVec 32 := Scalar.muli v392 c2048_i32_304
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v394 : BitVec 32 := Scalar.addi v393 v12
  let c640_i32_305 : BitVec 32 := 640#32
  let v395 : BitVec 32 := Scalar.addi v394 c640_i32_305
  let c0_i32_3537 : BitVec 32 := 0#32
  ![v395.toNat, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3338 : BitVec 32 := Scalar.extui v15
  let c0_i32_3180 : BitVec 32 := 0#32
  let v3339 : BitVec 1 := Scalar.cmpi .ne v3338 c0_i32_3180
  v3339

def k0_off162 (d0 : Dev nD) : Fin 2 → Nat :=
  let c3_i32_75 : BitVec 32 := 3#32
  let c0_i32_74 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_72 : BitVec 32 := 0#32
  let v113 : BitVec 32 := Scalar.addi v8 c0_i32_72
  let v115 : BitVec 32 := Scalar.maxsi c0_i32_74 v113
  let v116 : BitVec 32 := Scalar.minsi c3_i32_75 v115
  let c2048_i32_76 : BitVec 32 := 2048#32
  let v117 : BitVec 32 := Scalar.muli v116 c2048_i32_76
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v118 : BitVec 32 := Scalar.addi v117 v12
  let c768_i32 : BitVec 32 := 768#32
  let v119 : BitVec 32 := Scalar.addi v118 c768_i32
  let c0_i32_3537 : BitVec 32 := 0#32
  ![v119.toNat, 0]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3340 : BitVec 32 := Scalar.extui v16
  let c0_i32_3185 : BitVec 32 := 0#32
  let v3341 : BitVec 1 := Scalar.cmpi .ne v3340 c0_i32_3185
  v3341

def k0_off163 (d0 : Dev nD) : Fin 2 → Nat :=
  let c3_i32_313 : BitVec 32 := 3#32
  let c0_i32_312 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_310 : BitVec 32 := 0#32
  let v401 : BitVec 32 := Scalar.subi v8 c0_i32_310
  let v403 : BitVec 32 := Scalar.maxsi c0_i32_312 v401
  let v404 : BitVec 32 := Scalar.minsi c3_i32_313 v403
  let c2048_i32_314 : BitVec 32 := 2048#32
  let v405 : BitVec 32 := Scalar.muli v404 c2048_i32_314
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v406 : BitVec 32 := Scalar.addi v405 v12
  let c768_i32_315 : BitVec 32 := 768#32
  let v407 : BitVec 32 := Scalar.addi v406 c768_i32_315
  let c0_i32_3537 : BitVec 32 := 0#32
  ![v407.toNat, 0]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v15 : BitVec 1 := Scalar.cmpi .sgt v8 c0_i32
  let v3342 : BitVec 32 := Scalar.extui v15
  let c0_i32_3190 : BitVec 32 := 0#32
  let v3343 : BitVec 1 := Scalar.cmpi .ne v3342 c0_i32_3190
  v3343

def k0_off164 (d0 : Dev nD) : Fin 2 → Nat :=
  let c3_i32_84 : BitVec 32 := 3#32
  let c0_i32_83 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_81 : BitVec 32 := 0#32
  let v125 : BitVec 32 := Scalar.addi v8 c0_i32_81
  let v127 : BitVec 32 := Scalar.maxsi c0_i32_83 v125
  let v128 : BitVec 32 := Scalar.minsi c3_i32_84 v127
  let c2048_i32_85 : BitVec 32 := 2048#32
  let v129 : BitVec 32 := Scalar.muli v128 c2048_i32_85
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v130 : BitVec 32 := Scalar.addi v129 v12
  let c896_i32 : BitVec 32 := 896#32
  let v131 : BitVec 32 := Scalar.addi v130 c896_i32
  let c0_i32_3537 : BitVec 32 := 0#32
  ![v131.toNat, 0]
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v16 : BitVec 1 := Scalar.cmpi .slt v8 c3_i32
  let v3344 : BitVec 32 := Scalar.extui v16
  let c0_i32_3195 : BitVec 32 := 0#32
  let v3345 : BitVec 1 := Scalar.cmpi .ne v3344 c0_i32_3195
  v3345

def k0_off165 (d0 : Dev nD) : Fin 2 → Nat :=
  let c3_i32_323 : BitVec 32 := 3#32
  let c0_i32_322 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_320 : BitVec 32 := 0#32
  let v413 : BitVec 32 := Scalar.subi v8 c0_i32_320
  let v415 : BitVec 32 := Scalar.maxsi c0_i32_322 v413
  let v416 : BitVec 32 := Scalar.minsi c3_i32_323 v415
  let c2048_i32_324 : BitVec 32 := 2048#32
  let v417 : BitVec 32 := Scalar.muli v416 c2048_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v418 : BitVec 32 := Scalar.addi v417 v12
  let c896_i32_325 : BitVec 32 := 896#32
  let v419 : BitVec 32 := Scalar.addi v418 c896_i32_325
  let c0_i32_3537 : BitVec 32 := 0#32
  ![v419.toNat, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3354 : BitVec 32 := Scalar.extui v3349
  let c0_i32_3206 : BitVec 32 := 0#32
  let v3355 : BitVec 1 := Scalar.cmpi .ne v3354 c0_i32_3206
  v3355

def k0_off166 (d0 : Dev nD) : Fin 2 → Nat :=
  let c3_i32_93 : BitVec 32 := 3#32
  let c0_i32_92 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v137 : BitVec 32 := Scalar.addi v8 c1_i32_90
  let v139 : BitVec 32 := Scalar.maxsi c0_i32_92 v137
  let v140 : BitVec 32 := Scalar.minsi c3_i32_93 v139
  let c2048_i32_94 : BitVec 32 := 2048#32
  let v141 : BitVec 32 := Scalar.muli v140 c2048_i32_94
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v142 : BitVec 32 := Scalar.addi v141 v12
  let c0_i32_95 : BitVec 32 := 0#32
  let v143 : BitVec 32 := Scalar.addi v142 c0_i32_95
  let c0_i32_3537 : BitVec 32 := 0#32
  ![v143.toNat, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3356 : BitVec 32 := Scalar.extui v3353
  let c0_i32_3211 : BitVec 32 := 0#32
  let v3357 : BitVec 1 := Scalar.cmpi .ne v3356 c0_i32_3211
  v3357

def k0_off167 (d0 : Dev nD) : Fin 2 → Nat :=
  let c3_i32_333 : BitVec 32 := 3#32
  let c0_i32_332 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v425 : BitVec 32 := Scalar.subi v8 c1_i32_330
  let v427 : BitVec 32 := Scalar.maxsi c0_i32_332 v425
  let v428 : BitVec 32 := Scalar.minsi c3_i32_333 v427
  let c2048_i32_334 : BitVec 32 := 2048#32
  let v429 : BitVec 32 := Scalar.muli v428 c2048_i32_334
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v430 : BitVec 32 := Scalar.addi v429 v12
  let c0_i32_335 : BitVec 32 := 0#32
  let v431 : BitVec 32 := Scalar.addi v430 c0_i32_335
  let c0_i32_3537 : BitVec 32 := 0#32
  ![v431.toNat, 0]
def k0_cond119 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3358 : BitVec 32 := Scalar.extui v3349
  let c0_i32_3216 : BitVec 32 := 0#32
  let v3359 : BitVec 1 := Scalar.cmpi .ne v3358 c0_i32_3216
  v3359

def k0_off168 (d0 : Dev nD) : Fin 2 → Nat :=
  let c3_i32_103 : BitVec 32 := 3#32
  let c0_i32_102 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v149 : BitVec 32 := Scalar.addi v8 c1_i32_100
  let v151 : BitVec 32 := Scalar.maxsi c0_i32_102 v149
  let v152 : BitVec 32 := Scalar.minsi c3_i32_103 v151
  let c2048_i32_104 : BitVec 32 := 2048#32
  let v153 : BitVec 32 := Scalar.muli v152 c2048_i32_104
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v154 : BitVec 32 := Scalar.addi v153 v12
  let c128_i32_105 : BitVec 32 := 128#32
  let v155 : BitVec 32 := Scalar.addi v154 c128_i32_105
  let c0_i32_3537 : BitVec 32 := 0#32
  ![v155.toNat, 0]
def k0_cond120 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3360 : BitVec 32 := Scalar.extui v3353
  let c0_i32_3221 : BitVec 32 := 0#32
  let v3361 : BitVec 1 := Scalar.cmpi .ne v3360 c0_i32_3221
  v3361

def k0_off169 (d0 : Dev nD) : Fin 2 → Nat :=
  let c3_i32_343 : BitVec 32 := 3#32
  let c0_i32_342 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v437 : BitVec 32 := Scalar.subi v8 c1_i32_340
  let v439 : BitVec 32 := Scalar.maxsi c0_i32_342 v437
  let v440 : BitVec 32 := Scalar.minsi c3_i32_343 v439
  let c2048_i32_344 : BitVec 32 := 2048#32
  let v441 : BitVec 32 := Scalar.muli v440 c2048_i32_344
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v442 : BitVec 32 := Scalar.addi v441 v12
  let c128_i32_345 : BitVec 32 := 128#32
  let v443 : BitVec 32 := Scalar.addi v442 c128_i32_345
  let c0_i32_3537 : BitVec 32 := 0#32
  ![v443.toNat, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3362 : BitVec 32 := Scalar.extui v3349
  let c0_i32_3226 : BitVec 32 := 0#32
  let v3363 : BitVec 1 := Scalar.cmpi .ne v3362 c0_i32_3226
  v3363

def k0_off170 (d0 : Dev nD) : Fin 2 → Nat :=
  let c3_i32_113 : BitVec 32 := 3#32
  let c0_i32_112 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v161 : BitVec 32 := Scalar.addi v8 c1_i32_110
  let v163 : BitVec 32 := Scalar.maxsi c0_i32_112 v161
  let v164 : BitVec 32 := Scalar.minsi c3_i32_113 v163
  let c2048_i32_114 : BitVec 32 := 2048#32
  let v165 : BitVec 32 := Scalar.muli v164 c2048_i32_114
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v166 : BitVec 32 := Scalar.addi v165 v12
  let c256_i32_115 : BitVec 32 := 256#32
  let v167 : BitVec 32 := Scalar.addi v166 c256_i32_115
  let c0_i32_3537 : BitVec 32 := 0#32
  ![v167.toNat, 0]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3364 : BitVec 32 := Scalar.extui v3353
  let c0_i32_3231 : BitVec 32 := 0#32
  let v3365 : BitVec 1 := Scalar.cmpi .ne v3364 c0_i32_3231
  v3365

def k0_off171 (d0 : Dev nD) : Fin 2 → Nat :=
  let c3_i32_353 : BitVec 32 := 3#32
  let c0_i32_352 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_350 : BitVec 32 := 1#32
  let v449 : BitVec 32 := Scalar.subi v8 c1_i32_350
  let v451 : BitVec 32 := Scalar.maxsi c0_i32_352 v449
  let v452 : BitVec 32 := Scalar.minsi c3_i32_353 v451
  let c2048_i32_354 : BitVec 32 := 2048#32
  let v453 : BitVec 32 := Scalar.muli v452 c2048_i32_354
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v454 : BitVec 32 := Scalar.addi v453 v12
  let c256_i32_355 : BitVec 32 := 256#32
  let v455 : BitVec 32 := Scalar.addi v454 c256_i32_355
  let c0_i32_3537 : BitVec 32 := 0#32
  ![v455.toNat, 0]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3366 : BitVec 32 := Scalar.extui v3349
  let c0_i32_3236 : BitVec 32 := 0#32
  let v3367 : BitVec 1 := Scalar.cmpi .ne v3366 c0_i32_3236
  v3367

def k0_off172 (d0 : Dev nD) : Fin 2 → Nat :=
  let c3_i32_123 : BitVec 32 := 3#32
  let c0_i32_122 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v173 : BitVec 32 := Scalar.addi v8 c1_i32_120
  let v175 : BitVec 32 := Scalar.maxsi c0_i32_122 v173
  let v176 : BitVec 32 := Scalar.minsi c3_i32_123 v175
  let c2048_i32_124 : BitVec 32 := 2048#32
  let v177 : BitVec 32 := Scalar.muli v176 c2048_i32_124
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v178 : BitVec 32 := Scalar.addi v177 v12
  let c384_i32_125 : BitVec 32 := 384#32
  let v179 : BitVec 32 := Scalar.addi v178 c384_i32_125
  let c0_i32_3537 : BitVec 32 := 0#32
  ![v179.toNat, 0]
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3368 : BitVec 32 := Scalar.extui v3353
  let c0_i32_3241 : BitVec 32 := 0#32
  let v3369 : BitVec 1 := Scalar.cmpi .ne v3368 c0_i32_3241
  v3369

def k0_off173 (d0 : Dev nD) : Fin 2 → Nat :=
  let c3_i32_363 : BitVec 32 := 3#32
  let c0_i32_362 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_360 : BitVec 32 := 1#32
  let v461 : BitVec 32 := Scalar.subi v8 c1_i32_360
  let v463 : BitVec 32 := Scalar.maxsi c0_i32_362 v461
  let v464 : BitVec 32 := Scalar.minsi c3_i32_363 v463
  let c2048_i32_364 : BitVec 32 := 2048#32
  let v465 : BitVec 32 := Scalar.muli v464 c2048_i32_364
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v466 : BitVec 32 := Scalar.addi v465 v12
  let c384_i32_365 : BitVec 32 := 384#32
  let v467 : BitVec 32 := Scalar.addi v466 c384_i32_365
  let c0_i32_3537 : BitVec 32 := 0#32
  ![v467.toNat, 0]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3370 : BitVec 32 := Scalar.extui v3349
  let c0_i32_3246 : BitVec 32 := 0#32
  let v3371 : BitVec 1 := Scalar.cmpi .ne v3370 c0_i32_3246
  v3371

def k0_off174 (d0 : Dev nD) : Fin 2 → Nat :=
  let c3_i32_133 : BitVec 32 := 3#32
  let c0_i32_132 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v185 : BitVec 32 := Scalar.addi v8 c1_i32_130
  let v187 : BitVec 32 := Scalar.maxsi c0_i32_132 v185
  let v188 : BitVec 32 := Scalar.minsi c3_i32_133 v187
  let c2048_i32_134 : BitVec 32 := 2048#32
  let v189 : BitVec 32 := Scalar.muli v188 c2048_i32_134
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v190 : BitVec 32 := Scalar.addi v189 v12
  let c512_i32_135 : BitVec 32 := 512#32
  let v191 : BitVec 32 := Scalar.addi v190 c512_i32_135
  let c0_i32_3537 : BitVec 32 := 0#32
  ![v191.toNat, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3372 : BitVec 32 := Scalar.extui v3353
  let c0_i32_3251 : BitVec 32 := 0#32
  let v3373 : BitVec 1 := Scalar.cmpi .ne v3372 c0_i32_3251
  v3373

def k0_off175 (d0 : Dev nD) : Fin 2 → Nat :=
  let c3_i32_373 : BitVec 32 := 3#32
  let c0_i32_372 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v473 : BitVec 32 := Scalar.subi v8 c1_i32_370
  let v475 : BitVec 32 := Scalar.maxsi c0_i32_372 v473
  let v476 : BitVec 32 := Scalar.minsi c3_i32_373 v475
  let c2048_i32_374 : BitVec 32 := 2048#32
  let v477 : BitVec 32 := Scalar.muli v476 c2048_i32_374
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v478 : BitVec 32 := Scalar.addi v477 v12
  let c512_i32_375 : BitVec 32 := 512#32
  let v479 : BitVec 32 := Scalar.addi v478 c512_i32_375
  let c0_i32_3537 : BitVec 32 := 0#32
  ![v479.toNat, 0]
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3374 : BitVec 32 := Scalar.extui v3349
  let c0_i32_3256 : BitVec 32 := 0#32
  let v3375 : BitVec 1 := Scalar.cmpi .ne v3374 c0_i32_3256
  v3375

def k0_off176 (d0 : Dev nD) : Fin 2 → Nat :=
  let c3_i32_143 : BitVec 32 := 3#32
  let c0_i32_142 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v197 : BitVec 32 := Scalar.addi v8 c1_i32_140
  let v199 : BitVec 32 := Scalar.maxsi c0_i32_142 v197
  let v200 : BitVec 32 := Scalar.minsi c3_i32_143 v199
  let c2048_i32_144 : BitVec 32 := 2048#32
  let v201 : BitVec 32 := Scalar.muli v200 c2048_i32_144
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v202 : BitVec 32 := Scalar.addi v201 v12
  let c640_i32_145 : BitVec 32 := 640#32
  let v203 : BitVec 32 := Scalar.addi v202 c640_i32_145
  let c0_i32_3537 : BitVec 32 := 0#32
  ![v203.toNat, 0]
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3376 : BitVec 32 := Scalar.extui v3353
  let c0_i32_3261 : BitVec 32 := 0#32
  let v3377 : BitVec 1 := Scalar.cmpi .ne v3376 c0_i32_3261
  v3377

def k0_off177 (d0 : Dev nD) : Fin 2 → Nat :=
  let c3_i32_383 : BitVec 32 := 3#32
  let c0_i32_382 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v485 : BitVec 32 := Scalar.subi v8 c1_i32_380
  let v487 : BitVec 32 := Scalar.maxsi c0_i32_382 v485
  let v488 : BitVec 32 := Scalar.minsi c3_i32_383 v487
  let c2048_i32_384 : BitVec 32 := 2048#32
  let v489 : BitVec 32 := Scalar.muli v488 c2048_i32_384
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v490 : BitVec 32 := Scalar.addi v489 v12
  let c640_i32_385 : BitVec 32 := 640#32
  let v491 : BitVec 32 := Scalar.addi v490 c640_i32_385
  let c0_i32_3537 : BitVec 32 := 0#32
  ![v491.toNat, 0]
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3378 : BitVec 32 := Scalar.extui v3349
  let c0_i32_3266 : BitVec 32 := 0#32
  let v3379 : BitVec 1 := Scalar.cmpi .ne v3378 c0_i32_3266
  v3379

def k0_off178 (d0 : Dev nD) : Fin 2 → Nat :=
  let c3_i32_153 : BitVec 32 := 3#32
  let c0_i32_152 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v209 : BitVec 32 := Scalar.addi v8 c1_i32_150
  let v211 : BitVec 32 := Scalar.maxsi c0_i32_152 v209
  let v212 : BitVec 32 := Scalar.minsi c3_i32_153 v211
  let c2048_i32_154 : BitVec 32 := 2048#32
  let v213 : BitVec 32 := Scalar.muli v212 c2048_i32_154
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v214 : BitVec 32 := Scalar.addi v213 v12
  let c768_i32_155 : BitVec 32 := 768#32
  let v215 : BitVec 32 := Scalar.addi v214 c768_i32_155
  let c0_i32_3537 : BitVec 32 := 0#32
  ![v215.toNat, 0]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3380 : BitVec 32 := Scalar.extui v3353
  let c0_i32_3271 : BitVec 32 := 0#32
  let v3381 : BitVec 1 := Scalar.cmpi .ne v3380 c0_i32_3271
  v3381

def k0_off179 (d0 : Dev nD) : Fin 2 → Nat :=
  let c3_i32_393 : BitVec 32 := 3#32
  let c0_i32_392 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v497 : BitVec 32 := Scalar.subi v8 c1_i32_390
  let v499 : BitVec 32 := Scalar.maxsi c0_i32_392 v497
  let v500 : BitVec 32 := Scalar.minsi c3_i32_393 v499
  let c2048_i32_394 : BitVec 32 := 2048#32
  let v501 : BitVec 32 := Scalar.muli v500 c2048_i32_394
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v502 : BitVec 32 := Scalar.addi v501 v12
  let c768_i32_395 : BitVec 32 := 768#32
  let v503 : BitVec 32 := Scalar.addi v502 c768_i32_395
  let c0_i32_3537 : BitVec 32 := 0#32
  ![v503.toNat, 0]
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3346 : BitVec 32 := Scalar.addi v8 c1_i32_3196
  let c0_i32_3197 : BitVec 32 := 0#32
  let v3347 : BitVec 32 := Scalar.addi v3346 c0_i32_3197
  let c3_i32_3198 : BitVec 32 := 3#32
  let v3348 : BitVec 1 := Scalar.cmpi .sle v3347 c3_i32_3198
  let c0_i32 : BitVec 32 := 0#32
  let v15 : BitVec 1 := Scalar.cmpi .sgt v8 c0_i32
  let v3349 : BitVec 1 := Scalar.andi v3348 v15
  let v3382 : BitVec 32 := Scalar.extui v3349
  let c0_i32_3276 : BitVec 32 := 0#32
  let v3383 : BitVec 1 := Scalar.cmpi .ne v3382 c0_i32_3276
  v3383

def k0_off180 (d0 : Dev nD) : Fin 2 → Nat :=
  let c3_i32_163 : BitVec 32 := 3#32
  let c0_i32_162 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v221 : BitVec 32 := Scalar.addi v8 c1_i32_160
  let v223 : BitVec 32 := Scalar.maxsi c0_i32_162 v221
  let v224 : BitVec 32 := Scalar.minsi c3_i32_163 v223
  let c2048_i32_164 : BitVec 32 := 2048#32
  let v225 : BitVec 32 := Scalar.muli v224 c2048_i32_164
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v226 : BitVec 32 := Scalar.addi v225 v12
  let c896_i32_165 : BitVec 32 := 896#32
  let v227 : BitVec 32 := Scalar.addi v226 c896_i32_165
  let c0_i32_3537 : BitVec 32 := 0#32
  ![v227.toNat, 0]
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3199 : BitVec 32 := 1#32
  let v3350 : BitVec 32 := Scalar.subi v8 c1_i32_3199
  let c0_i32_3200 : BitVec 32 := 0#32
  let v3351 : BitVec 32 := Scalar.subi v3350 c0_i32_3200
  let c0_i32_3201 : BitVec 32 := 0#32
  let v3352 : BitVec 1 := Scalar.cmpi .sge v3351 c0_i32_3201
  let c3_i32 : BitVec 32 := 3#32
  let v16 : BitVec 1 := Scalar.cmpi .slt v8 c3_i32
  let v3353 : BitVec 1 := Scalar.andi v3352 v16
  let v3384 : BitVec 32 := Scalar.extui v3353
  let c0_i32_3281 : BitVec 32 := 0#32
  let v3385 : BitVec 1 := Scalar.cmpi .ne v3384 c0_i32_3281
  v3385

def k0_off181 (d0 : Dev nD) : Fin 2 → Nat :=
  let c3_i32_403 : BitVec 32 := 3#32
  let c0_i32_402 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v509 : BitVec 32 := Scalar.subi v8 c1_i32_400
  let v511 : BitVec 32 := Scalar.maxsi c0_i32_402 v509
  let v512 : BitVec 32 := Scalar.minsi c3_i32_403 v511
  let c2048_i32_404 : BitVec 32 := 2048#32
  let v513 : BitVec 32 := Scalar.muli v512 c2048_i32_404
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v514 : BitVec 32 := Scalar.addi v513 v12
  let c896_i32_405 : BitVec 32 := 896#32
  let v515 : BitVec 32 := Scalar.addi v514 c896_i32_405
  let c0_i32_3537 : BitVec 32 := 0#32
  ![v515.toNat, 0]
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3394 : BitVec 32 := Scalar.extui v3389
  let c0_i32_3292 : BitVec 32 := 0#32
  let v3395 : BitVec 1 := Scalar.cmpi .ne v3394 c0_i32_3292
  v3395

def k0_off182 (d0 : Dev nD) : Fin 2 → Nat :=
  let c3_i32_173 : BitVec 32 := 3#32
  let c0_i32_172 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_170 : BitVec 32 := 2#32
  let v233 : BitVec 32 := Scalar.addi v8 c2_i32_170
  let v235 : BitVec 32 := Scalar.maxsi c0_i32_172 v233
  let v236 : BitVec 32 := Scalar.minsi c3_i32_173 v235
  let c2048_i32_174 : BitVec 32 := 2048#32
  let v237 : BitVec 32 := Scalar.muli v236 c2048_i32_174
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v238 : BitVec 32 := Scalar.addi v237 v12
  let c0_i32_175 : BitVec 32 := 0#32
  let v239 : BitVec 32 := Scalar.addi v238 c0_i32_175
  let c0_i32_3537 : BitVec 32 := 0#32
  ![v239.toNat, 0]
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3396 : BitVec 32 := Scalar.extui v3393
  let c0_i32_3297 : BitVec 32 := 0#32
  let v3397 : BitVec 1 := Scalar.cmpi .ne v3396 c0_i32_3297
  v3397

def k0_off183 (d0 : Dev nD) : Fin 2 → Nat :=
  let c3_i32_413 : BitVec 32 := 3#32
  let c0_i32_412 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_410 : BitVec 32 := 2#32
  let v521 : BitVec 32 := Scalar.subi v8 c2_i32_410
  let v523 : BitVec 32 := Scalar.maxsi c0_i32_412 v521
  let v524 : BitVec 32 := Scalar.minsi c3_i32_413 v523
  let c2048_i32_414 : BitVec 32 := 2048#32
  let v525 : BitVec 32 := Scalar.muli v524 c2048_i32_414
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v526 : BitVec 32 := Scalar.addi v525 v12
  let c0_i32_415 : BitVec 32 := 0#32
  let v527 : BitVec 32 := Scalar.addi v526 c0_i32_415
  let c0_i32_3537 : BitVec 32 := 0#32
  ![v527.toNat, 0]
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3398 : BitVec 32 := Scalar.extui v3389
  let c0_i32_3302 : BitVec 32 := 0#32
  let v3399 : BitVec 1 := Scalar.cmpi .ne v3398 c0_i32_3302
  v3399

def k0_off184 (d0 : Dev nD) : Fin 2 → Nat :=
  let c3_i32_183 : BitVec 32 := 3#32
  let c0_i32_182 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_180 : BitVec 32 := 2#32
  let v245 : BitVec 32 := Scalar.addi v8 c2_i32_180
  let v247 : BitVec 32 := Scalar.maxsi c0_i32_182 v245
  let v248 : BitVec 32 := Scalar.minsi c3_i32_183 v247
  let c2048_i32_184 : BitVec 32 := 2048#32
  let v249 : BitVec 32 := Scalar.muli v248 c2048_i32_184
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v250 : BitVec 32 := Scalar.addi v249 v12
  let c128_i32_185 : BitVec 32 := 128#32
  let v251 : BitVec 32 := Scalar.addi v250 c128_i32_185
  let c0_i32_3537 : BitVec 32 := 0#32
  ![v251.toNat, 0]
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3400 : BitVec 32 := Scalar.extui v3393
  let c0_i32_3307 : BitVec 32 := 0#32
  let v3401 : BitVec 1 := Scalar.cmpi .ne v3400 c0_i32_3307
  v3401

def k0_off185 (d0 : Dev nD) : Fin 2 → Nat :=
  let c3_i32_423 : BitVec 32 := 3#32
  let c0_i32_422 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_420 : BitVec 32 := 2#32
  let v533 : BitVec 32 := Scalar.subi v8 c2_i32_420
  let v535 : BitVec 32 := Scalar.maxsi c0_i32_422 v533
  let v536 : BitVec 32 := Scalar.minsi c3_i32_423 v535
  let c2048_i32_424 : BitVec 32 := 2048#32
  let v537 : BitVec 32 := Scalar.muli v536 c2048_i32_424
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v538 : BitVec 32 := Scalar.addi v537 v12
  let c128_i32_425 : BitVec 32 := 128#32
  let v539 : BitVec 32 := Scalar.addi v538 c128_i32_425
  let c0_i32_3537 : BitVec 32 := 0#32
  ![v539.toNat, 0]
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3402 : BitVec 32 := Scalar.extui v3389
  let c0_i32_3312 : BitVec 32 := 0#32
  let v3403 : BitVec 1 := Scalar.cmpi .ne v3402 c0_i32_3312
  v3403

def k0_off186 (d0 : Dev nD) : Fin 2 → Nat :=
  let c3_i32_193 : BitVec 32 := 3#32
  let c0_i32_192 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_190 : BitVec 32 := 2#32
  let v257 : BitVec 32 := Scalar.addi v8 c2_i32_190
  let v259 : BitVec 32 := Scalar.maxsi c0_i32_192 v257
  let v260 : BitVec 32 := Scalar.minsi c3_i32_193 v259
  let c2048_i32_194 : BitVec 32 := 2048#32
  let v261 : BitVec 32 := Scalar.muli v260 c2048_i32_194
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v262 : BitVec 32 := Scalar.addi v261 v12
  let c256_i32_195 : BitVec 32 := 256#32
  let v263 : BitVec 32 := Scalar.addi v262 c256_i32_195
  let c0_i32_3537 : BitVec 32 := 0#32
  ![v263.toNat, 0]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3404 : BitVec 32 := Scalar.extui v3393
  let c0_i32_3317 : BitVec 32 := 0#32
  let v3405 : BitVec 1 := Scalar.cmpi .ne v3404 c0_i32_3317
  v3405

def k0_off187 (d0 : Dev nD) : Fin 2 → Nat :=
  let c3_i32_433 : BitVec 32 := 3#32
  let c0_i32_432 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_430 : BitVec 32 := 2#32
  let v545 : BitVec 32 := Scalar.subi v8 c2_i32_430
  let v547 : BitVec 32 := Scalar.maxsi c0_i32_432 v545
  let v548 : BitVec 32 := Scalar.minsi c3_i32_433 v547
  let c2048_i32_434 : BitVec 32 := 2048#32
  let v549 : BitVec 32 := Scalar.muli v548 c2048_i32_434
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v550 : BitVec 32 := Scalar.addi v549 v12
  let c256_i32_435 : BitVec 32 := 256#32
  let v551 : BitVec 32 := Scalar.addi v550 c256_i32_435
  let c0_i32_3537 : BitVec 32 := 0#32
  ![v551.toNat, 0]
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3406 : BitVec 32 := Scalar.extui v3389
  let c0_i32_3322 : BitVec 32 := 0#32
  let v3407 : BitVec 1 := Scalar.cmpi .ne v3406 c0_i32_3322
  v3407

def k0_off188 (d0 : Dev nD) : Fin 2 → Nat :=
  let c3_i32_203 : BitVec 32 := 3#32
  let c0_i32_202 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_200 : BitVec 32 := 2#32
  let v269 : BitVec 32 := Scalar.addi v8 c2_i32_200
  let v271 : BitVec 32 := Scalar.maxsi c0_i32_202 v269
  let v272 : BitVec 32 := Scalar.minsi c3_i32_203 v271
  let c2048_i32_204 : BitVec 32 := 2048#32
  let v273 : BitVec 32 := Scalar.muli v272 c2048_i32_204
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v274 : BitVec 32 := Scalar.addi v273 v12
  let c384_i32_205 : BitVec 32 := 384#32
  let v275 : BitVec 32 := Scalar.addi v274 c384_i32_205
  let c0_i32_3537 : BitVec 32 := 0#32
  ![v275.toNat, 0]
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3408 : BitVec 32 := Scalar.extui v3393
  let c0_i32_3327 : BitVec 32 := 0#32
  let v3409 : BitVec 1 := Scalar.cmpi .ne v3408 c0_i32_3327
  v3409

def k0_off189 (d0 : Dev nD) : Fin 2 → Nat :=
  let c3_i32_443 : BitVec 32 := 3#32
  let c0_i32_442 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_440 : BitVec 32 := 2#32
  let v557 : BitVec 32 := Scalar.subi v8 c2_i32_440
  let v559 : BitVec 32 := Scalar.maxsi c0_i32_442 v557
  let v560 : BitVec 32 := Scalar.minsi c3_i32_443 v559
  let c2048_i32_444 : BitVec 32 := 2048#32
  let v561 : BitVec 32 := Scalar.muli v560 c2048_i32_444
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v562 : BitVec 32 := Scalar.addi v561 v12
  let c384_i32_445 : BitVec 32 := 384#32
  let v563 : BitVec 32 := Scalar.addi v562 c384_i32_445
  let c0_i32_3537 : BitVec 32 := 0#32
  ![v563.toNat, 0]
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3410 : BitVec 32 := Scalar.extui v3389
  let c0_i32_3332 : BitVec 32 := 0#32
  let v3411 : BitVec 1 := Scalar.cmpi .ne v3410 c0_i32_3332
  v3411

def k0_off190 (d0 : Dev nD) : Fin 2 → Nat :=
  let c3_i32_213 : BitVec 32 := 3#32
  let c0_i32_212 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_210 : BitVec 32 := 2#32
  let v281 : BitVec 32 := Scalar.addi v8 c2_i32_210
  let v283 : BitVec 32 := Scalar.maxsi c0_i32_212 v281
  let v284 : BitVec 32 := Scalar.minsi c3_i32_213 v283
  let c2048_i32_214 : BitVec 32 := 2048#32
  let v285 : BitVec 32 := Scalar.muli v284 c2048_i32_214
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v286 : BitVec 32 := Scalar.addi v285 v12
  let c512_i32_215 : BitVec 32 := 512#32
  let v287 : BitVec 32 := Scalar.addi v286 c512_i32_215
  let c0_i32_3537 : BitVec 32 := 0#32
  ![v287.toNat, 0]
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3412 : BitVec 32 := Scalar.extui v3393
  let c0_i32_3337 : BitVec 32 := 0#32
  let v3413 : BitVec 1 := Scalar.cmpi .ne v3412 c0_i32_3337
  v3413

def k0_off191 (d0 : Dev nD) : Fin 2 → Nat :=
  let c3_i32_453 : BitVec 32 := 3#32
  let c0_i32_452 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_450 : BitVec 32 := 2#32
  let v569 : BitVec 32 := Scalar.subi v8 c2_i32_450
  let v571 : BitVec 32 := Scalar.maxsi c0_i32_452 v569
  let v572 : BitVec 32 := Scalar.minsi c3_i32_453 v571
  let c2048_i32_454 : BitVec 32 := 2048#32
  let v573 : BitVec 32 := Scalar.muli v572 c2048_i32_454
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v574 : BitVec 32 := Scalar.addi v573 v12
  let c512_i32_455 : BitVec 32 := 512#32
  let v575 : BitVec 32 := Scalar.addi v574 c512_i32_455
  let c0_i32_3537 : BitVec 32 := 0#32
  ![v575.toNat, 0]
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3414 : BitVec 32 := Scalar.extui v3389
  let c0_i32_3342 : BitVec 32 := 0#32
  let v3415 : BitVec 1 := Scalar.cmpi .ne v3414 c0_i32_3342
  v3415

def k0_off192 (d0 : Dev nD) : Fin 2 → Nat :=
  let c3_i32_223 : BitVec 32 := 3#32
  let c0_i32_222 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_220 : BitVec 32 := 2#32
  let v293 : BitVec 32 := Scalar.addi v8 c2_i32_220
  let v295 : BitVec 32 := Scalar.maxsi c0_i32_222 v293
  let v296 : BitVec 32 := Scalar.minsi c3_i32_223 v295
  let c2048_i32_224 : BitVec 32 := 2048#32
  let v297 : BitVec 32 := Scalar.muli v296 c2048_i32_224
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v298 : BitVec 32 := Scalar.addi v297 v12
  let c640_i32_225 : BitVec 32 := 640#32
  let v299 : BitVec 32 := Scalar.addi v298 c640_i32_225
  let c0_i32_3537 : BitVec 32 := 0#32
  ![v299.toNat, 0]
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3416 : BitVec 32 := Scalar.extui v3393
  let c0_i32_3347 : BitVec 32 := 0#32
  let v3417 : BitVec 1 := Scalar.cmpi .ne v3416 c0_i32_3347
  v3417

def k0_off193 (d0 : Dev nD) : Fin 2 → Nat :=
  let c3_i32_463 : BitVec 32 := 3#32
  let c0_i32_462 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_460 : BitVec 32 := 2#32
  let v581 : BitVec 32 := Scalar.subi v8 c2_i32_460
  let v583 : BitVec 32 := Scalar.maxsi c0_i32_462 v581
  let v584 : BitVec 32 := Scalar.minsi c3_i32_463 v583
  let c2048_i32_464 : BitVec 32 := 2048#32
  let v585 : BitVec 32 := Scalar.muli v584 c2048_i32_464
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v586 : BitVec 32 := Scalar.addi v585 v12
  let c640_i32_465 : BitVec 32 := 640#32
  let v587 : BitVec 32 := Scalar.addi v586 c640_i32_465
  let c0_i32_3537 : BitVec 32 := 0#32
  ![v587.toNat, 0]
def k0_cond145 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3418 : BitVec 32 := Scalar.extui v3389
  let c0_i32_3352 : BitVec 32 := 0#32
  let v3419 : BitVec 1 := Scalar.cmpi .ne v3418 c0_i32_3352
  v3419

def k0_off194 (d0 : Dev nD) : Fin 2 → Nat :=
  let c3_i32_233 : BitVec 32 := 3#32
  let c0_i32_232 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_230 : BitVec 32 := 2#32
  let v305 : BitVec 32 := Scalar.addi v8 c2_i32_230
  let v307 : BitVec 32 := Scalar.maxsi c0_i32_232 v305
  let v308 : BitVec 32 := Scalar.minsi c3_i32_233 v307
  let c2048_i32_234 : BitVec 32 := 2048#32
  let v309 : BitVec 32 := Scalar.muli v308 c2048_i32_234
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v310 : BitVec 32 := Scalar.addi v309 v12
  let c768_i32_235 : BitVec 32 := 768#32
  let v311 : BitVec 32 := Scalar.addi v310 c768_i32_235
  let c0_i32_3537 : BitVec 32 := 0#32
  ![v311.toNat, 0]
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3420 : BitVec 32 := Scalar.extui v3393
  let c0_i32_3357 : BitVec 32 := 0#32
  let v3421 : BitVec 1 := Scalar.cmpi .ne v3420 c0_i32_3357
  v3421

def k0_off195 (d0 : Dev nD) : Fin 2 → Nat :=
  let c3_i32_473 : BitVec 32 := 3#32
  let c0_i32_472 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_470 : BitVec 32 := 2#32
  let v593 : BitVec 32 := Scalar.subi v8 c2_i32_470
  let v595 : BitVec 32 := Scalar.maxsi c0_i32_472 v593
  let v596 : BitVec 32 := Scalar.minsi c3_i32_473 v595
  let c2048_i32_474 : BitVec 32 := 2048#32
  let v597 : BitVec 32 := Scalar.muli v596 c2048_i32_474
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v598 : BitVec 32 := Scalar.addi v597 v12
  let c768_i32_475 : BitVec 32 := 768#32
  let v599 : BitVec 32 := Scalar.addi v598 c768_i32_475
  let c0_i32_3537 : BitVec 32 := 0#32
  ![v599.toNat, 0]
def k0_cond147 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3282 : BitVec 32 := 1#32
  let v3386 : BitVec 32 := Scalar.addi v8 c1_i32_3282
  let c1_i32_3283 : BitVec 32 := 1#32
  let v3387 : BitVec 32 := Scalar.addi v3386 c1_i32_3283
  let c3_i32_3284 : BitVec 32 := 3#32
  let v3388 : BitVec 1 := Scalar.cmpi .sle v3387 c3_i32_3284
  let c0_i32 : BitVec 32 := 0#32
  let v15 : BitVec 1 := Scalar.cmpi .sgt v8 c0_i32
  let v3389 : BitVec 1 := Scalar.andi v3388 v15
  let v3422 : BitVec 32 := Scalar.extui v3389
  let c0_i32_3362 : BitVec 32 := 0#32
  let v3423 : BitVec 1 := Scalar.cmpi .ne v3422 c0_i32_3362
  v3423

def k0_off196 (d0 : Dev nD) : Fin 2 → Nat :=
  let c3_i32_243 : BitVec 32 := 3#32
  let c0_i32_242 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_240 : BitVec 32 := 2#32
  let v317 : BitVec 32 := Scalar.addi v8 c2_i32_240
  let v319 : BitVec 32 := Scalar.maxsi c0_i32_242 v317
  let v320 : BitVec 32 := Scalar.minsi c3_i32_243 v319
  let c2048_i32_244 : BitVec 32 := 2048#32
  let v321 : BitVec 32 := Scalar.muli v320 c2048_i32_244
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v322 : BitVec 32 := Scalar.addi v321 v12
  let c896_i32_245 : BitVec 32 := 896#32
  let v323 : BitVec 32 := Scalar.addi v322 c896_i32_245
  let c0_i32_3537 : BitVec 32 := 0#32
  ![v323.toNat, 0]
def k0_cond148 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3285 : BitVec 32 := 1#32
  let v3390 : BitVec 32 := Scalar.subi v8 c1_i32_3285
  let c1_i32_3286 : BitVec 32 := 1#32
  let v3391 : BitVec 32 := Scalar.subi v3390 c1_i32_3286
  let c0_i32_3287 : BitVec 32 := 0#32
  let v3392 : BitVec 1 := Scalar.cmpi .sge v3391 c0_i32_3287
  let c3_i32 : BitVec 32 := 3#32
  let v16 : BitVec 1 := Scalar.cmpi .slt v8 c3_i32
  let v3393 : BitVec 1 := Scalar.andi v3392 v16
  let v3424 : BitVec 32 := Scalar.extui v3393
  let c0_i32_3367 : BitVec 32 := 0#32
  let v3425 : BitVec 1 := Scalar.cmpi .ne v3424 c0_i32_3367
  v3425

def k0_off197 (d0 : Dev nD) : Fin 2 → Nat :=
  let c3_i32_483 : BitVec 32 := 3#32
  let c0_i32_482 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_480 : BitVec 32 := 2#32
  let v605 : BitVec 32 := Scalar.subi v8 c2_i32_480
  let v607 : BitVec 32 := Scalar.maxsi c0_i32_482 v605
  let v608 : BitVec 32 := Scalar.minsi c3_i32_483 v607
  let c2048_i32_484 : BitVec 32 := 2048#32
  let v609 : BitVec 32 := Scalar.muli v608 c2048_i32_484
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v610 : BitVec 32 := Scalar.addi v609 v12
  let c896_i32_485 : BitVec 32 := 896#32
  let v611 : BitVec 32 := Scalar.addi v610 c896_i32_485
  let c0_i32_3537 : BitVec 32 := 0#32
  ![v611.toNat, 0]
def k0_off198 (d0 : Dev nD) (c0_i32_491 : BitVec 32) (c0_i32_509 : BitVec 32) : Fin 2 → Nat :=
  let c3_i32_507 : BitVec 32 := 3#32
  let c0_i32_506 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_490 : BitVec 32 := 1#32
  let v617 : BitVec 32 := Scalar.addi v8 c1_i32_490
  let v618 : BitVec 32 := Scalar.addi v617 c0_i32_491
  let c4_i32_492 : BitVec 32 := 4#32
  let c0_i32_493 : BitVec 32 := 0#32
  let v619 : BitVec 1 := Scalar.cmpi .eq c4_i32_492 c0_i32_493
  let c1_i32_494 : BitVec 32 := 1#32
  let v620 : BitVec 32 := Scalar.select v619 c1_i32_494 c4_i32_492
  let v621 : BitVec 32 := Scalar.remsi v618 v620
  let c0_i32_496 : BitVec 32 := 0#32
  let v623 : BitVec 1 := Scalar.cmpi .slt v621 c0_i32_496
  let c0_i32_497 : BitVec 32 := 0#32
  let v624 : BitVec 1 := Scalar.cmpi .slt v620 c0_i32_497
  let v625 : BitVec 1 := Scalar.xori v623 v624
  let c0_i32_495 : BitVec 32 := 0#32
  let v622 : BitVec 1 := Scalar.cmpi .ne v621 c0_i32_495
  let v626 : BitVec 1 := Scalar.andi v625 v622
  let v627 : BitVec 32 := Scalar.addi v621 v620
  let v628 : BitVec 32 := Scalar.select v626 v627 v621
  let v641 : BitVec 32 := Scalar.maxsi c0_i32_506 v628
  let v642 : BitVec 32 := Scalar.minsi c3_i32_507 v641
  let c2048_i32_508 : BitVec 32 := 2048#32
  let v643 : BitVec 32 := Scalar.muli v642 c2048_i32_508
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v12 : BitVec 32 := Scalar.muli v2 c1024_i32
  let v644 : BitVec 32 := Scalar.addi v643 v12
  let v645 : BitVec 32 := Scalar.addi v644 c0_i32_509
  let c0_i32_3373 : BitVec 32 := 0#32
  ![v645.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Dir.lean ====
/-
# The mesh, the three directions, and the 64 row blocks

Device `c = 16 x + 4 y + z` of the 2 × 4 × 4 mesh talks to three devices: the one BELOW it (`z - 1`), the one ABOVE it
(`z + 1`) and the one ACROSS (`1 - x`). The result array has 8192 rows, held here as 64 blocks of 128 rows: block
`16 j + 8 h + i` is piece `i` of half `h` of chunk `j`. Everything that the kernel sends is one block, and a device
receives each block outside its own chunk exactly once. This module has the arithmetic of who sends which block
to whom, with no separation logic in it.
-/
module

public import proofs.«01_k».proof.Proof.Gen.KernelIdeal

@[expose] public section

namespace Cert.GatherProof

open Cert.KernelIdeal Idealize.ShloMosaic

/-- The direction a transfer goes: `0` down the last axis, `1` up it, `2` across the first axis. -/
abbrev Dir : Type := Fin 3

/-- A device's coordinate along the first axis. -/
def cx (c : Dev nD) : ℕ := c.val / 16
/-- A device's coordinate along the second axis. -/
def cy (c : Dev nD) : ℕ := c.val / 4 % 4
/-- A device's coordinate along the third axis. -/
def cz (c : Dev nD) : ℕ := c.val % 4

theorem cx_lt (c : Dev nD) : cx c < 2 := by have := c.isLt; unfold cx; revert this; generalize c.val = v; intro h; have : v < 32 := h; omega
theorem cy_lt (c : Dev nD) : cy c < 4 := by unfold cy; omega
theorem cz_lt (c : Dev nD) : cz c < 4 := by unfold cz; omega

/-- The device at coordinates `(h, y, j)`. -/
def devAt (h y j : ℕ) : Dev nD := ⟨(16 * h + 4 * y + j) % 32, Nat.mod_lt _ (by decide)⟩

theorem devAt_self (c : Dev nD) : devAt (cx c) (cy c) (cz c) = c := by revert c; decide

/-- The neighbour in a direction; the third axis closes into a cycle, so that each direction is a permutation. -/
def nbr (δ : Dir) (c : Dev nD) : Dev nD := match δ with
  | 0 => devAt (cx c) (cy c) ((cz c + 3) % 4)
  | 1 => devAt (cx c) (cy c) ((cz c + 1) % 4)
  | 2 => devAt (1 - cx c) (cy c) (cz c)

/-- The direction back. -/
def opp (δ : Dir) : Dir := match δ with | 0 => 1 | 1 => 0 | 2 => 2

/-- The device that sends to `c` along `δ`. -/
def src (δ : Dir) (c : Dev nD) : Dev nD := nbr (opp δ) c

theorem nbr_src (δ : Dir) (c : Dev nD) : nbr δ (src δ c) = c := by revert δ c; decide
theorem src_nbr (δ : Dir) (c : Dev nD) : src δ (nbr δ c) = c := by revert δ c; decide
theorem cy_nbr (δ : Dir) (c : Dev nD) : cy (nbr δ c) = cy c := by revert δ c; decide
theorem cy_src (δ : Dir) (c : Dev nD) : cy (src δ c) = cy c := by revert δ c; decide

/-- A direction as a permutation of the devices. -/
def ring (δ : Dir) : Dev nD ≃ Dev nD := ⟨nbr δ, src δ, src_nbr δ, nbr_src δ⟩

/-- Whether a device at height `z` has a neighbour in direction `δ` (the ends of the third axis are not joined). -/
def bv (δ : Dir) (z : ℕ) : Bool := match δ with | 0 => decide (0 < z) | 1 => decide (z < 3) | 2 => true

/-- Whether a device at height `z` sends in direction `δ` at step `k`. -/
def sv (δ : Dir) (z : ℕ) (k : Fin 3) : Bool := match δ with
  | 0 => decide (0 < z) && decide (z + k.val ≤ 3)
  | 1 => decide (z < 3) && decide (k.val ≤ z)
  | 2 => true

/-- Whether a device at height `z` receives from direction `δ` at step `k`. -/
def rv (δ : Dir) (z : ℕ) (k : Fin 3) : Bool := match δ with
  | 0 => decide (z + 1 + k.val ≤ 3)
  | 1 => decide (k.val + 1 ≤ z)
  | 2 => true

theorem sv_src (δ : Dir) (c : Dev nD) (k : Fin 3) : sv δ (cz (src δ c)) k = rv δ (cz c) k := by revert δ c k; decide
theorem rv_nbr (δ : Dir) (c : Dev nD) (k : Fin 3) : rv δ (cz (nbr δ c)) k = sv δ (cz c) k := by revert δ c k; decide
theorem sv_zero (δ : Dir) (c : Dev nD) : sv δ (cz c) 0 = bv δ (cz c) := by revert δ c; decide
theorem bv_of_sv {δ : Dir} {c : Dev nD} {k : Fin 3} : sv δ (cz c) k = true → bv δ (cz c) = true := by revert δ c k; decide

/-- The chunk that device `c` sends in direction `δ` at step `k`. -/
def chunk (δ : Dir) (z : ℕ) (k : Fin 3) : ℕ := match δ with
  | 0 => (z + k.val) % 4
  | 1 => (z + 4 - k.val) % 4
  | 2 => (z + 1 + k.val) % 4

theorem blk_lt {j h i : ℕ} (hj : j < 4) (hh : h < 2) (hi : i < 8) : 16 * j + 8 * h + i < 64 := by omega
theorem chunk_lt (δ : Dir) (z : ℕ) (k : Fin 3) : chunk δ z k < 4 := by
  fin_cases δ <;> exact Nat.mod_lt _ (by decide)

/-- The block that device `c` sends in direction `δ` at step `k`, piece `i`. -/
def sblk (δ : Dir) (c : Dev nD) (k : Fin 3) (i : Fin 8) : Fin 64 :=
  ⟨16 * chunk δ (cz c) k + 8 * cx c + i.val, blk_lt (chunk_lt _ _ _) (cx_lt c) i.isLt⟩
/-- The block that device `c` receives from direction `δ` at step `k`, piece `i`. -/
def rblk (δ : Dir) (c : Dev nD) (k : Fin 3) (i : Fin 8) : Fin 64 := sblk δ (src δ c) k i
/-- The blocks of the device's own chunk: the half that it sends, -/
def oblk (c : Dev nD) (i : Fin 8) : Fin 64 := ⟨16 * cz c + 8 * cx c + i.val, blk_lt (cz_lt c) (cx_lt c) i.isLt⟩
/-- and the half that it keeps to itself. -/
def qblk (c : Dev nD) (i : Fin 8) : Fin 64 := ⟨16 * cz c + 8 * (1 - cx c) + i.val, blk_lt (cz_lt c) (by omega) i.isLt⟩

theorem rblk_nbr (δ : Dir) (c : Dev nD) (k : Fin 3) (i : Fin 8) : rblk δ (nbr δ c) k i = sblk δ c k i := by unfold rblk; rw [src_nbr]
theorem sblk_own (δ : Dir) (hδ : δ ≠ 2) (c : Dev nD) (i : Fin 8) : sblk δ c 0 i = oblk c i := by revert δ c i; decide +kernel

/-- The slot of the transfer across that passes on what was received from `δ` at step `k`. -/
def jx (δ : Dir) (k : Fin 3) : Fin 3 := match δ with | 0 => k | 1 => 2 - k | 2 => k

/-- What is received from below or above is what is sent across next, -/
theorem rblk_across {δ : Dir} (hδ : δ ≠ 2) {c : Dev nD} {k : Fin 3} (h : rv δ (cz c) k = true) (i : Fin 8) :
    rblk δ c k i = sblk 2 c (jx δ k) i := by revert δ c k i; decide +kernel

/-- Whether what was received from `δ` at step `k` is passed on in the same direction. -/
def fwd (δ : Dir) (z : ℕ) (k : Fin 3) : Bool := decide (k.val < 2) && bv δ z

/-- and, where it is passed on, what is sent on in the same direction at the next step. -/
theorem rblk_on {δ : Dir} (hδ : δ ≠ 2) {c : Dev nD} {k : Fin 3} (h : rv δ (cz c) k = true) (hf : fwd δ (cz c) k = true) (i : Fin 8) :
    rblk δ c k i = sblk δ c (k + 1) i ∧ sv δ (cz c) (k + 1) = true := by revert δ c k i; decide +kernel

/-! ## The run of a device as a list of acts -/

/-- What a device does after the barrier: send a piece of its own half down or up (`snd`), store the half that it keeps
    (`st2`), wait for a piece and pass it on (`rcv`), wait for a piece from across (`xlw`), wait for a piece that it
    sent to have left (`sw`). -/
inductive Act where
  | snd (δ : Dir) (i : Fin 8)
  | st2
  | rcv (δ : Dir) (k : Fin 3) (i : Fin 8)
  | xlw (j : Fin 3) (i : Fin 8)
  | sw (δ : Dir) (k : Fin 3) (i : Fin 8)
deriving DecidableEq

/-- The pieces in order. -/
abbrev pcs : List (Fin 8) := [0, 1, 2, 3, 4, 5, 6, 7]
/-- The steps in order. -/
abbrev stps : List (Fin 3) := [0, 1, 2]

/-- The first phase: everything but the waits for what was sent. -/
def L1 : List Act :=
  pcs.flatMap (fun i => [.snd 0 i, .snd 1 i]) ++ [.st2]
    ++ stps.flatMap (fun k => pcs.flatMap fun i => [.rcv 0 k i, .rcv 1 k i])
    ++ stps.flatMap (fun j => pcs.map fun i => .xlw j i)
/-- The second phase: the waits for what was sent. -/
def L2 : List Act :=
  stps.flatMap (fun k => pcs.flatMap fun i => [.sw 0 k i, .sw 1 k i]) ++ stps.flatMap (fun j => pcs.map fun i => .sw 2 j i)

/-- The transfers that an act of a device at height `z` issues: direction, step, piece. -/
def obs (z : ℕ) (a : Act) : List (Dir × Fin 3 × Fin 8) := match a with
  | .snd δ i => if bv δ z then [(δ, 0, i)] else []
  | .rcv δ k i => if rv δ z k then (2, jx δ k, i) :: (if fwd δ z k then [(δ, k + 1, i)] else []) else []
  | _ => []

theorem obs_nodup : ∀ z : Fin 4, (L1.flatMap (obs z.val)).Nodup := by decide +kernel
theorem mem_obs : ∀ (z : Fin 4) (o : Dir × Fin 3 × Fin 8), o ∈ L1.flatMap (obs z.val) ↔ sv o.1 z.val o.2.1 = true := by decide +kernel
theorem obs_L2 (z : ℕ) (a : Act) : a ∈ L2 → obs z a = [] := by
  intro h
  have : ∀ a ∈ L2, (match a with | .sw _ _ _ => true | _ => false) = true := by decide +kernel
  have := this a h
  cases a <;> first | rfl | (simp at this)

/-- The level of the receive cell of a transfer. -/
def rlev (o : Dir × Fin 3 × Fin 8) : ℕ := if o.1 = 2 then 10 else 2 + o.2.1.val
/-- The level that an act waits at. -/
def wlev (a : Act) : ℕ := match a with | .rcv _ k _ => 2 + k.val | .xlw _ _ => 10 | _ => 0

/-- No act waits at a level at or above one that it or a later act still has to raise. -/
theorem levels_ok : ∀ (z : Fin 4) (n : Fin 89), ∀ a ∈ L1[n.val]?, ∀ o ∈ (L1.drop n.val).flatMap (obs z.val), wlev a < rlev o := by decide +kernel

/-! ## The 64 blocks, each once -/

/-- Every block is one of the device's own chunk or one received, -/
theorem blocks_cover (c : Dev nD) (b : Fin 64) : (∃ i, b = oblk c i) ∨ (∃ i, b = qblk c i)
    ∨ ∃ o : Dir × Fin 3 × Fin 8, rv o.1 (cz c) o.2.1 = true ∧ b = rblk o.1 c o.2.1 o.2.2 := by revert c b; decide +kernel
theorem oblk_inj (c : Dev nD) : Function.Injective (oblk c) := by intro i j h; have := congrArg Fin.val h; simp only [oblk] at this; exact Fin.ext (by omega)
theorem qblk_inj (c : Dev nD) : Function.Injective (qblk c) := by intro i j h; have := congrArg Fin.val h; simp only [qblk] at this; exact Fin.ext (by omega)
theorem oblk_ne_qblk (c : Dev nD) (i j : Fin 8) : oblk c i ≠ qblk c j := by revert c i j; decide +kernel
theorem oblk_ne_rblk (c : Dev nD) (i : Fin 8) (o : Dir × Fin 3 × Fin 8) (h : rv o.1 (cz c) o.2.1 = true) : oblk c i ≠ rblk o.1 c o.2.1 o.2.2 := by
  revert c i o; decide +kernel
theorem qblk_ne_rblk (c : Dev nD) (i : Fin 8) (o : Dir × Fin 3 × Fin 8) (h : rv o.1 (cz c) o.2.1 = true) : qblk c i ≠ rblk o.1 c o.2.1 o.2.2 := by
  revert c i o; decide +kernel
/-- and no block is received twice. -/
theorem rblk_inj (c : Dev nD) (o o' : Dir × Fin 3 × Fin 8) (h : rv o.1 (cz c) o.2.1 = true) (h' : rv o'.1 (cz c) o'.2.1 = true)
    (e : rblk o.1 c o.2.1 o.2.2 = rblk o'.1 c o'.2.1 o'.2.2) : o = o' := by
  revert c o o'; decide +kernel

end Cert.GatherProof

end
-- ==== Proof.Sched.lean ====
/-
# Contents, cells and the schedule

What every device's result array holds at the end, the cells of the three kinds (the barrier, the 72 send cells and the
72 receive cells of a device), and the rounds schedule over them: who pays which duty, how much, and what it hands over.

* The barrier cell of a device has one duty for each neighbour. The neighbour in direction `δ` pays it, and hands over
  the pieces of its own result array where the device's transfers in direction `δ` land.
* The receive cell `(δ, k, i)` of a device is paid by the landing of piece `i` of step `k` from direction `δ`. It hands over
  that block with the gathered contents.
* The send cell `(δ, k, i)` is paid when that piece has left. It hands back the share of the block that was lent.
-/
module

public import proofs.«01_k».proof.Proof.Dir
public import proofs.«01_k».proof.Proof.Gen.KernelIdeal.Skeleton
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own cells, and the cells of the rounds (a duty is named by a direction). -/
abbrev UU : Type := UR sig nD τ × URounds (GSem nD τ sig) Dir

local notation "𝕄" => MT nD τ sig Unit (Elt F) ℕ UU ℕ

abbrev EP : Emb (UR sig nD τ) 𝕄 := embL
abbrev ER : Emb (URounds (GSem nD τ sig) Dir) 𝕄 := embR

variable (m : (ℓ : Loc nD τ sig) → Buf (Elt F) ℓ) (ρ : Dev nD → PrngReg)

/-- The memory at the start of the run. -/
def s₀ : MemSt nD τ sig (Elt F) := ⟨m, fun _ => 0, ρ⟩

abbrev xM : Memref sig .tc .vmem S2048x512 .bf16 := Memref.whole cc0_stg0_0
abbrev oM : Memref sig .tc .vmem S8192x512 .bf16 := Memref.whole cc0_stg1_0

/-! ## Contents -/

/-- The contents of a result array. -/
abbrev OutC (F : FTy → Type) : Type := (cc0_stg1_0 : Ref sig .tc).ty.Contents (Elt F)

/-- The block of the operand that device `c` holds. -/
def xstg (c : Dev nD) : (cc0_stg0_0 : Ref sig .tc).ty.Contents (Elt F) :=
  (win0_0.blk (0 : Fin 1)).view.read (Elt F) ((s₀ m ρ).mem ((c : Thread nD τ).loc main_arg0))

/-- The place in a device's block that a place of the result comes from. -/
def locIdx (i : S8192x512.Idx) : S2048x512.Idx := fun a => match a with
  | ⟨0, _⟩ => ⟨(i (0 : Fin 2)).val % 2048, Nat.mod_lt _ (by decide)⟩
  | ⟨1, _⟩ => ⟨(i (1 : Fin 2)).val, (i (1 : Fin 2)).isLt⟩

/-- The gathered array of device `c`: half `h` of chunk `j` comes from the device at `(h, y, j)`. -/
def gat (c : Dev nD) : OutC F := fun (i : S8192x512.Idx) =>
  xstg m ρ (devAt ((i (0 : Fin 2)).val % 2048 / 1024) (cy c) ((i (0 : Fin 2)).val / 2048)) (locIdx i)

/-- What the device's result array holds at the end: the gathered array, but for the half of its own chunk that it
    kept to itself, which is its own. -/
def outC (c : Dev nD) : OutC F := fun (i : S8192x512.Idx) =>
  if (i (0 : Fin 2)).val / 1024 = 2 * cz c + (1 - cx c) then xstg m ρ c (locIdx i) else gat m ρ c i

theorem gat_nbr (δ : Dir) (c : Dev nD) : gat m ρ (nbr δ c) = gat m ρ c := by unfold gat; rw [cy_nbr]
theorem gat_src (δ : Dir) (c : Dev nD) : gat m ρ (src δ c) = gat m ρ c := by unfold gat; rw [cy_src]

/-! ## Blocks of the result array -/

/-- The places of rows `lo … lo + n - 1`. -/
def rset (lo n : ℕ) : Finset S8192x512.Idx := Finset.univ.filter fun i => lo ≤ (i (0 : Fin 2)).val ∧ (i (0 : Fin 2)).val < lo + n
/-- The places of a block. -/
def bset (b : Fin 64) : Finset S8192x512.Idx := rset (128 * b.val) 128

theorem mem_rset {lo n : ℕ} {i : S8192x512.Idx} : i ∈ rset lo n ↔ lo ≤ (i (0 : Fin 2)).val ∧ (i (0 : Fin 2)).val < lo + n := by
  unfold rset; rw [Finset.mem_filter]; exact ⟨fun h => h.2, fun h => ⟨Finset.mem_univ _, h⟩⟩

/-- A rectangle of whole rows has the places of those rows. -/
theorem rect_rows {lo n : ℕ} {off size : Fin 2 → ℕ} (ho : off = ![lo, 0]) (hs : size = ![n, 512])
    (inb : ∀ a, off a + size a ≤ S8192x512.size a) : (Rect.unit (s := S8192x512) off size inb).set = rset lo n := by
  subst ho hs
  ext i
  rw [Rect.mem_set_unit, mem_rset]
  constructor
  · intro h; exact h (0 : Fin 2)
  · intro h a
    fin_cases a
    · exact h
    · exact ⟨Nat.zero_le _, by have := (i (1 : Fin 2)).isLt; change (i (1 : Fin 2)).val < 0 + 512; change (i (1 : Fin 2)).val < 512 at this; omega⟩

/-- The block that a place is in. -/
def blkOf (i : S8192x512.Idx) : Fin 64 := ⟨(i (0 : Fin 2)).val / 128, by have h : (i (0 : Fin 2)).val < 8192 := (i (0 : Fin 2)).isLt; omega⟩

theorem mem_bset {b : Fin 64} {i : S8192x512.Idx} : i ∈ bset b ↔ blkOf i = b := by
  unfold bset; rw [mem_rset]
  constructor
  · intro h; exact Fin.ext (by change (i (0 : Fin 2)).val / 128 = b.val; omega)
  · intro h; have : (i (0 : Fin 2)).val / 128 = b.val := congrArg Fin.val h; omega

theorem bset_disj {b b' : Fin 64} (h : b ≠ b') : Disjoint (bset b) (bset b') := by
  rw [Finset.disjoint_left]; intro i hi hi'; rw [mem_bset] at hi hi'; exact h (hi.symm.trans hi')

/-- A share `q` of block `b` of device `c`'s result array, holding what `f` holds there. -/
def blk (c : Dev nD) (b : Fin 64) (q : PosShare TreeShare) (f : OutC F) : sProp 𝕄 :=
  ((c : Thread nD τ).loc cc0_stg1_0) ↦[bset b]{q} f

instance blk_storable (c : Dev nD) (b : Fin 64) (q) (f : OutC F) : BI.Storable (upEmb : UEmb _ 𝕄) (blk c b q f) := by unfold blk; infer_instance

theorem blk_congr (c : Dev nD) {b : Fin 64} (q) {f g : OutC F} (h : ∀ i ∈ bset b, f i = g i) : (blk c b q f : sProp 𝕄) = blk c b q g := by
  unfold blk; exact pointsTo_congr h

theorem blk_halves (c : Dev nD) (b : Fin 64) (f : OutC F) :
    (blk c b fullShare f : sProp 𝕄) ⊣⊢ iprop(blk c b fullShare.left f ∗ blk c b fullShare.right f) := by
  unfold blk; exact pointsTo_share (PosShare.mem_left_op_right fullShare)

/-! ## Cells -/

/-- The cells of a device: the barrier, and one for each side (`true` sends), direction, step and piece. -/
abbrev CI : Type := Option (Bool × Dir × Fin 3 × Fin 8)

/-- The number of a transfer cell's semaphore. -/
def semNo (p : Bool × Dir × Fin 3 × Fin 8) : ℕ := 2 + 24 * ((if p.1 then 0 else 3) + p.2.1.val) + 8 * p.2.2.1.val + p.2.2.2.val
theorem semNo_lt (p : Bool × Dir × Fin 3 × Fin 8) : semNo p < 146 := by
  unfold semNo; have := p.2.1.isLt; have := p.2.2.1.isLt; have := p.2.2.2.isLt; split <;> omega

/-- The semaphore of a cell. -/
def csem (ci : CI) : SemLoc sig := match ci with
  | none => .reg (0 : Fin 1)
  | some p => .dma (⟨semNo p, semNo_lt p⟩ : Fin 146)

abbrev kcell (ck : Dev nD × CI) : GSem nD τ sig := ((ck.1 : Thread nD τ), csem ck.2)
/-- The barrier cell, -/
abbrev barC (c : Dev nD) : GSem nD τ sig := kcell (c, none)
/-- the send cells, -/
abbrev sC (c : Dev nD) (δ : Dir) (k : Fin 3) (i : Fin 8) : GSem nD τ sig := kcell (c, some (true, δ, k, i))
/-- and the receive cells. -/
abbrev rC (c : Dev nD) (δ : Dir) (k : Fin 3) (i : Fin 8) : GSem nD τ sig := kcell (c, some (false, δ, k, i))

/-- The cell that a semaphore belongs to (the pipeline's two have none). -/
def decode (sm : SemLoc sig) : Option CI := match sm with
  | .reg _ => some none
  | .dma s =>
    let v := (show Fin 146 from s).val
    if 2 ≤ v then some (some (decide ((v - 2) / 24 < 3), ⟨(v - 2) / 24 % 3, Nat.mod_lt _ (by decide)⟩,
      ⟨(v - 2) % 24 / 8, by omega⟩, ⟨(v - 2) % 8, Nat.mod_lt _ (by decide)⟩)) else none

theorem decode_csem (ci : CI) : decode (csem ci) = some ci := by revert ci; decide +kernel
theorem csem_inj : Function.Injective csem := fun a b h => Option.some.inj ((decode_csem a).symm.trans ((congrArg decode h).trans (decode_csem b)))

/-- The credit of one piece. -/
abbrev N : ℕ := (oM.slice (Rect.unit (s := S8192x512) ![0, 0] S128x512.size (by decide)) (fun _ => rfl)).view.dmaCredit
theorem N_pos : 0 < N := View.dmaCredit_pos _ (by decide)

/-! ## The schedule -/

/-- Which share of a block a transfer reads through: a block may be lent twice. -/
def qs (δ : Dir) (k : Fin 3) : PosShare TreeShare := match δ with
  | 0 => if k = 0 then fullShare.left else fullShare.right
  | 1 => fullShare.right
  | 2 => fullShare.left

/-- The duties of a cell of device `c`. -/
def dutiesAt (c : Dev nD) (ci : CI) : Finset Dir := match ci with
  | none => Finset.univ.filter fun δ => bv δ (cz c) = true
  | some (true, δ, k, _) => if sv δ (cz c) k then {0} else ∅
  | some (false, δ, k, _) => if rv δ (cz c) k then {0} else ∅

/-- The landing place of piece `i` of step `k` in direction `δ`, if there is such a transfer. -/
def land (δ : Dir) (c : Dev nD) (k : Fin 3) (i : Fin 8) : sProp 𝕄 :=
  if sv δ (cz c) k then iprop(∃ f : OutC F, blk (nbr δ c) (sblk δ c k i) fullShare f) else iprop(emp)

/-- What the neighbour in direction `δ` hands to `c` at the barrier. -/
def handover (δ : Dir) (c : Dev nD) : sProp 𝕄 := bigSep (Finset.univ : Finset (Fin 8 × Fin 3)) fun p => land (F := F) δ c p.2 p.1

/-- What the payer of a duty of a cell hands over. -/
def payAt (c : Dev nD) (d : Dir) (ci : CI) : sProp 𝕄 := match ci with
  | none => handover d c
  | some (true, δ, k, i) => blk c (sblk δ c k i) (qs δ k) (gat m ρ c)
  | some (false, δ, k, i) => blk c (rblk δ c k i) fullShare (gat m ρ c)

/-- The rounds: one round for each cell. -/
def Rd : Rounds.Schedule (GSem nD τ sig) Dir 𝕄 where
  duties g r := if r = 0 ∧ g.1.2 = .tc then (decode g.2).elim ∅ (dutiesAt g.1.1) else ∅
  unitless _ := False
  amount g _ _ := match decode g.2 with | some none => 1 | _ => N
  payload g _ d := match decode g.2 with | some ci => payAt m ρ g.1.1 d ci | none => iprop(emp)
  amount_pos g _ _ _ := by split <;> first | exact Nat.one_pos | exact N_pos

instance land_storable (δ : Dir) (c : Dev nD) (k : Fin 3) (i : Fin 8) : BI.Storable (upEmb : UEmb _ 𝕄) (land (F := F) δ c k i) := by
  unfold land; split <;> infer_instance
instance payAt_storable (c : Dev nD) (d : Dir) (ci : CI) : BI.Storable (upEmb : UEmb _ 𝕄) (payAt m ρ c d ci) := by
  unfold payAt handover; split <;> infer_instance
instance payload_storable (g : GSem nD τ sig) (r : ℕ) (d : Dir) : BI.Storable (upEmb : UEmb _ 𝕄) ((Rd m ρ).payload g r d) := by
  show BI.Storable upEmb (match decode g.2 with | some ci => payAt m ρ g.1.1 d ci | none => iprop(emp))
  split <;> infer_instance

theorem duties_cell (c : Dev nD) (ci : CI) : (Rd m ρ).duties (kcell (c, ci)) 0 = dutiesAt c ci := by
  dsimp only [Rd]; rw [if_pos ⟨rfl, rfl⟩, decode_csem]; rfl
theorem duties_later (g : GSem nD τ sig) : ∀ r, 1 ≤ r → (Rd m ρ).duties g r = ∅ :=
  fun r hr => by dsimp only [Rd]; exact if_neg fun h => by omega
theorem amount_some (c : Dev nD) (p) (r : ℕ) (d : Dir) : (Rd m ρ).amount (kcell (c, some p)) r d = N := by
  dsimp only [Rd]; rw [decode_csem]
theorem amount_bar (c : Dev nD) (r : ℕ) (d : Dir) : (Rd m ρ).amount (barC c) r d = 1 := by
  dsimp only [Rd]; rw [decode_csem]
theorem payload_cell (c : Dev nD) (ci : CI) (r : ℕ) (d : Dir) : (Rd m ρ).payload (kcell (c, ci)) r d = payAt m ρ c d ci := by
  dsimp only [Rd]; rw [decode_csem]

theorem duties_s (c : Dev nD) {δ k} (i) (h : sv δ (cz c) k = true) : (Rd m ρ).duties (sC c δ k i) 0 = {0} := by
  rw [duties_cell]; exact if_pos h
theorem duties_r (c : Dev nD) {δ k} (i) (h : rv δ (cz c) k = true) : (Rd m ρ).duties (rC c δ k i) 0 = {0} := by
  rw [duties_cell]; exact if_pos h
theorem duties_s_none (c : Dev nD) {δ k} (i) (h : ¬ sv δ (cz c) k = true) : ∀ r, 0 ≤ r → (Rd m ρ).duties (sC c δ k i) r = ∅ := by
  intro r _
  rcases Nat.eq_zero_or_pos r with rfl | hr
  · rw [duties_cell]; exact if_neg h
  · exact duties_later m ρ _ r hr
theorem duties_r_none (c : Dev nD) {δ k} (i) (h : ¬ rv δ (cz c) k = true) : ∀ r, 0 ≤ r → (Rd m ρ).duties (rC c δ k i) r = ∅ := by
  intro r _
  rcases Nat.eq_zero_or_pos r with rfl | hr
  · rw [duties_cell]; exact if_neg h
  · exact duties_later m ρ _ r hr
theorem expect_s (c : Dev nD) {δ k} (i) (h : sv δ (cz c) k = true) : (Rd m ρ).expect (sC c δ k i) 0 = N := by
  unfold Schedule.expect Schedule.amountOf; rw [duties_s m ρ c i h, Finset.sum_singleton, amount_some]
theorem expect_r (c : Dev nD) {δ k} (i) (h : rv δ (cz c) k = true) : (Rd m ρ).expect (rC c δ k i) 0 = N := by
  unfold Schedule.expect Schedule.amountOf; rw [duties_r m ρ c i h, Finset.sum_singleton, amount_some]
theorem rest_s (c : Dev nD) {δ k} (i) (h : sv δ (cz c) k = true) :
    bigSep ((Rd m ρ).duties (sC c δ k i) 0 \ ∅) (fun d => (Rd m ρ).payload (sC c δ k i) 0 d) = blk c (sblk δ c k i) (qs δ k) (gat m ρ c) := by
  rw [Finset.sdiff_empty, duties_s m ρ c i h, bigSep_singleton, payload_cell]; rfl
theorem rest_r (c : Dev nD) {δ k} (i) (h : rv δ (cz c) k = true) :
    bigSep ((Rd m ρ).duties (rC c δ k i) 0 \ ∅) (fun d => (Rd m ρ).payload (rC c δ k i) 0 d) = blk c (rblk δ c k i) fullShare (gat m ρ c) := by
  rw [Finset.sdiff_empty, duties_r m ρ c i h, bigSep_singleton, payload_cell]; rfl

/-- How many neighbours a device has. -/
def nbrs (c : Dev nD) : ℕ := (Finset.univ.filter fun δ : Dir => bv δ (cz c) = true).card

theorem expect_bar (c : Dev nD) : (Rd m ρ).expect (barC c) 0 = nbrs c := by
  unfold Schedule.expect Schedule.amountOf
  rw [duties_cell, Finset.sum_congr rfl (fun d _ => amount_bar m ρ c 0 d)]
  simp [dutiesAt, nbrs]
theorem rest_bar (c : Dev nD) :
    bigSep ((Rd m ρ).duties (barC c) 0 \ ∅) (fun d => (Rd m ρ).payload (barC c) 0 d)
      = bigSep (Finset.univ.filter fun δ : Dir => bv δ (cz c) = true) fun δ => handover δ c := by
  rw [Finset.sdiff_empty, duties_cell, show (fun d => (Rd m ρ).payload (barC c) 0 d) = fun d => handover d c from funext fun d => payload_cell m ρ c none 0 d]
  rfl

/-! ## What a device owes; levels -/

/-- The debt of one transfer of device `c`: its landing at the neighbour. -/
def ob (c : Dev nD) (o : Dir × Fin 3 × Fin 8) : CellTallies nD τ sig Unit := tallyAt (rC (nbr o.1 c) o.1 o.2.1 o.2.2) () N
/-- The debts of a list of transfers. -/
def obL (c : Dev nD) (l : List (Dir × Fin 3 × Fin 8)) : CellTallies nD τ sig Unit := (l.map (ob c)).sum
/-- The debts of a list of acts. -/
def owL (c : Dev nD) (l : List Act) : CellTallies nD τ sig Unit := obL c (l.flatMap (obs (cz c)))
/-- The debts to the neighbours' barriers. -/
def owB (c : Dev nD) : CellTallies nD τ sig Unit := tallyAt (barC (nbr 2 c)) () 1
  + ((if bv 0 (cz c) then tallyAt (barC (nbr 0 c)) () 1 else 0) + (if bv 1 (cz c) then tallyAt (barC (nbr 1 c)) () 1 else 0))
/-- All that a device owes at the start. -/
def O₀ (c : Dev nD) : CellTallies nD τ sig Unit := owB c + owL c L1

def L (g : GSem nD τ sig) : Finset Unit := if g.1.2 = .tc then {()} else ∅
/-- The level of a cell: the barrier lowest, then the receive cells in the order of the steps. -/
def lv (g : GSem nD τ sig) (_ : Unit) : ℕ := match decode g.2 with
  | some none => 1
  | some (some (false, o)) => rlev o
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by dsimp only [lv]; rw [decode_csem]
theorem lv_r (c : Dev nD) (δ k i) : lv (rC c δ k i) () = rlev (δ, k, i) := by dsimp only [lv]; rw [decode_csem]

theorem obL_cons (c : Dev nD) (o) (l) : obL c (o :: l) = ob c o + obL c l := by unfold obL; rw [List.map_cons, List.sum_cons]
theorem obL_append (c : Dev nD) (l l') : obL c (l ++ l') = obL c l + obL c l' := by unfold obL; rw [List.map_append, List.sum_append]

theorem obL_pos {c : Dev nD} {l : List (Dir × Fin 3 × Fin 8)} {g : GSem nD τ sig} {u : Unit} (h : 0 < obL c l g u) :
    ∃ o ∈ l, g = rC (nbr o.1 c) o.1 o.2.1 o.2.2 := by
  induction l with
  | nil => exact absurd h (Nat.lt_irrefl 0)
  | cons o l ih =>
    rw [obL_cons, Pi.add_apply, Finsupp.add_apply] at h
    by_cases he : g = rC (nbr o.1 c) o.1 o.2.1 o.2.2
    · exact ⟨o, List.mem_cons_self, he⟩
    · unfold ob at h; rw [tallyAt_apply, if_neg (fun h' => he h'.1), zero_add] at h
      obtain ⟨o', ho', hg⟩ := ih h
      exact ⟨o', List.mem_cons_of_mem _ ho', hg⟩

/-- A wait on a cell of level `n` while only transfers of higher levels are owed. -/
theorem mayWait_obL (c : Dev nD) (sm : SemLoc sig) (n : ℕ) (l : List (Dir × Fin 3 × Fin 8)) (hsm : lv ((c : Thread nD τ), sm) () ≤ n)
    (hl : ∀ o ∈ l, n < rlev o) : (levAts L lv : sProp 𝕄) ⊢ MayWait (c : Thread nD τ) sm () (obL c l) :=
  MayOwe.of_cut (L := L) (lev := lv) n (fun p hp => by rw [Finset.mem_singleton.mp hp, L_tc]; exact Finset.mem_singleton_self _)
    (fun g u hg => by obtain ⟨o, ho, rfl⟩ := obL_pos hg; exact Finset.mem_singleton_self _)
    (fun p hp => by rw [Finset.mem_singleton.mp hp]; exact hsm)
    (fun g u hg => by obtain ⟨o, ho, rfl⟩ := obL_pos hg; rw [lv_r]; exact hl o ho)

end Cert.GatherProof

end

end
-- ==== Proof.Steps.lean ====
/-
# One act of a device, as a rule for the piece of program that performs it

The state of a device between two acts (`St`) is: the records of all cells, what it still owes, what each act still to
come needs (`pre`), and what each act already done left (`post`). Each rule below carries the state across the program
text of one act, for any text after it.
-/
module

public import proofs.«01_k».proof.Proof.Sched
public import Idealize.ShloMosaic.Lib.Pipeline.BigSepL

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ)

/-- The records of all cells: each has its invariant, and has reached its first round. -/
def recs : sProp 𝕄 := iprop((bigSep Finset.univ fun ck : Dev nD × CI => cellInv ER (Rd m ρ) (K ck) (kcell ck))
  ∗ bigSep Finset.univ fun ck : Dev nD × CI => reached ER (kcell ck) 0)

instance recs_persistent : BI.Persistent (recs m ρ K) := by unfold recs; infer_instance

theorem recs_inv (ck : Dev nD × CI) : recs m ρ K ⊢ cellInv ER (Rd m ρ) (K ck) (kcell ck) := by
  unfold recs; exact sep_elim_left.trans (bigSep_elim (Φ := fun ck : Dev nD × CI => cellInv ER (Rd m ρ) (K ck) (kcell ck)) (Finset.mem_univ ck))
theorem recs_reached (ck : Dev nD × CI) : recs m ρ K ⊢ reached ER (kcell ck) 0 := by
  unfold recs; exact sep_elim_right.trans (bigSep_elim (Φ := fun ck : Dev nD × CI => (reached ER (kcell ck) 0 : sProp 𝕄)) (Finset.mem_univ ck))

variable (c : Dev nD)

/-- What a transfer needs besides its source: the place where it lands, and the tokens of the two duties that it pays. -/
def kit (o : Dir × Fin 3 × Fin 8) : sProp 𝕄 := iprop(land o.1 c o.2.1 o.2.2
  ∗ dutyTok ER (sC c o.1 o.2.1 o.2.2) 0 (0 : Dir) ∗ dutyTok ER (rC (nbr o.1 c) o.1 o.2.1 o.2.2) 0 (0 : Dir))

/-- What a wait for a piece needs: the place in the rounds, and the credit if there is such a piece. -/
def waitR (δ : Dir) (k : Fin 3) (i : Fin 8) : sProp 𝕄 := iprop(atPos ER (rC c δ k i) 0 ∅ 0
  ∗ if rv δ (cz c) k then cred (tallyAt (rC c δ k i) () N) else iprop(emp))
/-- The same on the sending side. -/
def waitS (δ : Dir) (k : Fin 3) (i : Fin 8) : sProp 𝕄 := iprop(atPos ER (sC c δ k i) 0 ∅ 0
  ∗ if sv δ (cz c) k then cred (tallyAt (sC c δ k i) () N) else iprop(emp))

/-- The device's own operand block, staged. -/
def xPts : sProp 𝕄 := ((c : Thread nD τ).loc cc0_stg0_0) ↦{fullShare} xstg m ρ c
/-- The half of its own chunk that the device keeps to itself, holding what `f` holds there. -/
def keep (f : OutC F) : sProp 𝕄 := ((c : Thread nD τ).loc cc0_stg1_0) ↦[rset (2048 * cz c + 1024 * (1 - cx c)) 1024]{fullShare} f

/-- What an act needs, besides the kits of the transfers it issues. -/
def need (a : Act) : sProp 𝕄 := match a with
  | .snd δ i => blk c (sblk δ c 0 i) (qs δ 0) (gat m ρ c)
  | .st2 => iprop(xPts m ρ c ∗ ∃ f, keep c f)
  | .rcv δ k i => waitR c δ k i
  | .xlw j i => waitR c 2 j i
  | .sw δ k i => waitS c δ k i
/-- What an act needs. -/
def pre (a : Act) : sProp 𝕄 := iprop(bigSepL (obs (cz c) a) (kit c) ∗ need m ρ c a)
/-- What an act leaves. -/
def post (a : Act) : sProp 𝕄 := match a with
  | .snd δ i => if bv δ (cz c) then cred (tallyAt (sC c δ 0 i) () N) else blk c (sblk δ c 0 i) (qs δ 0) (gat m ρ c)
  | .st2 => iprop(xPts m ρ c ∗ keep c (outC m ρ c))
  | .rcv δ k i => iprop(semVal (rC c δ k i) 0 ∗ if rv δ (cz c) k then
      iprop(cred (tallyAt (sC c 2 (jx δ k) i) () N) ∗ if fwd δ (cz c) k then cred (tallyAt (sC c δ (k + 1) i) () N) else blk c (rblk δ c k i) fullShare.right (gat m ρ c))
      else iprop(emp))
  | .xlw j i => iprop(semVal (rC c 2 j i) 0 ∗ blk c (rblk 2 c j i) fullShare (gat m ρ c))
  | .sw δ k i => iprop(semVal (sC c δ k i) 0 ∗ if sv δ (cz c) k then blk c (sblk δ c k i) (qs δ k) (gat m ρ c) else iprop(emp))

/-- The state of a device after the first `n` acts of a list; `R` is what it holds beside. -/
def St (R : sProp 𝕄) (l : List Act) (n : ℕ) : sProp 𝕄 := iprop(recs m ρ K ∗ levAts L lv ∗ (∃ W, owes (c : Thread nD τ) (owL c (l.drop n)) W)
  ∗ bigSepL (l.drop n) (pre m ρ c) ∗ bigSepL (l.take n) (post m ρ c) ∗ R)

/-- What the act at place `n` does not touch. -/
def Rst (R : sProp 𝕄) (l : List Act) (n : ℕ) : sProp 𝕄 := iprop(bigSepL (l.drop (n + 1)) (pre m ρ c) ∗ bigSepL (l.take n) (post m ρ c) ∗ R)

theorem drop_cons {l : List Act} {n : ℕ} {a : Act} (hn : l[n]? = some a) : l.drop n = a :: l.drop (n + 1) := by
  obtain ⟨h, rfl⟩ := List.getElem?_eq_some_iff.mp hn; exact List.drop_eq_getElem_cons h
theorem take_snoc {l : List Act} {n : ℕ} {a : Act} (hn : l[n]? = some a) : l.take (n + 1) = l.take n ++ [a] := by
  obtain ⟨h, rfl⟩ := List.getElem?_eq_some_iff.mp hn; exact (List.take_append_getElem h).symm

theorem owL_cons (a : Act) (l : List Act) : owL c (a :: l) = obL c (obs (cz c) a) + owL c l := by
  unfold owL; rw [List.flatMap_cons, obL_append]

/-- The state before an act, the act's part apart. -/
theorem St_open {R : sProp 𝕄} {l : List Act} {n : ℕ} {a : Act} (hn : l[n]? = some a) :
    St m ρ K c R l n ⊢ iprop(recs m ρ K ∗ levAts L lv ∗ (∃ W, owes (c : Thread nD τ) (obL c (obs (cz c) a) + owL c (l.drop (n + 1))) W)
      ∗ bigSepL (obs (cz c) a) (kit c) ∗ need m ρ c a ∗ Rst m ρ c R l n) := by
  unfold St Rst; rw [drop_cons hn, bigSepL_cons', owL_cons, show pre m ρ c a = iprop(bigSepL (obs (cz c) a) (kit c) ∗ need m ρ c a) from rfl]
  iintro ⟨#HR, #HL, HO, ⟨⟨Hk, Hn⟩, Hd⟩, Ht, HR'⟩
  isplitr; · iexact HR
  isplitr; · iexact HL
  isplitl [HO]; · iexact HO
  isplitl [Hk]; · iexact Hk
  isplitl [Hn]; · iexact Hn
  isplitl [Hd]; · iexact Hd
  isplitl [Ht]; · iexact Ht
  iexact HR'
/-- The state after an act, put together. -/
theorem St_close {R : sProp 𝕄} {l : List Act} {n : ℕ} {a : Act} (hn : l[n]? = some a) :
    iprop(recs m ρ K ∗ levAts L lv ∗ (∃ W, owes (c : Thread nD τ) (owL c (l.drop (n + 1))) W) ∗ post m ρ c a ∗ Rst m ρ c R l n)
      ⊢ St m ρ K c R l (n + 1) := by
  unfold St Rst; rw [take_snoc hn, bigSepL_append, bigSepL_singleton]
  iintro ⟨#HR, #HL, HO, Hp, Hd, Ht, HR'⟩
  isplitr; · iexact HR
  isplitr; · iexact HL
  isplitl [HO]; · iexact HO
  isplitl [Hd]; · iexact Hd
  isplitl [Ht Hp]
  · isplitl [Ht]; · iexact Ht
    iexact Hp
  iexact HR'

/-! ## A transfer -/

theorem slice_loc {off : Fin 2 → ℕ} {b : Fin 64} (hoff : off = ![128 * b.val, 0]) (inb : ∀ a, off a + S128x512.size a ≤ S8192x512.size a) :
    (oM.slice (Rect.unit (s := S8192x512) off S128x512.size inb) (fun _ => rfl)).view.set = bset b :=
  (View.set_slice_whole _ _).trans (rect_rows hoff (by funext a; fin_cases a <;> rfl) inb)

theorem blk_slice {off : Fin 2 → ℕ} {b : Fin 64} (hoff : off = ![128 * b.val, 0]) (inb : ∀ a, off a + S128x512.size a ≤ S8192x512.size a)
    (d : Dev nD) (q : PosShare TreeShare) (f : OutC F) :
    (blk d b q f : sProp 𝕄) = ((oM.slice (Rect.unit (s := S8192x512) off S128x512.size inb) (fun _ => rfl)).view.loc (d : Thread nD τ)
      ↦[(oM.slice (Rect.unit (s := S8192x512) off S128x512.size inb) (fun _ => rfl)).view.set]{q} f) := by
  rw [slice_loc hoff inb]; rfl

/-- A transfer of a piece: it needs the kit and a share of the block, and clears the debt. -/
theorem wp_piece {δ : Dir} {k : Fin 3} {i : Fin 8} (h : sv δ (cz c) k = true) {off : Fin 2 → ℕ} (hoff : off = ![128 * (sblk δ c k i).val, 0])
    {inb : ∀ a, off a + S128x512.size a ≤ S8192x512.size a} {n : Dev nD} (hn : n = nbr δ c) {s1 s2 : DmaSem sig}
    (hs1 : SemLoc.dma s1 = csem (some (true, δ, k, i))) (hs2 : SemLoc.dma s2 = csem (some (false, δ, k, i)))
    {hsc : (oM.slice (Rect.unit (s := S8192x512) off S128x512.size inb) (fun _ => rfl)).view.ref.isScScratch = false}
    {hsrc : (oM.slice (Rect.unit (s := S8192x512) off S128x512.size inb) (fun _ => rfl)).view.WordExact}
    {hdst : (oM.slice (Rect.unit (s := S8192x512) off S128x512.size inb) (fun _ => rfl)).view.WordExact}
    {hsem : DmaTarget.Typed .vmem (.dma s2) (.remote (Dev.tc n : Thread nD τ) (oM.slice (Rect.unit (s := S8192x512) off S128x512.size inb) (fun _ => rfl)) (.dma s1) hsc)}
    {α : Type} {Q : α → sProp 𝕄} {k' : PUnit → Prog (TpuEff nD τ sig (Elt F) Λ₀ .tc) α} {O : CellTallies nD τ sig Unit} {W : Waits sig Unit} :
    iprop(recs m ρ K ∗ kit c (δ, k, i) ∗ blk c (sblk δ c k i) (qs δ k) (gat m ρ c) ∗ owes (c : Thread nD τ) (ob c (δ, k, i) + O) W)
      ⊢ iprop(((cred (tallyAt (sC c δ k i) () N) ∗ owes (c : Thread nD τ) O W) -∗ WP c (k' ⟨⟩) Q)
          -∗ WP c (.op (.enqueueDma (oM.slice (Rect.unit (s := S8192x512) off S128x512.size inb) (fun _ => rfl))
              (.remote (Dev.tc n : Thread nD τ) (oM.slice (Rect.unit (s := S8192x512) off S128x512.size inb) (fun _ => rfl)) (.dma s1) hsc) (.dma s2) hsrc hdst hsem) k') Q) := by
  subst hn
  obtain rfl := SemLoc.dma.inj hs1
  obtain rfl := SemLoc.dma.inj hs2
  unfold kit land; rw [if_pos h]
  iintro ⟨#HR, ⟨⟨%f, Hl⟩, Ht1, Ht2⟩, Hb, HO⟩
  ihave #Hi1 := (recs_inv m ρ K (c, some (true, δ, k, i))) $$ HR
  ihave #Hi2 := (recs_inv m ρ K (nbr δ c, some (false, δ, k, i))) $$ HR
  ihave #Hr1 := (recs_reached m ρ K (c, some (true, δ, k, i))) $$ HR
  ihave #Hr2 := (recs_reached m ρ K (nbr δ c, some (false, δ, k, i))) $$ HR
  have hset := slice_loc hoff inb
  iapply (Rounds.wp_send_pointsTo 𝒱₀ ER (Rd m ρ) (c : Thread nD τ) none (c' := (nbr δ c : Thread nD τ)) (sp' := .vmem) (κ₁ := K (c, some (true, δ, k, i))) (κ₂ := K (nbr δ c, some (false, δ, k, i)))
    (r₁ := 0) (r₂ := 0) (d₁ := (0 : Dir)) (d₂ := (0 : Dir)) (fs := gat m ρ c) (fd := f) (q := qs δ k)
    (src := oM.slice (Rect.unit (s := S8192x512) off S128x512.size inb) (fun _ => rfl)) (dst := oM.slice (Rect.unit (s := S8192x512) off S128x512.size inb) (fun _ => rfl))
    (by rw [show ((c : Thread nD τ), _) = sC c δ k i from rfl, duties_s m ρ c i h]; exact Finset.mem_singleton_self _)
    (by rw [show ((Dev.tc (nbr δ c) : Thread nD τ), _) = rC (nbr δ c) δ k i from rfl, duties_r m ρ (nbr δ c) i ((rv_nbr δ c k).trans h)]; exact Finset.mem_singleton_self _)
    () () N rfl (amount_some m ρ c (true, δ, k, i) 0 0) (amount_some m ρ (nbr δ c) (false, δ, k, i) 0 0) O (add_comm _ _) (W := W)
    (by
      rw [show ((c : Thread nD τ), _) = sC c δ k i from rfl, payload_cell m ρ c (some (true, δ, k, i)), hset]; exact BI.Entails.refl _)
    (by
      rw [show ((Dev.tc (nbr δ c) : Thread nD τ), _) = rC (nbr δ c) δ k i from rfl, payload_cell m ρ (nbr δ c) (some (false, δ, k, i)), hset, View.write_read_eq_piecewise]
      refine Entails.of_eq ?_
      show _ = blk (nbr δ c) (rblk δ (nbr δ c) k i) fullShare (gat m ρ (nbr δ c))
      rw [rblk_nbr, gat_nbr]
      refine pointsTo_congr fun j hj => ?_
      rw [View.setOn_univ, hset, Finset.piecewise_eq_of_mem _ _ _ hj])) $$ [Hb Hl HO Ht1 Ht2]
  · isplitr; · iexact Hi1
    isplitr; · iexact Hi2
    isplitl [Hb]; · iapply (Entails.of_eq (blk_slice hoff inb c (qs δ k) (gat m ρ c))); iexact Hb
    isplitl [Hl]; · iapply (Entails.of_eq (blk_slice hoff inb (nbr δ c) fullShare f)); iexact Hl
    isplitl [HO]; · iexact HO
    isplitl [Ht1]; · iexact Ht1
    isplitr; · iexact Hr1
    isplitl [Ht2]; · iexact Ht2
    iexact Hr2

/-! ## The acts -/

/-- The offsets stay inside the array. -/
abbrev Inb (off : Fin 2 → ℕ) : Prop := ∀ a, off a + S128x512.size a ≤ S8192x512.size a
/-- The piece of the result array at an offset. -/
abbrev sl (off : Fin 2 → ℕ) (inb : Inb off) : Memref sig .tc .vmem S128x512 .bf16 := oM.slice (Rect.unit (s := S8192x512) off S128x512.size inb) (fun _ => rfl)

theorem at_lt {a : Act} {n : ℕ} (hn : L1[n]? = some a) : n < 89 := (List.getElem?_eq_some_iff.mp hn).1

/-- What is owed at an act of the first phase has a higher level than the act waits at. -/
theorem may_wait {a : Act} {n : ℕ} (hn : L1[n]? = some a) (sm : SemLoc sig) (hsm : lv ((c : Thread nD τ), sm) () ≤ wlev a) :
    (levAts L lv : sProp 𝕄) ⊢ MayWait (c : Thread nD τ) sm () (obL c (obs (cz c) a) + owL c (L1.drop (n + 1))) := by
  rw [← owL_cons, ← drop_cons hn]
  exact mayWait_obL c sm (wlev a) _ hsm (levels_ok ⟨cz c, cz_lt c⟩ ⟨n, at_lt hn⟩ a hn)

/-- A wait for a piece that arrives. -/
theorem wp_rwait {δ : Dir} {k : Fin 3} {i : Fin 8} (h : rv δ (cz c) k = true) {off off' : Fin 2 → ℕ} {inb : Inb off} {inb' : Inb off'} {s : DmaSem sig}
    (hs : SemLoc.dma s = csem (some (false, δ, k, i))) {hsrc : (sl off inb).view.WordExact} {hdst : (sl off' inb').view.WordExact}
    {α : Type} {Q : α → sProp 𝕄} {k' : PUnit → Prog (TpuEff nD τ sig (Elt F) Λ₀ .tc) α} {O : CellTallies nD τ sig Unit} {W : Waits sig Unit} :
    iprop(recs m ρ K ∗ waitR c δ k i ∗ owes (c : Thread nD τ) O W ∗ MayWait (c : Thread nD τ) (csem (some (false, δ, k, i))) () O)
      ⊢ iprop((((∃ W, owes (c : Thread nD τ) O W) ∗ semVal (rC c δ k i) 0 ∗ blk c (rblk δ c k i) fullShare (gat m ρ c)) -∗ WP c (k' ⟨⟩) Q)
          -∗ WP c (.op (.waitDma2 s (sl off inb) (sl off' inb') hsrc hdst) k') Q) := by
  obtain rfl := SemLoc.dma.inj hs
  unfold waitR WP; rw [if_pos h]
  iintro ⟨#HR, ⟨Hat, Hc⟩, HO, Hm⟩ Hk
  ihave #Hi := (recs_inv m ρ K (c, some (false, δ, k, i))) $$ HR
  iapply (Rounds.wp_wait_rest_token 𝒱₀ ER (Rd m ρ) (c : Thread nD τ) none (sm := csem (some (false, δ, k, i))) (κ := K (c, some (false, δ, k, i)))
      (wpE_waitDma2_eq 𝒱₀ (c : Thread nD τ) none Set.univ) (Set.mem_univ _) () (O := O) (W := W) (R := 0) (m := 0) (T := ∅)
      (by rw [Nat.zero_add]; exact (expect_r m ρ c i h).symm)) $$ [Hc HO Hat Hm]
  · isplitr; · iexact Hi
    isplitl [Hc]; · iexact Hc
    isplitl [HO]; · iexact HO
    isplitl [Hm]; · iexact Hm
    iexact Hat
  iintro ⟨HO, Hat, -, Hpay⟩
  ihave Hb := (Entails.of_eq (rest_r m ρ c i h)) $$ Hpay
  imod (cell_close ER (Rd m ρ) (Set.mem_univ (K (c, some (false, δ, k, i)))) (fun h => h) (R := 1) (duties_later m ρ (rC c δ k i))) $$ [Hat] with Hz
  · isplitr; · iexact Hi
    iexact Hat
  iapply Hk
  isplitl [HO]; · iexists _; iexact HO
  isplitl [Hz]; · iexact Hz
  iexact Hb

/-- A wait for a piece to have left. -/
theorem wp_swait {δ : Dir} {k : Fin 3} {i : Fin 8} (h : sv δ (cz c) k = true) {off off' : Fin 2 → ℕ} {inb : Inb off} {inb' : Inb off'} {s : DmaSem sig}
    (hs : SemLoc.dma s = csem (some (true, δ, k, i))) {hsrc : (sl off inb).view.WordExact} {hdst : (sl off' inb').view.WordExact}
    {α : Type} {Q : α → sProp 𝕄} {k' : PUnit → Prog (TpuEff nD τ sig (Elt F) Λ₀ .tc) α} {W : Waits sig Unit} :
    iprop(recs m ρ K ∗ waitS c δ k i ∗ owes (c : Thread nD τ) 0 W)
      ⊢ iprop((((∃ W, owes (c : Thread nD τ) 0 W) ∗ semVal (sC c δ k i) 0 ∗ blk c (sblk δ c k i) (qs δ k) (gat m ρ c)) -∗ WP c (k' ⟨⟩) Q)
          -∗ WP c (.op (.waitDma2 s (sl off inb) (sl off' inb') hsrc hdst) k') Q) := by
  obtain rfl := SemLoc.dma.inj hs
  unfold waitS WP; rw [if_pos h]
  iintro ⟨#HR, ⟨Hat, Hc⟩, HO⟩ Hk
  ihave #Hi := (recs_inv m ρ K (c, some (true, δ, k, i))) $$ HR
  iapply (Rounds.wp_wait_rest_token 𝒱₀ ER (Rd m ρ) (c : Thread nD τ) none (sm := csem (some (true, δ, k, i))) (κ := K (c, some (true, δ, k, i)))
      (wpE_waitDma2_eq 𝒱₀ (c : Thread nD τ) none Set.univ) (Set.mem_univ _) () (O := 0) (W := W) (R := 0) (m := 0) (T := ∅)
      (by rw [Nat.zero_add]; exact (expect_s m ρ c i h).symm)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hb := (Entails.of_eq (rest_s m ρ c i h)) $$ Hpay
  imod (cell_close ER (Rd m ρ) (Set.mem_univ (K (c, some (true, δ, k, i)))) (fun h => h) (R := 1) (duties_later m ρ (sC c δ k i))) $$ [Hat] with Hz
  · isplitr; · iexact Hi
    iexact Hat
  iapply Hk
  isplitl [HO]; · iexists _; iexact HO
  isplitl [Hz]; · iexact Hz
  iexact Hb

variable {α : Type} {Q : α → sProp (MT nD τ sig Unit (Elt F) ℕ UU ℕ)} {K' : Prog (TpuEff nD τ sig (Elt F) Λ₀ .tc) α} {R : sProp (MT nD τ sig Unit (Elt F) ℕ UU ℕ)} {n : ℕ}

/-- The first transfers: a piece of the device's own half, down or up. -/
theorem step_snd {δ : Dir} {i : Fin 8} (hn : L1[n]? = some (.snd δ i)) {C : BitVec 1} {_ : Decidable (C = 1#1)} {off : Fin 2 → ℕ} {dv : ℕ}
    {inb : C = 1#1 → Inb off} {hdv : C = 1#1 → dv < nD} {s1 s2 : DmaSem sig}
    (hs : SemLoc.dma s1 = csem (some (true, δ, 0, i)) ∧ SemLoc.dma s2 = csem (some (false, δ, 0, i)))
    {hsc : ∀ h : C = 1#1, (sl off (inb h)).view.ref.isScScratch = false} {hsrc hdst : ∀ h : C = 1#1, (sl off (inb h)).view.WordExact}
    {hsem : ∀ h : C = 1#1, DmaTarget.Typed .vmem (.dma s2) (.remote (Dev.tc (⟨dv, hdv h⟩ : Dev nD) : Thread nD τ) (sl off (inb h)) (.dma s1) (hsc h))}
    (hsite : (C = 1#1 ↔ bv δ (cz c) = true) ∧ (bv δ (cz c) = true → off = ![128 * (sblk δ c 0 i).val, 0] ∧ dv = (nbr δ c).val))
    (hK : St m ρ K c R L1 (n + 1) ⊢ WP c K' Q) :
    St m ρ K c R L1 n ⊢ WP c (if h : C = 1#1 then
        Prog.lift (.enqueueDma (sl off (inb h)) (.remote (Dev.tc (⟨dv, hdv h⟩ : Dev nD) : Thread nD τ) (sl off (inb h)) (.dma s1) (hsc h)) (.dma s2) (hsrc h) (hdst h) (hsem h))
          >>= fun _ => K' else K') Q := by
  refine (St_open m ρ K c hn).trans ?_
  have hcl := (St_close m ρ K c (R := R) hn).trans hK
  by_cases h : bv δ (cz c) = true
  · have hC := hsite.1.mpr h
    rw [dif_pos hC]
    obtain ⟨hoff, hd⟩ := hsite.2 h
    have hv : sv δ (cz c) 0 = true := (sv_zero δ c).trans h
    rw [show obs (cz c) (.snd δ i) = [(δ, 0, i)] from if_pos h, obL_cons, bigSepL_singleton, show need m ρ c (.snd δ i) = blk c (sblk δ c 0 i) (qs δ 0) (gat m ρ c) from rfl]
    rw [show post m ρ c (.snd δ i) = cred (tallyAt (sC c δ 0 i) () N) from if_pos h] at hcl
    show _ ⊢ WP c (.op _ fun _ => K') Q
    iintro ⟨#HR, #HL, ⟨%W, HO⟩, Hk, Hb, HT⟩
    rw [add_assoc]
    iapply (wp_piece m ρ K c hv hoff (Fin.ext hd) hs.1 hs.2 (k' := fun _ => K') (W := W)) $$ [HO Hk Hb]
    · isplitr; · iexact HR
      isplitl [Hk]; · iexact Hk
      isplitl [Hb]; · iexact Hb
      iexact HO
    iintro ⟨Hc, HO⟩
    iapply hcl
    isplitr; · iexact HR
    isplitr; · iexact HL
    isplitl [HO]
    · iexists W; rw [show obL c [] + owL c (L1.drop (n + 1)) = owL c (L1.drop (n + 1)) from zero_add _]; iexact HO
    isplitl [Hc]; · iexact Hc
    iexact HT
  · rw [dif_neg fun hC => h (hsite.1.mp hC)]
    refine (?_ : _ ⊢ _).trans hcl
    rw [show obs (cz c) (.snd δ i) = [] from if_neg h, show post m ρ c (.snd δ i) = blk c (sblk δ c 0 i) (qs δ 0) (gat m ρ c) from if_neg h,
      show need m ρ c (.snd δ i) = blk c (sblk δ c 0 i) (qs δ 0) (gat m ρ c) from rfl]
    rw [show obL c [] + owL c (L1.drop (n + 1)) = owL c (L1.drop (n + 1)) from zero_add _]
    iintro ⟨#HR, #HL, HO, -, Hb, HT⟩
    isplitr; · iexact HR
    isplitr; · iexact HL
    isplitl [HO]; · iexact HO
    isplitl [Hb]; · iexact Hb
    iexact HT

end Cert.GatherProof

end
-- ==== Proof.Steps2.lean ====
module

public import proofs.«01_k».proof.Proof.Steps
public import Idealize.ShloMosaic.Lib.Pipeline.Value

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

variable {α : Type} {Q : α → sProp (MT nD τ sig Unit (Elt F) ℕ UU ℕ)} {K' : Prog (TpuEff nD τ sig (Elt F) Λ₀ .tc) α} {R : sProp (MT nD τ sig Unit (Elt F) ℕ UU ℕ)} {n : ℕ}

/-! ## Waiting for a piece and passing it on -/

/-- A wait for a piece from below or above, and the transfer that passes it on across, for any program `p` after them:
    what remains is what the piece's own onward transfer needs. -/
theorem rcv_across {δ : Dir} (hδ : δ ≠ 2) {k : Fin 3} {i : Fin 8} (hn : L1[n]? = some (.rcv δ k i)) (h : rv δ (cz c) k = true)
    {offw offx : Fin 2 → ℕ} {inbw : Inb offw} {inbx : Inb offx} {dx : ℕ} {hdx : dx < nD} {sw s1 s2 : DmaSem sig}
    (hs : SemLoc.dma sw = csem (some (false, δ, k, i)) ∧ SemLoc.dma s1 = csem (some (true, 2, jx δ k, i)) ∧ SemLoc.dma s2 = csem (some (false, 2, jx δ k, i)))
    {hsrcw hdstw : (sl offw inbw).view.WordExact}
    {hsc : (sl offx inbx).view.ref.isScScratch = false} {hsrc hdst : (sl offx inbx).view.WordExact}
    {hsem : DmaTarget.Typed .vmem (.dma s2) (.remote (Dev.tc (⟨dx, hdx⟩ : Dev nD) : Thread nD τ) (sl offx inbx) (.dma s1) hsc)}
    (hx : offx = ![128 * (sblk 2 c (jx δ k) i).val, 0] ∧ dx = (nbr 2 c).val) {p : Prog (TpuEff nD τ sig (Elt F) Λ₀ .tc) α}
    (hK : iprop(recs m ρ K ∗ levAts L lv
        ∗ (∃ W, owes (c : Thread nD τ) (obL c (if fwd δ (cz c) k then [(δ, k + 1, i)] else []) + owL c (L1.drop (n + 1))) W)
        ∗ bigSepL (if fwd δ (cz c) k then [(δ, k + 1, i)] else []) (kit c) ∗ semVal (rC c δ k i) 0 ∗ cred (tallyAt (sC c 2 (jx δ k) i) () N)
        ∗ blk c (rblk δ c k i) fullShare.right (gat m ρ c) ∗ Rst m ρ c R L1 n) ⊢ WP c p Q) :
    St m ρ K c R L1 n ⊢ WP c (Prog.lift (.waitDma2 sw (sl offw inbw) (sl offw inbw) hsrcw hdstw) >>= fun _ =>
        Prog.lift (.enqueueDma (sl offx inbx) (.remote (Dev.tc (⟨dx, hdx⟩ : Dev nD) : Thread nD τ) (sl offx inbx) (.dma s1) hsc) (.dma s2) hsrc hdst hsem)
          >>= fun _ => p) Q := by
  refine (St_open m ρ K c hn).trans ?_
  have hml := may_wait (F := F) c hn (csem (some (false, δ, k, i))) (by
    rw [lv_r]; unfold rlev; rw [if_neg hδ]; exact Nat.le_refl _)
  rw [show need m ρ c (.rcv δ k i) = waitR c δ k i from rfl]
  rw [show obs (cz c) (.rcv δ k i) = (2, jx δ k, i) :: (if fwd δ (cz c) k then [(δ, k + 1, i)] else []) from if_pos h, bigSepL_cons', obL_cons] at *
  show _ ⊢ WP c (.op _ fun _ => .op _ fun _ => p) Q
  iintro ⟨#HR, #HL, ⟨%W, HO⟩, ⟨Hk, Hks⟩, Hw, HT⟩
  iapply (wp_rwait m ρ K c h hs.1) $$ [Hw HO]
  · isplitr; · iexact HR
    isplitl [Hw]; · iexact Hw
    isplitl [HO]; · iexact HO
    iapply hml; iexact HL
  iintro ⟨⟨%W', HO⟩, Hz, Hb⟩
  ihave ⟨Hb1, Hb2⟩ := (blk_halves c (rblk δ c k i) (gat m ρ c)).1 $$ Hb
  rw [add_assoc]
  iapply (wp_piece m ρ K c (δ := 2) (k := jx δ k) (i := i) rfl hx.1 (Fin.ext hx.2) hs.2.1 hs.2.2 (k' := fun _ => p) (W := W')) $$ [HO Hk Hb1]
  · isplitr; · iexact HR
    isplitl [Hk]; · iexact Hk
    isplitl [Hb1]; · rw [rblk_across hδ h i]; iexact Hb1
    iexact HO
  iintro ⟨Hc, HO⟩
  iapply hK
  isplitr; · iexact HR
  isplitr; · iexact HL
  isplitl [HO]; · iexists W'; iexact HO
  isplitl [Hks]; · iexact Hks
  isplitl [Hz]; · iexact Hz
  isplitl [Hc]; · iexact Hc
  isplitl [Hb2]; · iexact Hb2
  iexact HT

/-- A piece that does not come: its cell is at rest. -/
theorem rcv_none {δ : Dir} {k : Fin 3} {i : Fin 8} (hn : L1[n]? = some (.rcv δ k i)) (h : ¬ rv δ (cz c) k = true)
    (hK : St m ρ K c R L1 (n + 1) ⊢ WP c K' Q) : St m ρ K c R L1 n ⊢ WP c K' Q := by
  refine (St_open m ρ K c hn).trans ?_
  have hcl := (St_close m ρ K c (R := R) hn).trans hK
  rw [show need m ρ c (.rcv δ k i) = waitR c δ k i from rfl, show obs (cz c) (.rcv δ k i) = [] from if_neg h,
    show obL c [] + owL c (L1.drop (n + 1)) = owL c (L1.drop (n + 1)) from zero_add _]
  rw [show post m ρ c (.rcv δ k i) = iprop(semVal (rC c δ k i) 0 ∗ if rv δ (cz c) k then
      iprop(cred (tallyAt (sC c 2 (jx δ k) i) () N) ∗ if fwd δ (cz c) k then cred (tallyAt (sC c δ (k + 1) i) () N) else blk c (rblk δ c k i) fullShare.right (gat m ρ c))
      else iprop(emp)) from rfl, if_neg h] at hcl
  unfold waitR WP at *; rw [if_neg h]
  iintro ⟨#HR, #HL, HO, -, ⟨Hat, -⟩, HT⟩
  ihave #Hi := (recs_inv m ρ K (c, some (false, δ, k, i))) $$ HR
  imod (cell_close ER (Rd m ρ) (Set.mem_univ (K (c, some (false, δ, k, i)))) (fun h => h) (R := 0) (duties_r_none m ρ c i h)) $$ [Hat] with Hz
  · isplitr; · iexact Hi
    iexact Hat
  iapply hcl
  isplitr; · iexact HR
  isplitr; · iexact HL
  isplitl [HO]; · iexact HO
  isplitl [Hz]
  · isplitl [Hz]; · iexact Hz
    iempintro
  iexact HT

/-- What is passed on in the same direction is read through the right half. -/
theorem qs_on {δ : Dir} (hδ : δ ≠ 2) {k : Fin 3} (hk : k.val < 2) : qs δ (k + 1) = fullShare.right := by
  fin_cases δ
  · fin_cases k
    · rfl
    · rfl
    · exact absurd hk (by decide)
  · rfl
  · exact absurd rfl hδ

/-- The act for a piece that may be passed on in the same direction. -/
theorem step_rcv {δ : Dir} (hδ : δ ≠ 2) {k : Fin 3} (hk : k.val < 2) {i : Fin 8} (hn : L1[n]? = some (.rcv δ k i))
    {C C2 : BitVec 1} {_ : Decidable (C = 1#1)} {_ : Decidable (C2 = 1#1)} {offw offx offf : Fin 2 → ℕ} {dx df : ℕ}
    {inbw : C = 1#1 → Inb offw} {inbx : C = 1#1 → Inb offx} {inbf : C = 1#1 → C2 = 1#1 → Inb offf}
    {hdx : C = 1#1 → dx < nD} {hdf : C = 1#1 → C2 = 1#1 → df < nD} {sw s1 s2 f1 f2 : DmaSem sig}
    (hs : SemLoc.dma sw = csem (some (false, δ, k, i)) ∧ SemLoc.dma s1 = csem (some (true, 2, jx δ k, i)) ∧ SemLoc.dma s2 = csem (some (false, 2, jx δ k, i)))
    (hf : SemLoc.dma f1 = csem (some (true, δ, k + 1, i)) ∧ SemLoc.dma f2 = csem (some (false, δ, k + 1, i)))
    {hsrcw hdstw : ∀ h : C = 1#1, (sl offw (inbw h)).view.WordExact}
    {hsc : ∀ h : C = 1#1, (sl offx (inbx h)).view.ref.isScScratch = false} {hsrc hdst : ∀ h : C = 1#1, (sl offx (inbx h)).view.WordExact}
    {hsem : ∀ h : C = 1#1, DmaTarget.Typed .vmem (.dma s2) (.remote (Dev.tc (⟨dx, hdx h⟩ : Dev nD) : Thread nD τ) (sl offx (inbx h)) (.dma s1) (hsc h))}
    {gsc : ∀ (h : C = 1#1) (h' : C2 = 1#1), (sl offf (inbf h h')).view.ref.isScScratch = false} {gsrc gdst : ∀ (h : C = 1#1) (h' : C2 = 1#1), (sl offf (inbf h h')).view.WordExact}
    {gsem : ∀ (h : C = 1#1) (h' : C2 = 1#1), DmaTarget.Typed .vmem (.dma f2) (.remote (Dev.tc (⟨df, hdf h h'⟩ : Dev nD) : Thread nD τ) (sl offf (inbf h h')) (.dma f1) (gsc h h'))}
    (hsite : (C = 1#1 ↔ rv δ (cz c) k = true) ∧ (rv δ (cz c) k = true → (offx = ![128 * (sblk 2 c (jx δ k) i).val, 0] ∧ dx = (nbr 2 c).val)
      ∧ (C2 = 1#1 ↔ bv δ (cz c) = true) ∧ (bv δ (cz c) = true → offf = ![128 * (sblk δ c (k + 1) i).val, 0] ∧ df = (nbr δ c).val)))
    (hK : St m ρ K c R L1 (n + 1) ⊢ WP c K' Q) :
    St m ρ K c R L1 n ⊢ WP c (if h : C = 1#1 then
        Prog.lift (.waitDma2 sw (sl offw (inbw h)) (sl offw (inbw h)) (hsrcw h) (hdstw h)) >>= fun _ =>
        Prog.lift (.enqueueDma (sl offx (inbx h)) (.remote (Dev.tc (⟨dx, hdx h⟩ : Dev nD) : Thread nD τ) (sl offx (inbx h)) (.dma s1) (hsc h)) (.dma s2) (hsrc h) (hdst h) (hsem h)) >>= fun _ =>
        (if h' : C2 = 1#1 then
          Prog.lift (.enqueueDma (sl offf (inbf h h')) (.remote (Dev.tc (⟨df, hdf h h'⟩ : Dev nD) : Thread nD τ) (sl offf (inbf h h')) (.dma f1) (gsc h h')) (.dma f2) (gsrc h h') (gdst h h') (gsem h h'))
            >>= fun _ => K' else K') else K') Q := by
  by_cases h : rv δ (cz c) k = true
  · rw [dif_pos (hsite.1.mpr h)]
    obtain ⟨hx, hC2, hsf⟩ := hsite.2 h
    refine rcv_across m ρ K c hδ hn h hs hx ?_
    have hcl := (St_close m ρ K c (R := R) hn).trans hK
    rw [show post m ρ c (.rcv δ k i) = iprop(semVal (rC c δ k i) 0 ∗ if rv δ (cz c) k then
      iprop(cred (tallyAt (sC c 2 (jx δ k) i) () N) ∗ if fwd δ (cz c) k then cred (tallyAt (sC c δ (k + 1) i) () N) else blk c (rblk δ c k i) fullShare.right (gat m ρ c))
      else iprop(emp)) from rfl, if_pos h] at hcl
    by_cases hb : bv δ (cz c) = true
    · have hfw : fwd δ (cz c) k = true := by unfold fwd; rw [hb, decide_eq_true hk]; rfl
      rw [if_pos hfw] at hcl
      rw [if_pos hfw, dif_pos (hC2.mpr hb), obL_cons, bigSepL_singleton, add_assoc]
      obtain ⟨ho, hd⟩ := hsf hb
      obtain ⟨hbk, hv⟩ := rblk_on hδ h hfw i
      show _ ⊢ WP c (.op _ fun _ => K') Q
      iintro ⟨#HR, #HL, ⟨%W, HO⟩, Hk, Hz, Hc, Hb, HT⟩
      iapply (wp_piece m ρ K c hv ho (Fin.ext hd) hf.1 hf.2 (k' := fun _ => K') (W := W)) $$ [HO Hk Hb]
      · isplitr; · iexact HR
        isplitl [Hk]; · iexact Hk
        isplitl [Hb]
        · rw [← hbk, qs_on hδ hk]; iexact Hb
        iexact HO
      iintro ⟨Hc', HO⟩
      iapply hcl
      isplitr; · iexact HR
      isplitr; · iexact HL
      isplitl [HO]
      · iexists W; rw [show obL c [] + owL c (L1.drop (n + 1)) = owL c (L1.drop (n + 1)) from zero_add _]; iexact HO
      isplitl [Hz Hc Hc']
      · isplitl [Hz]; · iexact Hz
        isplitl [Hc]; · iexact Hc
        iexact Hc'
      iexact HT
    · have hfw : ¬ fwd δ (cz c) k = true := by unfold fwd; rw [Bool.eq_false_iff.mpr hb, Bool.and_false]; exact Bool.false_ne_true
      rw [if_neg hfw] at hcl
      rw [if_neg hfw, dif_neg fun e => hb (hC2.mp e), show obL c [] + owL c (L1.drop (n + 1)) = owL c (L1.drop (n + 1)) from zero_add _]
      iintro ⟨#HR, #HL, HO, -, Hz, Hc, Hb, HT⟩
      iapply hcl
      isplitr; · iexact HR
      isplitr; · iexact HL
      isplitl [HO]; · iexact HO
      isplitl [Hz Hc Hb]
      · isplitl [Hz]; · iexact Hz
        isplitl [Hc]; · iexact Hc
        iexact Hb
      iexact HT
  · rw [dif_neg fun e => h (hsite.1.mp e)]
    exact rcv_none m ρ K c hn h hK

/-- The act for a piece of the last step, which is passed on across only. -/
theorem step_rcv_last {δ : Dir} (hδ : δ ≠ 2) {i : Fin 8} (hn : L1[n]? = some (.rcv δ 2 i))
    {C : BitVec 1} {_ : Decidable (C = 1#1)} {offw offx : Fin 2 → ℕ} {dx : ℕ} {inbw : C = 1#1 → Inb offw} {inbx : C = 1#1 → Inb offx} {hdx : C = 1#1 → dx < nD} {sw s1 s2 : DmaSem sig}
    (hs : SemLoc.dma sw = csem (some (false, δ, 2, i)) ∧ SemLoc.dma s1 = csem (some (true, 2, jx δ 2, i)) ∧ SemLoc.dma s2 = csem (some (false, 2, jx δ 2, i)))
    {hsrcw hdstw : ∀ h : C = 1#1, (sl offw (inbw h)).view.WordExact}
    {hsc : ∀ h : C = 1#1, (sl offx (inbx h)).view.ref.isScScratch = false} {hsrc hdst : ∀ h : C = 1#1, (sl offx (inbx h)).view.WordExact}
    {hsem : ∀ h : C = 1#1, DmaTarget.Typed .vmem (.dma s2) (.remote (Dev.tc (⟨dx, hdx h⟩ : Dev nD) : Thread nD τ) (sl offx (inbx h)) (.dma s1) (hsc h))}
    (hsite : (C = 1#1 ↔ rv δ (cz c) 2 = true) ∧ (rv δ (cz c) 2 = true → offx = ![128 * (sblk 2 c (jx δ 2) i).val, 0] ∧ dx = (nbr 2 c).val))
    (hK : St m ρ K c R L1 (n + 1) ⊢ WP c K' Q) :
    St m ρ K c R L1 n ⊢ WP c (if h : C = 1#1 then
        Prog.lift (.waitDma2 sw (sl offw (inbw h)) (sl offw (inbw h)) (hsrcw h) (hdstw h)) >>= fun _ =>
        Prog.lift (.enqueueDma (sl offx (inbx h)) (.remote (Dev.tc (⟨dx, hdx h⟩ : Dev nD) : Thread nD τ) (sl offx (inbx h)) (.dma s1) (hsc h)) (.dma s2) (hsrc h) (hdst h) (hsem h)) >>= fun _ =>
        K' else K') Q := by
  by_cases h : rv δ (cz c) 2 = true
  · rw [dif_pos (hsite.1.mpr h)]
    refine rcv_across m ρ K c hδ hn h hs (hsite.2 h) ?_
    have hcl := (St_close m ρ K c (R := R) hn).trans hK
    have hfw : ¬ fwd δ (cz c) 2 = true := by unfold fwd; rw [decide_eq_false (by decide), Bool.false_and]; exact Bool.false_ne_true
    rw [show post m ρ c (.rcv δ 2 i) = iprop(semVal (rC c δ 2 i) 0 ∗ if rv δ (cz c) 2 then
      iprop(cred (tallyAt (sC c 2 (jx δ 2) i) () N) ∗ if fwd δ (cz c) 2 then cred (tallyAt (sC c δ (2 + 1) i) () N) else blk c (rblk δ c 2 i) fullShare.right (gat m ρ c))
      else iprop(emp)) from rfl, if_pos h, if_neg hfw] at hcl
    rw [if_neg hfw, show obL c [] + owL c (L1.drop (n + 1)) = owL c (L1.drop (n + 1)) from zero_add _]
    iintro ⟨#HR, #HL, HO, -, Hz, Hc, Hb, HT⟩
    iapply hcl
    isplitr; · iexact HR
    isplitr; · iexact HL
    isplitl [HO]; · iexact HO
    isplitl [Hz Hc Hb]
    · isplitl [Hz]; · iexact Hz
      isplitl [Hc]; · iexact Hc
      iexact Hb
    iexact HT
  · rw [dif_neg fun e => h (hsite.1.mp e)]
    exact rcv_none m ρ K c hn h hK

/-- The wait for a piece from across. -/
theorem step_xlw {j : Fin 3} {i : Fin 8} (hn : L1[n]? = some (.xlw j i)) {off off' : Fin 2 → ℕ} {inb : Inb off} {inb' : Inb off'} {s : DmaSem sig}
    (hs : SemLoc.dma s = csem (some (false, 2, j, i))) {hsrc : (sl off inb).view.WordExact} {hdst : (sl off' inb').view.WordExact}
    (hK : St m ρ K c R L1 (n + 1) ⊢ WP c K' Q) :
    St m ρ K c R L1 n ⊢ WP c (Prog.lift (.waitDma2 s (sl off inb) (sl off' inb') hsrc hdst) >>= fun _ => K') Q := by
  refine (St_open m ρ K c hn).trans ?_
  have hml := may_wait (F := F) c hn (csem (some (false, 2, j, i))) (by rw [lv_r]; exact Nat.le_refl _)
  have hcl := (St_close m ρ K c (R := R) hn).trans hK
  rw [show need m ρ c (.xlw j i) = waitR c 2 j i from rfl]
  rw [show obL c (obs (cz c) (.xlw j i)) + owL c (L1.drop (n + 1)) = owL c (L1.drop (n + 1)) from zero_add _] at *
  rw [show post m ρ c (.xlw j i) = iprop(semVal (rC c 2 j i) 0 ∗ blk c (rblk 2 c j i) fullShare (gat m ρ c)) from rfl] at hcl
  show _ ⊢ WP c (.op _ fun _ => K') Q
  iintro ⟨#HR, #HL, ⟨%W, HO⟩, -, Hw, HT⟩
  iapply (wp_rwait m ρ K c (δ := 2) (k := j) (i := i) rfl hs (k' := fun _ => K') (W := W)) $$ [Hw HO]
  · isplitr; · iexact HR
    isplitl [Hw]; · iexact Hw
    isplitl [HO]; · iexact HO
    iapply hml; iexact HL
  iintro ⟨HO, Hz, Hb⟩
  iapply hcl
  isplitr; · iexact HR
  isplitr; · iexact HL
  isplitl [HO]; · iexact HO
  isplitl [Hz Hb]
  · isplitl [Hz]; · iexact Hz
    iexact Hb
  iexact HT

/-! ## Waiting for what was sent -/

theorem owL_L2 (n : ℕ) : owL c (L2.drop n) = 0 := by
  unfold owL
  rw [List.flatMap_eq_nil_iff.mpr fun a ha => obs_L2 (cz c) a (List.mem_of_mem_drop ha)]; rfl

/-- The wait for a piece to have left, where there is one. -/
theorem sw_wait {δ : Dir} {k : Fin 3} {i : Fin 8} (hn : L2[n]? = some (.sw δ k i)) (h : sv δ (cz c) k = true) {off off' : Fin 2 → ℕ} {inb : Inb off} {inb' : Inb off'} {s : DmaSem sig}
    (hs : SemLoc.dma s = csem (some (true, δ, k, i))) {hsrc : (sl off inb).view.WordExact} {hdst : (sl off' inb').view.WordExact}
    (hK : St m ρ K c R L2 (n + 1) ⊢ WP c K' Q) :
    St m ρ K c R L2 n ⊢ WP c (Prog.lift (.waitDma2 s (sl off inb) (sl off' inb') hsrc hdst) >>= fun _ => K') Q := by
  refine (St_open m ρ K c hn).trans ?_
  have hcl := (St_close m ρ K c (R := R) hn).trans hK
  rw [show need m ρ c (.sw δ k i) = waitS c δ k i from rfl]
  rw [show obL c (obs (cz c) (.sw δ k i)) + owL c (L2.drop (n + 1)) = 0 from (zero_add _).trans (owL_L2 c _)]
  rw [show post m ρ c (.sw δ k i) = iprop(semVal (sC c δ k i) 0 ∗ if sv δ (cz c) k then blk c (sblk δ c k i) (qs δ k) (gat m ρ c) else iprop(emp)) from rfl,
    if_pos h, owL_L2] at hcl
  show _ ⊢ WP c (.op _ fun _ => K') Q
  iintro ⟨#HR, #HL, ⟨%W, HO⟩, -, Hw, HT⟩
  iapply (wp_swait m ρ K c h hs (k' := fun _ => K') (W := W)) $$ [Hw HO]
  · isplitr; · iexact HR
    isplitl [Hw]; · iexact Hw
    iexact HO
  iintro ⟨HO, Hz, Hb⟩
  iapply hcl
  isplitr; · iexact HR
  isplitr; · iexact HL
  isplitl [HO]; · iexact HO
  isplitl [Hz Hb]
  · isplitl [Hz]; · iexact Hz
    iexact Hb
  iexact HT

/-- The wait for a piece to have gone across. -/
theorem step_swx {j : Fin 3} {i : Fin 8} (hn : L2[n]? = some (.sw 2 j i)) {off off' : Fin 2 → ℕ} {inb : Inb off} {inb' : Inb off'} {s : DmaSem sig}
    (hs : SemLoc.dma s = csem (some (true, 2, j, i))) {hsrc : (sl off inb).view.WordExact} {hdst : (sl off' inb').view.WordExact}
    (hK : St m ρ K c R L2 (n + 1) ⊢ WP c K' Q) :
    St m ρ K c R L2 n ⊢ WP c (Prog.lift (.waitDma2 s (sl off inb) (sl off' inb') hsrc hdst) >>= fun _ => K') Q :=
  sw_wait m ρ K c hn rfl hs hK

/-- The wait for a piece to have gone down or up. -/
theorem step_sw {δ : Dir} {k : Fin 3} {i : Fin 8} (hn : L2[n]? = some (.sw δ k i)) {C : BitVec 1} {_ : Decidable (C = 1#1)} {off off' : Fin 2 → ℕ} {inb : C = 1#1 → Inb off} {inb' : C = 1#1 → Inb off'} {s : DmaSem sig}
    (hs : SemLoc.dma s = csem (some (true, δ, k, i))) {hsrc : ∀ h : C = 1#1, (sl off (inb h)).view.WordExact} {hdst : ∀ h : C = 1#1, (sl off' (inb' h)).view.WordExact}
    (hsite : C = 1#1 ↔ sv δ (cz c) k = true)
    (hK : St m ρ K c R L2 (n + 1) ⊢ WP c K' Q) :
    St m ρ K c R L2 n ⊢ WP c (if h : C = 1#1 then Prog.lift (.waitDma2 s (sl off (inb h)) (sl off' (inb' h)) (hsrc h) (hdst h)) >>= fun _ => K' else K') Q := by
  by_cases h : sv δ (cz c) k = true
  · rw [dif_pos (hsite.mpr h)]; exact sw_wait m ρ K c hn h hs hK
  · rw [dif_neg fun e => h (hsite.mp e)]
    refine (St_open m ρ K c hn).trans ?_
    have hcl := (St_close m ρ K c (R := R) hn).trans hK
    rw [show need m ρ c (.sw δ k i) = waitS c δ k i from rfl]
    rw [show obL c (obs (cz c) (.sw δ k i)) + owL c (L2.drop (n + 1)) = owL c (L2.drop (n + 1)) from zero_add _]
    rw [show post m ρ c (.sw δ k i) = iprop(semVal (sC c δ k i) 0 ∗ if sv δ (cz c) k then blk c (sblk δ c k i) (qs δ k) (gat m ρ c) else iprop(emp)) from rfl, if_neg h] at hcl
    unfold waitS WP at *; rw [if_neg h]
    iintro ⟨#HR, #HL, HO, -, ⟨Hat, -⟩, HT⟩
    ihave #Hi := (recs_inv m ρ K (c, some (true, δ, k, i))) $$ HR
    imod (cell_close ER (Rd m ρ) (Set.mem_univ (K (c, some (true, δ, k, i)))) (fun h => h) (R := 0) (duties_s_none m ρ c i h)) $$ [Hat] with Hz
    · isplitr; · iexact Hi
      iexact Hat
    iapply hcl
    isplitr; · iexact HR
    isplitr; · iexact HL
    isplitl [HO]; · iexact HO
    isplitl [Hz]
    · isplitl [Hz]; · iexact Hz
      iempintro
    iexact HT

/-! ## Storing the device's own half chunks -/

/-- Half a chunk of the result array. -/
abbrev half (lo : Fin 2 → ℕ) (inb : ∀ a, lo a + S1024x512.size a ≤ S8192x512.size a) : Rect S8192x512 := Rect.unit (s := S8192x512) lo S1024x512.size inb
/-- Half a device's operand block. -/
abbrev xhalf (lo : Fin 2 → ℕ) (inb : ∀ a, lo a + S1024x512.size a ≤ S2048x512.size a) : Rect S2048x512 := Rect.unit (s := S2048x512) lo S1024x512.size inb

theorem half_set {lo : ℕ} {off : Fin 2 → ℕ} (ho : off = ![lo, 0]) (inb : ∀ a, off a + S1024x512.size a ≤ S8192x512.size a) :
    (oM.access (half off inb)).set = rset lo 1024 :=
  (View.set_slice_whole _ _).trans (rect_rows ho (by funext a; fin_cases a <;> rfl) inb)

/-- Storing half of the operand block, as loaded, into half a chunk copies it. -/
theorem copied {lo : ℕ} (hlo : lo % 2048 + 1024 ≤ 2048) {xo oo : Fin 2 → ℕ} (hx : xo = ![lo % 2048, 0]) (ho : oo = ![lo, 0])
    (inbx : ∀ a, xo a + S1024x512.size a ≤ S2048x512.size a) (inbo : ∀ a, oo a + S1024x512.size a ≤ S8192x512.size a)
    (X : (cc0_stg0_0 : Ref sig .tc).ty.Contents (Elt F)) (f : OutC F) (i : S8192x512.Idx) (hi : i ∈ rset lo 1024) :
    (oM.access (half oo inbo)).write (Elt F) f (k0_pay1 ((xM.access (xhalf xo inbx)).read (Elt F) X)) Finset.univ i = X (locIdx i) := by
  rw [← half_set ho inbo] at hi
  obtain ⟨x, -, rfl⟩ := Finset.mem_map.mp hi
  rw [View.write_emb_of_mem _ _ (Finset.mem_univ x)]
  unfold k0_pay1
  rw [shapeCast_self, View.read_apply]
  show X _ = X _
  congr 1
  subst hx ho
  funext a
  apply Fin.ext
  have h0 : (x (0 : Fin 2)).val < 1024 := (x (0 : Fin 2)).isLt
  fin_cases a
  · show lo % 2048 + 1 * (x (0 : Fin 2)).val = (lo + 1 * (x (0 : Fin 2)).val) % 2048
    omega
  · rfl

/-- Storing the half that the device keeps. -/
theorem step_st2 (hn : L1[n]? = some .st2) {xo oo : Fin 2 → ℕ} {inbx : ∀ a, xo a + S1024x512.size a ≤ S2048x512.size a} {inbo : ∀ a, oo a + S1024x512.size a ≤ S8192x512.size a}
    (hsite : xo = ![1024 * (1 - cx c), 0] ∧ oo = ![2048 * cz c + 1024 * (1 - cx c), 0])
    {hl : xM.view.LoadsAt (xhalf xo inbx).toLoadRect} {hl' : oM.view.LoadsAt (half oo inbo).toLoadRect} {hx : (oM.access (half oo inbo)).Stores Finset.univ}
    {hm : (Finset.univ : Finset (half oo inbo).shape.Idx) = Finset.univ ∨ ∀ a, (half oo inbo).stride a = 1}
    (hK : St m ρ K c R L1 (n + 1) ⊢ WP c K' Q) :
    St m ρ K c R L1 n ⊢ WP c (Prog.lift (.load xM (xhalf xo inbx).toLoadRect hl) >>= fun v => Prog.lift (.load oM (half oo inbo).toLoadRect hl') >>= fun _ =>
      Prog.lift (.store oM (half oo inbo) (k0_pay1 v) Finset.univ hx hm) >>= fun _ => K') Q := by
  obtain ⟨hxo, hoo⟩ := hsite
  have hcz := cz_lt c
  have hcx := cx_lt c
  have hset := half_set hoo inbo
  have hlo : 2048 * cz c + 1024 * (1 - cx c) = 2048 * cz c + 1024 * (1 - cx c) := rfl
  refine (St_open m ρ K c hn).trans ?_
  have hcl := (St_close m ρ K c (R := R) hn).trans hK
  rw [show need m ρ c .st2 = iprop(xPts m ρ c ∗ ∃ f, keep c f) from rfl]
  rw [show obL c (obs (cz c) .st2) + owL c (L1.drop (n + 1)) = owL c (L1.drop (n + 1)) from zero_add _]
  rw [show post m ρ c .st2 = iprop(xPts m ρ c ∗ keep c (outC m ρ c)) from rfl] at hcl
  show _ ⊢ WP c (.op _ fun v => .op _ fun _ => .op _ fun _ => K') Q
  unfold xPts keep WP at *
  iintro ⟨#HR, #HL, HO, -, ⟨Hx, ⟨%f, Hf⟩⟩, HT⟩
  iapply (wp_load_rect 𝒱₀ (c : Thread nD τ) none Set.univ (m := xM) (r := xhalf xo inbx) (Finset.subset_univ _)) $$ Hx
  iintro Hx
  iapply (wp_load_rect 𝒱₀ (c : Thread nD τ) none Set.univ (m := oM) (r := half oo inbo) hset.le) $$ Hf
  iintro Hf
  iapply (wp_store 𝒱₀ (c : Thread nD τ) none Set.univ (m := oM) (r := half oo inbo) (Mk := Finset.univ) hset.le) $$ Hf
  iintro Hf
  iapply hcl
  isplitr; · iexact HR
  isplitr; · iexact HL
  isplitl [HO]; · iexact HO
  isplitl [Hx Hf]
  · isplitl [Hx]; · iexact Hx
    iapply (Entails.of_eq (pointsTo_congr fun i hi => ?_)) $$ Hf
    rw [copied (lo := 2048 * cz c + 1024 * (1 - cx c)) (by omega) (by rw [hxo]; congr 1; omega) hoo inbx inbo (xstg m ρ c) f i hi]
    show _ = if _ then _ else _
    rw [mem_rset] at hi
    rw [if_pos (by omega)]
  iexact HT

end Cert.GatherProof

end
-- ==== Proof.Piece.lean ====
module

public import proofs.«01_k».proof.Proof.Steps2

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## The run, piece by piece -/

/-- The transfers of piece `i`, whether a device takes part in them or not. -/
def ots (i : Fin 8) : List (Dir × Fin 3 × Fin 8) := [(0, 0, i), (0, 1, i), (0, 2, i), (1, 0, i), (1, 1, i), (1, 2, i), (2, 0, i), (2, 1, i), (2, 2, i)]
/-- The acts of the first phase that concern piece `i`. -/
def acts1 (i : Fin 8) : List Act := [.snd 0 i, .snd 1 i, .rcv 0 0 i, .rcv 0 1 i, .rcv 0 2 i, .rcv 1 0 i, .rcv 1 1 i, .rcv 1 2 i, .xlw 0 i, .xlw 1 i, .xlw 2 i]
/-- The acts of the second phase that concern piece `i`. -/
def acts2 (i : Fin 8) : List Act := [.sw 0 0 i, .sw 0 1 i, .sw 0 2 i, .sw 1 0 i, .sw 1 1 i, .sw 1 2 i, .sw 2 0 i, .sw 2 1 i, .sw 2 2 i]

section Lists

variable {M : Type} [URA M] {I : Type} [DecidableEq I]

/-- A list of different things may be taken in any order. -/
theorem bigSepL_reorder {l l' : List I} (hl : l.Nodup) (hl' : l'.Nodup) (h : l.toFinset = l'.toFinset) (Φ : I → sProp M) : bigSepL l Φ = bigSepL l' Φ := by
  rw [← bigSep_eq_bigSepL l hl, h, bigSep_eq_bigSepL l' hl']

/-- A list put together from lists. -/
theorem bigSepL_flat {J : Type} (l : List J) (f : J → List I) (Φ : I → sProp M) : bigSepL (l.flatMap f) Φ = bigSepL l fun j => bigSepL (f j) Φ := by
  induction l with
  | nil => rfl
  | cons j l ih => rw [List.flatMap_cons, bigSepL_append, bigSepL_cons', ih]

/-- The laws of the separating conjunction as equalities. -/
theorem sep_assoc_eq (P Q R : sProp M) : iprop((P ∗ Q) ∗ R) = iprop(P ∗ Q ∗ R) := BI.equiv_iff.mp ⟨BI.sep_assoc, BI.sep_assoc'⟩
theorem sep_emp_eq (P : sProp M) : iprop(P ∗ emp) = P := BI.equiv_iff.mp BI.sep_emp
theorem emp_sep_eq (P : sProp M) : iprop(emp ∗ P) = P := BI.equiv_iff.mp BI.emp_sep
theorem sep_comm_eq (P Q : sProp M) : iprop(P ∗ Q) = iprop(Q ∗ P) := BI.equiv_iff.mp ⟨BI.sep_comm, BI.sep_comm⟩
/-- The separating conjunction as an operation on assertions up to equality: associative and commutative. -/
instance sep_assoc_op : Std.Associative (fun P Q : sProp M => iprop(P ∗ Q)) := ⟨sep_assoc_eq⟩
instance sep_comm_op : Std.Commutative (fun P Q : sProp M => iprop(P ∗ Q)) := ⟨sep_comm_eq⟩

theorem bigSepL_none (Φ : I → sProp M) : bigSepL [] Φ = iprop(emp) := rfl
/-- A list of pairs of assertions. -/
theorem bigSepL_both (l : List I) (Φ Ψ : I → sProp M) : bigSepL l (fun i => iprop(Φ i ∗ Ψ i)) = iprop(bigSepL l Φ ∗ bigSepL l Ψ) := by
  induction l with
  | nil => exact (sep_emp_eq (iprop(emp) : sProp M)).symm
  | cons j l ih => rw [bigSepL_cons', bigSepL_cons', bigSepL_cons', ih]; ac_rfl

theorem bigSepL_pcs (Φ : Fin 8 → sProp M) : bigSepL pcs Φ = bigSep Finset.univ Φ := (bigSep_eq_bigSepL_of_eq pcs (by decide) (by decide) Φ).symm

end Lists

theorem univ_ots (Φ : Dir × Fin 3 × Fin 8 → sProp 𝕄) : bigSep Finset.univ Φ = bigSep Finset.univ fun i => bigSepL (ots i) Φ := by
  rw [bigSep_eq_bigSepL_of_eq (pcs.flatMap ots) (by decide +kernel) (by decide +kernel) Φ, bigSepL_flat, bigSepL_pcs]

theorem L1_pcs (Φ : Act → sProp 𝕄) : bigSepL L1 Φ = iprop(Φ .st2 ∗ bigSep Finset.univ fun i => bigSepL (acts1 i) Φ) := by
  rw [bigSepL_reorder (l' := .st2 :: pcs.flatMap acts1) (by decide +kernel) (by decide +kernel) (by decide +kernel), bigSepL_cons', bigSepL_flat, bigSepL_pcs]

theorem L2_pcs (Φ : Act → sProp 𝕄) : bigSepL L2 Φ = bigSep Finset.univ fun i => bigSepL (acts2 i) Φ := by
  rw [bigSepL_reorder (l' := pcs.flatMap acts2) (by decide +kernel) (by decide +kernel) (by decide +kernel), bigSepL_flat, bigSepL_pcs]

/-! ## From the first phase to the second, and from there to the end -/

/-- What the first phase leaves of piece `i` that the second does not touch. -/
def left (i : Fin 8) : sProp 𝕄 := iprop(bigSepL (ots i) (fun o => semVal (rC c o.1 o.2.1 o.2.2) 0)
  ∗ bigSepL stps (fun j => blk c (rblk 2 c j i) fullShare (gat m ρ c))
  ∗ bigSepL ([(0, 0), (0, 1), (0, 2), (1, 0), (1, 1), (1, 2)] : List (Dir × Fin 3)) (fun p =>
      if rv p.1 (cz c) p.2 then (if fwd p.1 (cz c) p.2 then iprop(emp) else blk c (rblk p.1 c p.2 i) fullShare.right (gat m ρ c)) else iprop(emp))
  ∗ bigSepL ([0, 1] : List Dir) (fun δ => if bv δ (cz c) then iprop(emp) else blk c (sblk δ c 0 i) (qs δ 0) (gat m ρ c)))

/-- The blocks of piece `i` that a device sent or received. -/
def blks (i : Fin 8) : sProp 𝕄 := iprop(blk c (oblk c i) fullShare (gat m ρ c)
  ∗ bigSepL (ots i) fun o => if rv o.1 (cz c) o.2.1 then blk c (rblk o.1 c o.2.1 o.2.2) fullShare (gat m ρ c) else iprop(emp))

theorem cz_cases (c : Dev nD) : cz c = 0 ∨ cz c = 1 ∨ cz c = 2 ∨ cz c = 3 := by have := cz_lt c; omega

/-- The transfers issued in the first phase are the ones waited for in the second. -/
theorem bridge_piece (i : Fin 8) : iprop(bigSepL (acts1 i) (post m ρ c) ∗ bigSepL (ots i) (fun o => atPos ER (sC c o.1 o.2.1 o.2.2) 0 ∅ 0))
    ⊢ (iprop(bigSepL (acts2 i) (pre m ρ c) ∗ left m ρ c i) : sProp 𝕄) := by
  refine Entails.of_eq ?_
  unfold acts1 acts2 left ots
  rcases cz_cases c with hz | hz | hz | hz <;>
    simp (config := { decide := true }) only [bigSepL_cons', bigSepL_none, pre, post, need, waitS, hz, rv, sv, bv, fwd, jx, obs, if_true, if_false, sep_emp_eq, emp_sep_eq,
      show (2 - 0 : Fin 3) = 2 from rfl, show (2 - 1 : Fin 3) = 1 from rfl, show (2 - 2 : Fin 3) = 0 from rfl, show (0 + 1 : Fin 3) = 1 from rfl, show (1 + 1 : Fin 3) = 2 from rfl] <;>
    ac_rfl

theorem blk_two (b : Fin 64) : (blk c b fullShare (gat m ρ c) : sProp 𝕄) = iprop(blk c b fullShare.left (gat m ρ c) ∗ blk c b fullShare.right (gat m ρ c)) :=
  BI.equiv_iff.mp ⟨(blk_halves c b _).1, (blk_halves c b _).2⟩

set_option maxHeartbeats 4000000 in
set_option maxRecDepth 20000 in
/-- At the end every block is whole again, and every semaphore at zero. -/
theorem end_piece (i : Fin 8) : iprop(bigSepL (acts2 i) (post m ρ c) ∗ left m ρ c i)
    ⊢ (iprop(bigSepL (ots i) (fun o => semVal (sC c o.1 o.2.1 o.2.2) 0) ∗ bigSepL (ots i) (fun o => semVal (rC c o.1 o.2.1 o.2.2) 0) ∗ blks m ρ c i) : sProp 𝕄) := by
  refine Entails.of_eq ?_
  have own0 := sblk_own 0 (by decide) c i
  have own1 := sblk_own 1 (by decide) c i
  have across : ∀ δ : Dir, δ ≠ 2 → ∀ k, rv δ (cz c) k = true → blk c (sblk 2 c (jx δ k) i) fullShare.left (gat m ρ c) = (blk c (rblk δ c k i) fullShare.left (gat m ρ c) : sProp 𝕄) :=
    fun δ hδ k h => by rw [rblk_across hδ h]
  have on : ∀ δ : Dir, δ ≠ 2 → ∀ k, rv δ (cz c) k = true → fwd δ (cz c) k = true → blk c (sblk δ c (k + 1) i) fullShare.right (gat m ρ c) = (blk c (rblk δ c k i) fullShare.right (gat m ρ c) : sProp 𝕄) :=
    fun δ hδ k h hf => by rw [(rblk_on hδ h hf i).1]
  have a00 := across 0 (by decide) 0
  have a01 := across 0 (by decide) 1
  have a02 := across 0 (by decide) 2
  have a10 := across 1 (by decide) 0
  have a11 := across 1 (by decide) 1
  have a12 := across 1 (by decide) 2
  have o00 := on 0 (by decide) 0
  have o01 := on 0 (by decide) 1
  have o10 := on 1 (by decide) 0
  have o11 := on 1 (by decide) 1
  clear across on
  unfold acts2 left ots blks
  rw [blk_two m ρ c (oblk c i)]
  unfold ots
  rcases cz_cases c with hz | hz | hz | hz <;>
    rw [hz] at a00 a01 a02 a10 a11 a12 o00 o01 o10 o11 <;>
    simp (config := { decide := true }) only [bigSepL_cons', bigSepL_none, post, hz, rv, sv, bv, fwd, jx, qs, if_true, if_false, sep_emp_eq, emp_sep_eq, own0, own1,
      forall_true_left,
      show (2 - 0 : Fin 3) = 2 from rfl, show (2 - 1 : Fin 3) = 1 from rfl, show (2 - 2 : Fin 3) = 0 from rfl, show (0 + 1 : Fin 3) = 1 from rfl, show (1 + 1 : Fin 3) = 2 from rfl]
      at a00 a01 a02 a10 a11 a12 o00 o01 o10 o11 ⊢ <;>
    simp only [a00, a01, a02, a10, a11, a12, o00, o01, o10, o11, blk_two m ρ c (rblk 0 c _ i), blk_two m ρ c (rblk 1 c _ i)] <;>
    generalize (blk c (rblk 0 c 0 i) fullShare.left (gat m ρ c) : sProp 𝕄) = l00 <;>
    generalize (blk c (rblk 0 c 1 i) fullShare.left (gat m ρ c) : sProp 𝕄) = l01 <;>
    generalize (blk c (rblk 0 c 2 i) fullShare.left (gat m ρ c) : sProp 𝕄) = l02 <;>
    generalize (blk c (rblk 1 c 0 i) fullShare.left (gat m ρ c) : sProp 𝕄) = l10 <;>
    generalize (blk c (rblk 1 c 1 i) fullShare.left (gat m ρ c) : sProp 𝕄) = l11 <;>
    generalize (blk c (rblk 1 c 2 i) fullShare.left (gat m ρ c) : sProp 𝕄) = l12 <;>
    generalize (blk c (rblk 0 c 0 i) fullShare.right (gat m ρ c) : sProp 𝕄) = r00 <;>
    generalize (blk c (rblk 0 c 1 i) fullShare.right (gat m ρ c) : sProp 𝕄) = r01 <;>
    generalize (blk c (rblk 0 c 2 i) fullShare.right (gat m ρ c) : sProp 𝕄) = r02 <;>
    generalize (blk c (rblk 1 c 0 i) fullShare.right (gat m ρ c) : sProp 𝕄) = r10 <;>
    generalize (blk c (rblk 1 c 1 i) fullShare.right (gat m ρ c) : sProp 𝕄) = r11 <;>
    generalize (blk c (rblk 1 c 2 i) fullShare.right (gat m ρ c) : sProp 𝕄) = r12 <;>
    ac_rfl

end Cert.GatherProof

end
-- ==== Proof.Blocks.lean ====
/-
# The result array cut into blocks, and the two ends of the run

The whole result array of a device is the half of its own chunk that it sends, the half that it keeps, and the blocks
that arrive. At the start the last part is handed to the neighbours; at the end everything is put together again.
-/
module

public import proofs.«01_k».proof.Proof.Piece

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## The result array cut into its blocks -/

section Cut

/-- A set of places of a result array held piece by piece. -/
theorem pts_pieces (c : Dev nD) {T : Type} (S : Finset T) (A : Finset S8192x512.Idx) (A' : T → Finset S8192x512.Idx) (f : OutC F)
    (hA : ∀ x, x ∈ A ↔ ∃ t ∈ S, x ∈ A' t) (h : ∀ t ∈ S, ∀ t' ∈ S, t ≠ t' → Disjoint (A' t) (A' t')) :
    ((((c : Thread nD τ).loc cc0_stg1_0) ↦[A]{fullShare} f) : sProp 𝕄) = bigSep S fun t => ((c : Thread nD τ).loc cc0_stg1_0) ↦[A' t]{fullShare} f := by
  have e : (A : Finset (Idx ((c : Thread nD τ).loc cc0_stg1_0))) = S.biUnion (fun t => (A' t : Finset (Idx ((c : Thread nD τ).loc cc0_stg1_0)))) :=
    Finset.ext fun x => (hA x).trans Finset.mem_biUnion.symm
  rw [e]
  exact pointsTo_biUnion S _ h
/-- A set of places held in two parts. -/
theorem pts_parts (c : Dev nD) (A B C : Finset S8192x512.Idx) (f : OutC F) (hA : ∀ x, x ∈ A ↔ x ∈ B ∨ x ∈ C) (h : Disjoint B C) :
    ((((c : Thread nD τ).loc cc0_stg1_0) ↦[A]{fullShare} f) : sProp 𝕄)
      = iprop((((c : Thread nD τ).loc cc0_stg1_0) ↦[B]{fullShare} f) ∗ ((c : Thread nD τ).loc cc0_stg1_0) ↦[C]{fullShare} f) := by
  have e : (A : Finset (Idx ((c : Thread nD τ).loc cc0_stg1_0))) = (B : Finset (Idx ((c : Thread nD τ).loc cc0_stg1_0))) ∪ (C : Finset (Idx ((c : Thread nD τ).loc cc0_stg1_0))) :=
    Finset.ext fun x => (hA x).trans Finset.mem_union.symm
  rw [e]
  exact BI.equiv_iff.mp ⟨(pointsTo_union h).1, (pointsTo_union h).2⟩

/-- Eight blocks in a row are the places of 1024 rows. -/
theorem rows_pieces {lo : ℕ} (b : Fin 8 → Fin 64) (hb : ∀ i, 128 * (b i).val = lo + 128 * i.val) :
    rset lo 1024 = Finset.univ.biUnion fun i => bset (b i) := by
  ext x
  simp only [Finset.mem_biUnion, Finset.mem_univ, true_and]
  constructor
  · intro h
    rw [mem_rset] at h
    refine ⟨⟨((x (0 : Fin 2)).val - lo) / 128, by omega⟩, ?_⟩
    unfold bset; rw [mem_rset, hb]; show lo + 128 * (((x (0 : Fin 2)).val - lo) / 128) ≤ _ ∧ _ < lo + 128 * (((x (0 : Fin 2)).val - lo) / 128) + 128
    omega
  · rintro ⟨i, h⟩
    unfold bset at h; rw [mem_rset, hb] at h; rw [mem_rset]
    have := i.isLt; omega

theorem own_rows (c : Dev nD) : rset (2048 * cz c + 1024 * cx c) 1024 = Finset.univ.biUnion fun i => bset (oblk c i) :=
  rows_pieces _ fun i => by simp only [oblk]; omega
theorem keep_rows (c : Dev nD) : rset (2048 * cz c + 1024 * (1 - cx c)) 1024 = Finset.univ.biUnion fun i => bset (qblk c i) :=
  rows_pieces _ fun i => by simp only [qblk]; omega

/-- The transfers that arrive at a device. -/
def arr (c : Dev nD) : Finset (Dir × Fin 3 × Fin 8) := Finset.univ.filter fun o => rv o.1 (cz c) o.2.1 = true

/-- The places of the blocks that arrive. -/
def arrSet (c : Dev nD) : Finset S8192x512.Idx := (arr c).biUnion fun o => bset (rblk o.1 c o.2.1 o.2.2)

theorem cut_univ (c : Dev nD) : (Finset.univ : Finset S8192x512.Idx)
    = rset (2048 * cz c + 1024 * cx c) 1024 ∪ (rset (2048 * cz c + 1024 * (1 - cx c)) 1024 ∪ arrSet c) := by
  ext x
  rw [own_rows, keep_rows]
  unfold arrSet arr
  simp only [Finset.mem_union, Finset.mem_biUnion, Finset.mem_univ, true_and, Finset.mem_filter, true_iff]
  rcases blocks_cover c (blkOf x) with ⟨i, h⟩ | ⟨i, h⟩ | ⟨o, ho, h⟩
  · exact Or.inl ⟨i, mem_bset.mpr h⟩
  · exact Or.inr (Or.inl ⟨i, mem_bset.mpr h⟩)
  · exact Or.inr (Or.inr ⟨o, ho, mem_bset.mpr h⟩)

theorem keep_arr (c : Dev nD) : Disjoint (rset (2048 * cz c + 1024 * (1 - cx c)) 1024) (arrSet c) := by
  rw [keep_rows]; unfold arrSet arr
  rw [Finset.disjoint_left]; intro x h h'
  simp only [Finset.mem_biUnion, Finset.mem_univ, true_and, Finset.mem_filter] at h h'
  obtain ⟨i, hi⟩ := h; obtain ⟨o, ho, hx⟩ := h'
  exact qblk_ne_rblk c i o ho ((mem_bset.mp hi).symm.trans (mem_bset.mp hx))
theorem own_rest (c : Dev nD) : Disjoint (rset (2048 * cz c + 1024 * cx c) 1024) (rset (2048 * cz c + 1024 * (1 - cx c)) 1024 ∪ arrSet c) := by
  rw [own_rows, keep_rows]; unfold arrSet arr
  rw [Finset.disjoint_left]; intro x h h'
  simp only [Finset.mem_union, Finset.mem_biUnion, Finset.mem_univ, true_and, Finset.mem_filter] at h h'
  obtain ⟨i, hi⟩ := h
  rcases h' with ⟨j, hj⟩ | ⟨o, ho, hx⟩
  · exact oblk_ne_qblk c i j ((mem_bset.mp hi).symm.trans (mem_bset.mp hj))
  · exact oblk_ne_rblk c i o ho ((mem_bset.mp hi).symm.trans (mem_bset.mp hx))

/-- The half of its own chunk that a device sends. -/
def own (c : Dev nD) (f : OutC F) : sProp 𝕄 := ((c : Thread nD τ).loc cc0_stg1_0) ↦[rset (2048 * cz c + 1024 * cx c) 1024]{fullShare} f
/-- The blocks that arrive. -/
def arrs (c : Dev nD) (f : OutC F) : sProp 𝕄 := bigSep Finset.univ fun o : Dir × Fin 3 × Fin 8 =>
  if rv o.1 (cz c) o.2.1 then blk c (rblk o.1 c o.2.1 o.2.2) fullShare f else iprop(emp)
/-- The whole result array. -/
def whole (c : Dev nD) (f : OutC F) : sProp 𝕄 := ((c : Thread nD τ).loc cc0_stg1_0) ↦{fullShare} f

theorem own_blocks (c : Dev nD) (f : OutC F) : (own c f : sProp 𝕄) = bigSep Finset.univ fun i => blk c (oblk c i) fullShare f := by
  unfold own blk
  exact pts_pieces c Finset.univ _ (fun i => bset (oblk c i)) f (fun x => by rw [own_rows]; exact Finset.mem_biUnion)
    fun i _ j _ h => bset_disj fun e => h (oblk_inj c e)

theorem arrs_eq (c : Dev nD) (f : OutC F) : (arrs c f : sProp 𝕄) = (((c : Thread nD τ).loc cc0_stg1_0) ↦[arrSet c]{fullShare} f) := by
  rw [pts_pieces c (arr c) (arrSet c) (fun o => bset (rblk o.1 c o.2.1 o.2.2)) f (fun x => Finset.mem_biUnion) fun o ho o' ho' h => bset_disj fun e => h
    (rblk_inj c o o' (Finset.mem_filter.mp ho).2 (Finset.mem_filter.mp ho').2 e)]
  unfold arr arrs blk
  rw [bigSep_filter]; rfl

/-- The whole array is its three parts. -/
theorem whole_cut (c : Dev nD) (f : OutC F) : (whole c f : sProp 𝕄) = iprop(own c f ∗ keep c f ∗ arrs c f) := by
  rw [arrs_eq]
  unfold whole own keep
  rw [← pts_parts c (rset (2048 * cz c + 1024 * (1 - cx c)) 1024 ∪ arrSet c) _ _ f (fun x => Finset.mem_union) (keep_arr c)]
  exact pts_parts c Finset.univ _ _ f (fun x => by rw [← Finset.mem_union, ← cut_univ]) (own_rest c)

end Cut

/-! ## What is handed over at the barrier -/

section Hand

theorem by_dir (Ψ : Dir → Fin 3 → Fin 8 → sProp 𝕄) :
    (bigSep Finset.univ fun o : Dir × Fin 3 × Fin 8 => Ψ o.1 o.2.1 o.2.2)
      = bigSep Finset.univ fun δ : Dir => bigSep Finset.univ fun p : Fin 8 × Fin 3 => Ψ δ p.2 p.1 := by
  rw [bigSep_univ_prod]
  exact bigSep_congr fun δ _ => bigSep_univ_equiv (Equiv.prodComm (Fin 8) (Fin 3)) fun p => Ψ δ p.1 p.2

theorem bigSep_dir (Φ : Dir → sProp 𝕄) : bigSep Finset.univ Φ = iprop(Φ 0 ∗ Φ 1 ∗ Φ 2) := by
  rw [bigSep_eq_bigSepL_of_eq [0, 1, 2] (by decide) (by decide) Φ, bigSepL_cons', bigSepL_cons', bigSepL_cons', bigSepL_none, sep_emp_eq]

/-- The blocks that are to arrive, handed to the devices that they come from. -/
theorem arrs_hand (c : Dev nD) (f : OutC F) : (arrs c f : sProp 𝕄) ⊢ bigSep Finset.univ fun δ : Dir => handover δ (src δ c) := by
  unfold arrs handover
  rw [← by_dir fun δ k i => land δ (src δ c) k i]
  refine bigSep_mono fun o _ => ?_
  unfold land
  rw [sv_src, nbr_src]
  by_cases h : rv o.1 (cz c) o.2.1 = true
  · rw [if_pos h, if_pos h]
    show blk c (rblk o.1 c o.2.1 o.2.2) fullShare f ⊢ iprop(∃ f : OutC F, blk c (rblk o.1 c o.2.1 o.2.2) fullShare f)
    iintro H; iexists f; iexact H
  · rw [if_neg h, if_neg h]; exact BI.Entails.refl _

/-- What the neighbours handed over, transfer by transfer. -/
theorem hand_land (c : Dev nD) : (bigSep (Finset.univ.filter fun δ : Dir => bv δ (cz c) = true) fun δ => handover δ c : sProp 𝕄)
    ⊢ bigSep Finset.univ fun o : Dir × Fin 3 × Fin 8 => land o.1 c o.2.1 o.2.2 := by
  rw [by_dir fun δ k i => land δ c k i, bigSep_filter]
  refine bigSep_mono fun δ _ => ?_
  by_cases h : bv δ (cz c) = true
  · rw [if_pos h]; unfold handover; exact BI.Entails.refl _
  · rw [if_neg h]
    refine (Entails.of_eq (bigSep_emp_const (Finset.univ : Finset (Fin 8 × Fin 3))).symm).trans (bigSep_mono fun p _ => ?_)
    unfold land
    rw [if_neg fun hs => h (bv_of_sv hs)]; exact BI.Entails.refl _

/-- The kits of the transfers that a device issues. -/
theorem kits (c : Dev nD) : (bigSep Finset.univ (kit c) : sProp 𝕄) ⊢ bigSepL L1 fun a => bigSepL (obs (cz c) a) (kit c) := by
  rw [← bigSepL_flat, ← bigSep_eq_bigSepL _ (obs_nodup ⟨cz c, cz_lt c⟩)]
  exact BI.bigSep_subset (Finset.subset_univ _)

/-- The needs of the acts of the first phase. -/
theorem needs_piece (i : Fin 8) : bigSepL (acts1 i) (need m ρ c)
    = (iprop(blk c (oblk c i) fullShare (gat m ρ c) ∗ bigSepL (ots i) fun o => waitR c o.1 o.2.1 o.2.2) : sProp 𝕄) := by
  have own0 := sblk_own 0 (by decide) c i
  have own1 := sblk_own 1 (by decide) c i
  rw [blk_two]
  unfold acts1 ots
  simp (config := { decide := true }) only [bigSepL_cons', bigSepL_none, need, qs, if_true, own0, own1]
  ac_rfl

theorem needs : bigSepL L1 (need m ρ c)
    = (iprop((xPts m ρ c ∗ ∃ f, keep c f) ∗ own c (gat m ρ c) ∗ bigSep Finset.univ fun o : Dir × Fin 3 × Fin 8 => waitR c o.1 o.2.1 o.2.2) : sProp 𝕄) := by
  rw [L1_pcs, bigSep_congr fun i _ => needs_piece m ρ c i, bigSep_sep', ← univ_ots, own_blocks]; rfl

end Hand

/-! ## The end -/

/-- Off the half that it kept, the array of a device is the gathered array. -/
theorem outC_own (i : S8192x512.Idx) (h : i ∈ rset (2048 * cz c + 1024 * cx c) 1024) : outC m ρ c i = gat m ρ c i := by
  rw [mem_rset] at h
  have := cx_lt c
  unfold outC; exact if_neg (by omega)
theorem outC_arr (i : S8192x512.Idx) (h : i ∈ arrSet c) : outC m ρ c i = gat m ρ c i := by
  unfold outC
  refine if_neg fun h' => Finset.disjoint_left.mp (keep_arr c) ?_ h
  rw [mem_rset]; omega

theorem blks_all : iprop((bigSep Finset.univ fun i => blks m ρ c i) ∗ keep c (outC m ρ c)) = (whole c (outC m ρ c) : sProp 𝕄) := by
  rw [whole_cut]
  have h1 : (bigSep Finset.univ fun i => blks m ρ c i) = (iprop(own c (gat m ρ c) ∗ arrs c (gat m ρ c)) : sProp 𝕄) := by
    unfold blks
    rw [bigSep_sep', own_blocks]
    unfold arrs
    rw [← univ_ots]
  have h2 : (own c (gat m ρ c) : sProp 𝕄) = own c (outC m ρ c) := pointsTo_congr fun i hi => (outC_own m ρ c i hi).symm
  have h3 : (arrs c (gat m ρ c) : sProp 𝕄) = arrs c (outC m ρ c) := by
    rw [arrs_eq, arrs_eq]; exact pointsTo_congr fun i hi => (outC_arr m ρ c i hi).symm
  rw [h1, h2, h3]; ac_rfl

end Cert.GatherProof

end
-- ==== Proof.Parts.lean ====
module

public import proofs.«01_k».proof.Proof.Steps2

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

variable {α β : Type} {Q : α → sProp (MT nD τ sig Unit (Elt F) ℕ UU ℕ)} {S : sProp (MT nD τ sig Unit (Elt F) ℕ UU ℕ)}

/-- A named part of the program, opened. -/
theorem wp_part {p p' : Prog (TpuEff nD τ sig (Elt F) Λ₀ .tc) β} (h : p = p') {f : β → Prog (TpuEff nD τ sig (Elt F) Λ₀ .tc) α}
    (hk : S ⊢ WP c p' fun v => WP c (f v) Q) : S ⊢ WP c (p >>= f) Q := by
  subst h; unfold WP; rw [wp_bind]; unfold WP at hk; exact hk
/-- A named part that only computes words: what it computes does not matter. -/
theorem wp_words {p : Prog (TpuEff nD τ sig (Elt F) Λ₀ .tc) β} (h : ∃ v, p = Pure.pure v) {f : β → Prog (TpuEff nD τ sig (Elt F) Λ₀ .tc) α}
    (hk : ∀ v, S ⊢ WP c (f v) Q) : S ⊢ WP c (p >>= f) Q := by
  obtain ⟨v, rfl⟩ := h; rw [pure_bind]; exact hk v
/-- The end of a part. -/
theorem wp_done {v : α} (hk : S ⊢ Q v) : S ⊢ WP c (Pure.pure v) Q := by
  unfold WP
  show _ ⊢ iprop(|={Set.univ}=> Q v)
  iintro H; imodintro; iapply hk; iexact H

attribute [local irreducible] WP

/-- The end of a part that is not the last: the rest of the program comes next. -/
theorem wp_then {v : β} {f : β → Prog (TpuEff nD τ sig (Elt F) Λ₀ .tc) α} (hk : S ⊢ WP c (f v) Q) : S ⊢ WP c (Pure.pure v) fun v => WP c (f v) Q :=
  wp_done c hk

set_option maxRecDepth 100000 in
set_option maxHeartbeats 40000000 in
/-- The second half of the program takes both phases from their start to the last four waits. -/
theorem run_rest {R R' : sProp (MT nD τ sig Unit (Elt F) ℕ UU ℕ)} {h0 : xM.IsWhole} {h1 : oM.IsWhole} {Q : PUnit → sProp (MT nD τ sig Unit (Elt F) ℕ UU ℕ)}
    {v2 v5 v8 v9 v10 v11 v12 v14 : BitVec 32} {v15 v16 : BitVec 1} {w1 w2 w3 : BitVec 32}
    (hbr : St m ρ K c R L1 89 ⊢ St m ρ K c R' L2 0) (hQ : St m ρ K c R' L2 68 ⊢ Q ⟨⟩) :
    St m ρ K c R L1 0 ⊢ WP c (k0_part122 xM h0 oM h1 cc0_scratch0 cc0_scratch1 cc0_scratch2 cc0_scratch3 cc0_scratch4 cc0_scratch5 c v2 v5 v8 v9 v10 v11 v12 v14 v15 v16 w1 w2 w3) Q := by
  rw [k0_part122_eq_skeleton]; unfold k0_part122_skel
  iterate 26 refine wp_words c ⟨_, rfl⟩ fun v => ?_
  refine wp_part c rfl ?_
  rw [k0_part87_eq_skeleton]; unfold k0_part87_skel
  iterate 7 refine step_snd m ρ K c rfl (by decide +kernel) (by clear hbr hQ; revert c; decide +kernel) ?_
  refine wp_then c ?_
  refine wp_part c rfl ?_
  rw [k0_part88_eq_skeleton]; unfold k0_part88_skel
  iterate 7 refine step_snd m ρ K c rfl (by decide +kernel) (by clear hbr hQ; revert c; decide +kernel) ?_
  refine wp_then c ?_
  refine wp_part c rfl ?_
  rw [k0_part89_eq_skeleton]; unfold k0_part89_skel
  iterate 2 refine step_snd m ρ K c rfl (by decide +kernel) (by clear hbr hQ; revert c; decide +kernel) ?_
  refine step_st2 m ρ K c rfl (by clear hbr hQ; revert c; decide +kernel) ?_
  refine step_rcv m ρ K c (by decide +kernel) (by decide +kernel) rfl (by decide +kernel) (by decide +kernel) (by clear hbr hQ; revert c; decide +kernel) ?_
  refine wp_then c ?_
  refine wp_part c rfl ?_
  rw [k0_part90_eq_skeleton]; unfold k0_part90_skel
  iterate 4 refine step_rcv m ρ K c (by decide +kernel) (by decide +kernel) rfl (by decide +kernel) (by decide +kernel) (by clear hbr hQ; revert c; decide +kernel) ?_
  refine wp_then c ?_
  refine wp_part c rfl ?_
  rw [k0_part91_eq_skeleton]; unfold k0_part91_skel
  iterate 4 refine step_rcv m ρ K c (by decide +kernel) (by decide +kernel) rfl (by decide +kernel) (by decide +kernel) (by clear hbr hQ; revert c; decide +kernel) ?_
  refine wp_then c ?_
  refine wp_part c rfl ?_
  rw [k0_part92_eq_skeleton]; unfold k0_part92_skel
  iterate 3 refine step_rcv m ρ K c (by decide +kernel) (by decide +kernel) rfl (by decide +kernel) (by decide +kernel) (by clear hbr hQ; revert c; decide +kernel) ?_
  refine wp_then c ?_
  refine wp_part c rfl ?_
  rw [k0_part93_eq_skeleton]; unfold k0_part93_skel
  iterate 4 refine step_rcv m ρ K c (by decide +kernel) (by decide +kernel) rfl (by decide +kernel) (by decide +kernel) (by clear hbr hQ; revert c; decide +kernel) ?_
  refine wp_then c ?_
  refine wp_part c rfl ?_
  rw [k0_part94_eq_skeleton]; unfold k0_part94_skel
  iterate 3 refine step_rcv m ρ K c (by decide +kernel) (by decide +kernel) rfl (by decide +kernel) (by decide +kernel) (by clear hbr hQ; revert c; decide +kernel) ?_
  refine wp_then c ?_
  refine wp_part c rfl ?_
  rw [k0_part95_eq_skeleton]; unfold k0_part95_skel
  iterate 4 refine step_rcv m ρ K c (by decide +kernel) (by decide +kernel) rfl (by decide +kernel) (by decide +kernel) (by clear hbr hQ; revert c; decide +kernel) ?_
  refine wp_then c ?_
  refine wp_part c rfl ?_
  rw [k0_part96_eq_skeleton]; unfold k0_part96_skel
  iterate 4 refine step_rcv m ρ K c (by decide +kernel) (by decide +kernel) rfl (by decide +kernel) (by decide +kernel) (by clear hbr hQ; revert c; decide +kernel) ?_
  refine wp_then c ?_
  refine wp_part c rfl ?_
  rw [k0_part97_eq_skeleton]; unfold k0_part97_skel
  iterate 3 refine step_rcv m ρ K c (by decide +kernel) (by decide +kernel) rfl (by decide +kernel) (by decide +kernel) (by clear hbr hQ; revert c; decide +kernel) ?_
  refine wp_then c ?_
  refine wp_part c rfl ?_
  rw [k0_part98_eq_skeleton]; unfold k0_part98_skel
  iterate 2 refine step_rcv m ρ K c (by decide +kernel) (by decide +kernel) rfl (by decide +kernel) (by decide +kernel) (by clear hbr hQ; revert c; decide +kernel) ?_
  iterate 2 refine step_rcv_last m ρ K c (by decide +kernel) rfl (by decide +kernel) (by clear hbr hQ; revert c; decide +kernel) ?_
  refine wp_then c ?_
  refine wp_part c rfl ?_
  rw [k0_part99_eq_skeleton]; unfold k0_part99_skel
  iterate 5 refine step_rcv_last m ρ K c (by decide +kernel) rfl (by decide +kernel) (by clear hbr hQ; revert c; decide +kernel) ?_
  refine wp_then c ?_
  refine wp_part c rfl ?_
  rw [k0_part100_eq_skeleton]; unfold k0_part100_skel
  iterate 5 refine step_rcv_last m ρ K c (by decide +kernel) rfl (by decide +kernel) (by clear hbr hQ; revert c; decide +kernel) ?_
  refine wp_then c ?_
  refine wp_part c rfl ?_
  rw [k0_part101_eq_skeleton]; unfold k0_part101_skel
  iterate 4 refine step_rcv_last m ρ K c (by decide +kernel) rfl (by decide +kernel) (by clear hbr hQ; revert c; decide +kernel) ?_
  refine wp_then c ?_
  refine wp_part c rfl ?_
  rw [k0_part102_eq_skeleton]; unfold k0_part102_skel
  iterate 3 refine step_xlw m ρ K c rfl (by decide +kernel) ?_
  refine wp_then c ?_
  refine wp_part c rfl ?_
  rw [k0_part103_eq_skeleton]; unfold k0_part103_skel
  iterate 3 refine step_xlw m ρ K c rfl (by decide +kernel) ?_
  refine wp_then c ?_
  refine wp_part c rfl ?_
  rw [k0_part104_eq_skeleton]; unfold k0_part104_skel
  iterate 3 refine step_xlw m ρ K c rfl (by decide +kernel) ?_
  refine wp_then c ?_
  refine wp_part c rfl ?_
  rw [k0_part105_eq_skeleton]; unfold k0_part105_skel
  iterate 3 refine step_xlw m ρ K c rfl (by decide +kernel) ?_
  refine wp_then c ?_
  refine wp_part c rfl ?_
  rw [k0_part106_eq_skeleton]; unfold k0_part106_skel
  iterate 3 refine step_xlw m ρ K c rfl (by decide +kernel) ?_
  refine wp_then c ?_
  refine wp_part c rfl ?_
  rw [k0_part107_eq_skeleton]; unfold k0_part107_skel
  iterate 3 refine step_xlw m ρ K c rfl (by decide +kernel) ?_
  refine wp_then c ?_
  refine wp_part c rfl ?_
  rw [k0_part108_eq_skeleton]; unfold k0_part108_skel
  iterate 2 refine step_xlw m ρ K c rfl (by decide +kernel) ?_
  refine wp_then c ?_
  refine wp_part c rfl ?_
  rw [k0_part109_eq_skeleton]; unfold k0_part109_skel
  iterate 3 refine step_xlw m ρ K c rfl (by decide +kernel) ?_
  refine wp_then c ?_
  refine wp_part c rfl ?_
  rw [k0_part110_eq_skeleton]; unfold k0_part110_skel
  refine step_xlw m ρ K c rfl (by decide +kernel) ?_
  refine hbr.trans ?_
  iterate 6 refine step_sw m ρ K c rfl (by decide +kernel) (by clear hbr hQ; revert c; decide +kernel) ?_
  refine wp_then c ?_
  refine wp_part c rfl ?_
  rw [k0_part111_eq_skeleton]; unfold k0_part111_skel
  iterate 8 refine step_sw m ρ K c rfl (by decide +kernel) (by clear hbr hQ; revert c; decide +kernel) ?_
  refine wp_then c ?_
  refine wp_part c rfl ?_
  rw [k0_part112_eq_skeleton]; unfold k0_part112_skel
  iterate 6 refine step_sw m ρ K c rfl (by decide +kernel) (by clear hbr hQ; revert c; decide +kernel) ?_
  refine wp_then c ?_
  refine wp_part c rfl ?_
  rw [k0_part113_eq_skeleton]; unfold k0_part113_skel
  iterate 7 refine step_sw m ρ K c rfl (by decide +kernel) (by clear hbr hQ; revert c; decide +kernel) ?_
  refine wp_then c ?_
  refine wp_part c rfl ?_
  rw [k0_part114_eq_skeleton]; unfold k0_part114_skel
  iterate 6 refine step_sw m ρ K c rfl (by decide +kernel) (by clear hbr hQ; revert c; decide +kernel) ?_
  refine wp_then c ?_
  refine wp_part c rfl ?_
  rw [k0_part115_eq_skeleton]; unfold k0_part115_skel
  iterate 7 refine step_sw m ρ K c rfl (by decide +kernel) (by clear hbr hQ; revert c; decide +kernel) ?_
  refine wp_then c ?_
  refine wp_part c rfl ?_
  rw [k0_part116_eq_skeleton]; unfold k0_part116_skel
  iterate 8 refine step_sw m ρ K c rfl (by decide +kernel) (by clear hbr hQ; revert c; decide +kernel) ?_
  refine wp_then c ?_
  refine wp_part c rfl ?_
  rw [k0_part117_eq_skeleton]; unfold k0_part117_skel
  iterate 5 refine step_swx m ρ K c rfl (by decide +kernel) ?_
  refine wp_then c ?_
  refine wp_part c rfl ?_
  rw [k0_part118_eq_skeleton]; unfold k0_part118_skel
  iterate 5 refine step_swx m ρ K c rfl (by decide +kernel) ?_
  refine wp_then c ?_
  refine wp_part c rfl ?_
  rw [k0_part119_eq_skeleton]; unfold k0_part119_skel
  iterate 5 refine step_swx m ρ K c rfl (by decide +kernel) ?_
  refine wp_then c ?_
  refine wp_part c rfl ?_
  rw [k0_part120_eq_skeleton]; unfold k0_part120_skel
  iterate 5 refine step_swx m ρ K c rfl (by decide +kernel) ?_
  refine wp_then c ?_
  exact wp_done c hQ

end Cert.GatherProof

end
-- ==== Proof.Front.lean ====
/-
# The two ends of a device's run

Before the first act a device signals its neighbours' barriers, handing over the blocks that they will write, copies the half
of its own chunk that it sends, and waits for its neighbours. After the last act everything is put together again.
-/
module

public import proofs.«01_k».proof.Proof.Blocks
public import proofs.«01_k».proof.Proof.Parts

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-! ## The start: signals, the copy of the own half, the barrier -/

/-- The state before the first act: the records, what is owed, the staged operand, and the rest. -/
def Fr (O : CellTallies nD τ sig Unit) (T : sProp 𝕄) : sProp 𝕄 :=
  iprop(recs m ρ K ∗ levAts L lv ∗ (∃ W, owes (c : Thread nD τ) O W) ∗ xPts m ρ c ∗ T)

/-- The barrier's semaphore. -/
abbrev bS : Sem sig := (SemArray.scalar (sig.barrier 0 rfl) : Sems sig S_).sem

theorem bv_src (δ : Dir) (c : Dev nD) : bv δ (cz (src δ c)) = bv (opp δ) (cz c) := by revert δ c; decide

section Rules

variable {α : Type} {Q : α → sProp (MT nD τ sig Unit (Elt F) ℕ UU ℕ)} {K' : Prog (TpuEff nD τ sig (Elt F) Λ₀ .tc) α} {T : sProp (MT nD τ sig Unit (Elt F) ℕ UU ℕ)} {O : CellTallies nD τ sig Unit}

/-- A signal to a neighbour's barrier hands over the blocks that the neighbour will write. -/
theorem step_sig {δ : Dir} (h : bv (opp δ) (cz c) = true) {n : Dev nD} (hn : n = src δ c)
    (hK : Fr m ρ K c O T ⊢ WP c K' Q) :
    Fr m ρ K c (tallyAt (barC (src δ c)) () 1 + O) iprop(dutyTok ER (barC (src δ c)) 0 δ ∗ handover δ (src δ c) ∗ T)
      ⊢ WP c (semSignalWord n bS 1#32 >>= fun _ => K') Q := by
  subst hn
  have hd : δ ∈ (Rd m ρ).duties (barC (src δ c)) 0 := by
    rw [duties_cell]; exact Finset.mem_filter.mpr ⟨Finset.mem_univ _, (bv_src δ c).trans h⟩
  show _ ⊢ WP c (.op (.semSignal (Dev.tc (src δ c) : Thread nD τ) bS ((1 : ℕ) : ℤ)) fun _ => K') Q
  unfold Fr WP at *
  iintro ⟨#HR, #HL, ⟨%W, HO⟩, Hx, Ht, Hh, HT⟩
  ihave #Hi := (recs_inv m ρ K (src δ c, none)) $$ HR
  ihave #Hr := (recs_reached m ρ K (src δ c, none)) $$ HR
  iapply (Rounds.wp_signal 𝒱₀ ER (Rd m ρ) (c : Thread nD τ) none (dst := (Dev.tc (src δ c) : Thread nD τ)) (sem := bS) (κ := K (src δ c, none))
    (r := 0) (d := δ) hd (amount_bar m ρ (src δ c) 0 δ) () O (add_comm _ _) (k := fun _ => K') (W := W)) $$ [HO Ht Hh]
  · isplitr; · iexact Hi
    isplitl [HO]; · iexact HO
    isplitl [Ht]; · iexact Ht
    isplitl [Hh]; · iapply (show handover δ (src δ c) ⊢ (Rd m ρ).payload ((Dev.tc (src δ c) : Thread nD τ), SemLoc.reg bS) 0 δ from Entails.of_eq (payload_cell m ρ (src δ c) none 0 δ).symm); iexact Hh
    iexact Hr
  iintro HO
  iapply hK
  isplitr; · iexact HR
  isplitr; · iexact HL
  isplitl [HO]; · iexists W; iexact HO
  isplitl [Hx]; · iexact Hx
  iexact HT

/-- The same under its condition: at an end of the axis there is no neighbour to signal. -/
theorem step_sig_if {δ : Dir} {C : BitVec 1} {_ : Decidable (C = 1#1)} {dv : ℕ} {hdv : C = 1#1 → dv < nD}
    (hsite : (C = 1#1 ↔ bv (opp δ) (cz c) = true) ∧ (bv (opp δ) (cz c) = true → dv = (src δ c).val))
    (hK : Fr m ρ K c O T ⊢ WP c K' Q) :
    Fr m ρ K c ((if bv (opp δ) (cz c) then tallyAt (barC (src δ c)) () 1 else 0) + O) iprop(dutyTok ER (barC (src δ c)) 0 δ ∗ handover δ (src δ c) ∗ T)
      ⊢ WP c (if h : C = 1#1 then semSignalWord (⟨dv, hdv h⟩ : Dev nD) bS 1#32 >>= fun _ => K' else K') Q := by
  by_cases h : bv (opp δ) (cz c) = true
  · rw [dif_pos (hsite.1.mpr h), if_pos h]
    exact step_sig m ρ K c h (Fin.ext (hsite.2 h)) hK
  · rw [dif_neg fun hC => h (hsite.1.mp hC), if_neg h, zero_add]
    refine (?_ : _ ⊢ _).trans hK
    unfold Fr
    iintro ⟨#HR, #HL, HO, Hx, -, -, HT⟩
    isplitr; · iexact HR
    isplitr; · iexact HL
    isplitl [HO]; · iexact HO
    isplitl [Hx]; · iexact Hx
    iexact HT

/-- Loading half of the staged operand. -/
theorem step_ld {xo : Fin 2 → ℕ} {inbx : ∀ a, xo a + S1024x512.size a ≤ S2048x512.size a} {hl : xM.view.LoadsAt (xhalf xo inbx).toLoadRect}
    {k' : _ → Prog (TpuEff nD τ sig (Elt F) Λ₀ .tc) α}
    (hK : Fr m ρ K c O T ⊢ WP c (k' ((xM.access (xhalf xo inbx)).read (Elt F) (xstg m ρ c))) Q) :
    Fr m ρ K c O T ⊢ WP c (Prog.lift (.load xM (xhalf xo inbx).toLoadRect hl) >>= k') Q := by
  show _ ⊢ WP c (.op _ k') Q
  unfold Fr xPts WP at *
  iintro ⟨#HR, #HL, HO, Hx, HT⟩
  iapply (wp_load_rect 𝒱₀ (c : Thread nD τ) none Set.univ (m := xM) (r := xhalf xo inbx) (Finset.subset_univ _)) $$ Hx
  iintro Hx
  iapply hK
  isplitr; · iexact HR
  isplitr; · iexact HL
  isplitl [HO]; · iexact HO
  isplitl [Hx]; · iexact Hx
  iexact HT

/-- Storing it, as loaded, into the half of the own chunk that the device sends. -/
theorem step_own {f : OutC F} {xo oo : Fin 2 → ℕ} {inbx : ∀ a, xo a + S1024x512.size a ≤ S2048x512.size a} {inbo : ∀ a, oo a + S1024x512.size a ≤ S8192x512.size a}
    (hsite : xo = ![1024 * cx c, 0] ∧ oo = ![2048 * cz c + 1024 * cx c, 0])
    {hl' : oM.view.LoadsAt (half oo inbo).toLoadRect} {hx : (oM.access (half oo inbo)).Stores Finset.univ}
    {hm : (Finset.univ : Finset (half oo inbo).shape.Idx) = Finset.univ ∨ ∀ a, (half oo inbo).stride a = 1}
    (hK : Fr m ρ K c O iprop(own c (gat m ρ c) ∗ T) ⊢ WP c K' Q) :
    Fr m ρ K c O iprop(own c f ∗ T) ⊢ WP c (Prog.lift (.load oM (half oo inbo).toLoadRect hl') >>= fun _ =>
      Prog.lift (.store oM (half oo inbo) (k0_pay1 ((xM.access (xhalf xo inbx)).read (Elt F) (xstg m ρ c))) Finset.univ hx hm) >>= fun _ => K') Q := by
  obtain ⟨hxo, hoo⟩ := hsite
  have hcz := cz_lt c
  have hcx := cx_lt c
  have hset := half_set hoo inbo
  show _ ⊢ WP c (.op _ fun _ => .op _ fun _ => K') Q
  unfold Fr own WP at *
  iintro ⟨#HR, #HL, HO, Hx, Hf, HT⟩
  iapply (wp_load_rect 𝒱₀ (c : Thread nD τ) none Set.univ (m := oM) (r := half oo inbo) hset.le) $$ Hf
  iintro Hf
  iapply (wp_store 𝒱₀ (c : Thread nD τ) none Set.univ (m := oM) (r := half oo inbo) (Mk := Finset.univ) hset.le) $$ Hf
  iintro Hf
  iapply hK
  isplitr; · iexact HR
  isplitr; · iexact HL
  isplitl [HO]; · iexact HO
  isplitl [Hx]; · iexact Hx
  isplitl [Hf]
  · iapply (Entails.of_eq (pointsTo_congr fun i hi => ?_)) $$ Hf
    rw [copied (lo := 2048 * cz c + 1024 * cx c) (by omega) (by rw [hxo]; congr 1; omega) hoo inbx inbo (xstg m ρ c) f i hi]
    rw [mem_rset] at hi
    unfold gat
    rw [show (i (0 : Fin 2)).val % 2048 / 1024 = cx c by omega, show (i (0 : Fin 2)).val / 2048 = cz c by omega, devAt_self]
  iexact HT

/-- Waiting for all neighbours at the barrier brings the blocks that the device will write. -/
theorem step_bar {n : ℕ} (hn : nbrs c = n) {l : List Act}
    (hK : Fr m ρ K c (owL c L1) iprop(semVal (barC c) 0 ∗ (bigSep (Finset.univ.filter fun δ : Dir => bv δ (cz c) = true) fun δ => handover δ c) ∗ T) ⊢ WP c K' Q) :
    Fr m ρ K c (owL c L1) iprop(atPos ER (barC c) 0 ∅ 0 ∗ cred (tallyAt (barC c) () (nbrs c)) ∗ T)
      ⊢ WP c (.op (.semWait bS ((n : ℕ) : ℤ)) fun _ => K') Q := by
  subst hn
  unfold Fr WP at *
  iintro ⟨#HR, #HL, ⟨%W, HO⟩, Hx, Hat, Hc, HT⟩
  ihave #Hi := (recs_inv m ρ K (c, none)) $$ HR
  iapply (Rounds.wp_wait_rest_token 𝒱₀ ER (Rd m ρ) (c : Thread nD τ) none (sm := csem none) (κ := K (c, none))
      (wpE_semWait_eq 𝒱₀ (c : Thread nD τ) none Set.univ) (Set.mem_univ _) () (O := owL c L1) (W := W) (R := 0) (m := 0) (T := ∅)
      (by rw [Nat.zero_add]; exact (expect_bar m ρ c).symm)) $$ [Hc HO Hat]
  · isplitr; · iexact Hi
    isplitl [Hc]; · iexact Hc
    isplitl [HO]; · iexact HO
    isplitr
    · iapply (mayWait_obL (F := F) c (csem none) 1 (L1.flatMap (obs (cz c))) (lv_bar c).le fun o _ => by unfold rlev; split <;> omega); iexact HL
    iexact Hat
  iintro ⟨HO, Hat, -, Hpay⟩
  ihave Hp := (Entails.of_eq (rest_bar m ρ c)) $$ Hpay
  imod (cell_close ER (Rd m ρ) (Set.mem_univ (K (c, none))) (fun h => h) (R := 1) (duties_later m ρ (barC c))) $$ [Hat] with Hz
  · isplitr; · iexact Hi
    iexact Hat
  iapply hK
  isplitr; · iexact HR
  isplitr; · iexact HL
  isplitl [HO]; · iexists _; iexact HO
  isplitl [Hx]; · iexact Hx
  isplitl [Hz]; · iexact Hz
  isplitl [Hp]; · iexact Hp
  iexact HT

/-- The two guarded waits: a device between two others waits for three signals, a device at an end for two. -/
theorem step_bar_if {C C' : BitVec 1} {_ : Decidable (C = 1#1)} {_ : Decidable (C' = 1#1)}
    (hsite : (C = 1#1 ∧ ¬ C' = 1#1 ∧ nbrs c = 3) ∨ (¬ C = 1#1 ∧ C' = 1#1 ∧ nbrs c = 2))
    (hK : Fr m ρ K c (owL c L1) iprop(semVal (barC c) 0 ∗ (bigSep (Finset.univ.filter fun δ : Dir => bv δ (cz c) = true) fun δ => handover δ c) ∗ T) ⊢ WP c K' Q) :
    Fr m ρ K c (owL c L1) iprop(atPos ER (barC c) 0 ∅ 0 ∗ cred (tallyAt (barC c) () (nbrs c)) ∗ T)
      ⊢ WP c (if h : C = 1#1 then semWaitWord bS 3#32 >>= fun _ => (if h' : C' = 1#1 then semWaitWord bS 2#32 >>= fun _ => K' else K')
          else (if h' : C' = 1#1 then semWaitWord bS 2#32 >>= fun _ => K' else K')) Q := by
  rcases hsite with ⟨h, h', hn⟩ | ⟨h, h', hn⟩
  · rw [dif_pos h, dif_neg h']
    show _ ⊢ WP c (.op (.semWait bS ((3 : ℕ) : ℤ)) fun _ => K') Q
    exact step_bar m ρ K c hn (l := []) hK
  · rw [dif_neg h, dif_pos h']
    show _ ⊢ WP c (.op (.semWait bS ((2 : ℕ) : ℤ)) fun _ => K') Q
    exact step_bar m ρ K c hn (l := []) hK

end Rules

attribute [local irreducible] WP

/-! ## What a device starts with -/

/-- The positions and tokens of a device. -/
def lin : sProp 𝕄 := iprop(atPos ER (barC c) 0 ∅ 0
  ∗ (bigSep Finset.univ fun o : Dir × Fin 3 × Fin 8 => atPos ER (sC c o.1 o.2.1 o.2.2) 0 ∅ 0)
  ∗ (bigSep Finset.univ fun o : Dir × Fin 3 × Fin 8 => atPos ER (rC c o.1 o.2.1 o.2.2) 0 ∅ 0)
  ∗ (bigSep Finset.univ fun δ : Dir => dutyTok ER (barC (src δ c)) 0 δ)
  ∗ (bigSep Finset.univ fun o : Dir × Fin 3 × Fin 8 => dutyTok ER (sC c o.1 o.2.1 o.2.2) 0 (0 : Dir))
  ∗ (bigSep Finset.univ fun o : Dir × Fin 3 × Fin 8 => dutyTok ER (rC (nbr o.1 c) o.1 o.2.1 o.2.2) 0 (0 : Dir)))

/-- The credits of the waits of a device for its neighbours. -/
def crd : sProp 𝕄 := iprop(cred (tallyAt (barC c) () (nbrs c))
  ∗ bigSep Finset.univ fun o : Dir × Fin 3 × Fin 8 => if rv o.1 (cz c) o.2.1 then cred (tallyAt (rC c o.1 o.2.1 o.2.2) () N) else iprop(emp))

/-- What the barrier's signals and wait do not touch. -/
def aside (f : OutC F) : sProp 𝕄 := iprop(keep c f
  ∗ (bigSep Finset.univ fun o : Dir × Fin 3 × Fin 8 => atPos ER (sC c o.1 o.2.1 o.2.2) 0 ∅ 0)
  ∗ (bigSep Finset.univ fun o : Dir × Fin 3 × Fin 8 => atPos ER (rC c o.1 o.2.1 o.2.2) 0 ∅ 0)
  ∗ (bigSep Finset.univ fun o : Dir × Fin 3 × Fin 8 => dutyTok ER (sC c o.1 o.2.1 o.2.2) 0 (0 : Dir))
  ∗ (bigSep Finset.univ fun o : Dir × Fin 3 × Fin 8 => dutyTok ER (rC (nbr o.1 c) o.1 o.2.1 o.2.2) 0 (0 : Dir))
  ∗ bigSep Finset.univ fun o : Dir × Fin 3 × Fin 8 => if rv o.1 (cz c) o.2.1 then cred (tallyAt (rC c o.1 o.2.1 o.2.2) () N) else iprop(emp))

/-- The start, in the order in which the program uses it. -/
theorem begin_eq (f : OutC F) : iprop(whole c f ∗ lin c ∗ crd c)
    ⊢ (iprop(dutyTok ER (barC (src 2 c)) 0 2 ∗ handover 2 (src 2 c) ∗ dutyTok ER (barC (src 1 c)) 0 1 ∗ handover 1 (src 1 c)
      ∗ dutyTok ER (barC (src 0 c)) 0 0 ∗ handover 0 (src 0 c) ∗ own c f ∗ atPos ER (barC c) 0 ∅ 0 ∗ cred (tallyAt (barC c) () (nbrs c)) ∗ aside c f) : sProp 𝕄) := by
  have hh := arrs_hand (F := F) c f
  rw [bigSep_dir] at hh
  unfold lin crd aside
  rw [whole_cut, bigSep_dir]
  iintro ⟨⟨Hown, Hkeep, Harr⟩, ⟨Hb, HaS, HaR, ⟨Ht0, Ht1, Ht2⟩, HtS, HtR⟩, Hcb, Hcr⟩
  ihave Hh := hh $$ Harr
  icases Hh with ⟨Hh0, Hh1, Hh2⟩
  iframe

/-- What stays through the first phase. -/
def R1 : sProp 𝕄 := iprop((bigSep Finset.univ fun o : Dir × Fin 3 × Fin 8 => atPos ER (sC c o.1 o.2.1 o.2.2) 0 ∅ 0) ∗ semVal (barC c) 0)
/-- What stays through the second phase. -/
def R2 : sProp 𝕄 := iprop((xPts m ρ c ∗ keep c (outC m ρ c)) ∗ (bigSep Finset.univ fun i => left m ρ c i) ∗ semVal (barC c) 0)

/-- After the barrier everything for the first phase is there. -/
theorem ready (f : OutC F) : Fr m ρ K c (owL c L1) iprop(semVal (barC c) 0
      ∗ (bigSep (Finset.univ.filter fun δ : Dir => bv δ (cz c) = true) fun δ => handover δ c) ∗ own c (gat m ρ c) ∗ aside c f)
    ⊢ St m ρ K c (R1 c) L1 0 := by
  have hp : bigSepL L1 (pre m ρ c) = (iprop((bigSepL L1 fun a => bigSepL (obs (cz c) a) (kit c)) ∗ bigSepL L1 (need m ρ c)) : sProp 𝕄) :=
    bigSepL_both L1 (fun a => bigSepL (obs (cz c) a) (kit c)) (need m ρ c)
  have hk : (bigSep Finset.univ (kit c) : sProp 𝕄) = iprop((bigSep Finset.univ fun o : Dir × Fin 3 × Fin 8 => land o.1 c o.2.1 o.2.2)
      ∗ (bigSep Finset.univ fun o : Dir × Fin 3 × Fin 8 => dutyTok ER (sC c o.1 o.2.1 o.2.2) 0 (0 : Dir))
      ∗ bigSep Finset.univ fun o : Dir × Fin 3 × Fin 8 => dutyTok ER (rC (nbr o.1 c) o.1 o.2.1 o.2.2) 0 (0 : Dir)) := by
    unfold kit; rw [bigSep_sep', bigSep_sep']
  have hw : (bigSep Finset.univ fun o : Dir × Fin 3 × Fin 8 => (waitR c o.1 o.2.1 o.2.2 : sProp 𝕄)) = iprop((bigSep Finset.univ fun o : Dir × Fin 3 × Fin 8 => atPos ER (rC c o.1 o.2.1 o.2.2) 0 ∅ 0)
      ∗ bigSep Finset.univ fun o : Dir × Fin 3 × Fin 8 => if rv o.1 (cz c) o.2.1 then cred (tallyAt (rC c o.1 o.2.1 o.2.2) () N) else iprop(emp)) := by
    unfold waitR; rw [bigSep_sep']
  have hkits := kits (F := F) c
  rw [hk] at hkits
  unfold Fr St aside R1
  rw [List.drop_zero, List.take_zero, hp, needs, hw, bigSepL_none]
  iintro ⟨#HR, #HL, HO, Hx, Hz, Hh, Hown, Hkeep, HaS, HaR, HtS, HtR, Hcr⟩
  ihave Hl := (hand_land (F := F) c) $$ Hh
  ihave Hk := hkits $$ [Hl HtS HtR]
  · isplitl [Hl]; · iexact Hl
    isplitl [HtS]; · iexact HtS
    iexact HtR
  isplitr; · iexact HR
  isplitr; · iexact HL
  isplitl [HO]; · iexact HO
  isplitl [Hk Hx Hkeep Hown HaR Hcr]
  · isplitl [Hk]; · iexact Hk
    isplitl [Hx Hkeep]
    · isplitl [Hx]; · iexact Hx
      iexists f; iexact Hkeep
    isplitl [Hown]; · iexact Hown
    isplitl [HaR]; · iexact HaR
    iexact Hcr
  isplitr; · iempintro
  isplitl [HaS]; · iexact HaS
  iexact Hz

/-- Between the phases. -/
theorem bridge : St m ρ K c (R1 c) L1 89 ⊢ St m ρ K c (R2 m ρ c) L2 0 := by
  have hb : iprop((bigSep Finset.univ fun i => bigSepL (acts1 i) (post m ρ c))
        ∗ bigSep Finset.univ fun o : Dir × Fin 3 × Fin 8 => atPos ER (sC c o.1 o.2.1 o.2.2) 0 ∅ 0)
      ⊢ (iprop((bigSep Finset.univ fun i => bigSepL (acts2 i) (pre m ρ c)) ∗ bigSep Finset.univ fun i => left m ρ c i) : sProp 𝕄) := by
    rw [univ_ots, ← bigSep_sep', ← bigSep_sep']
    exact bigSep_mono fun i _ => bridge_piece m ρ c i
  unfold St R1 R2
  rw [show L1.drop 89 = [] from rfl, show L1.take 89 = L1 from rfl, List.drop_zero, List.take_zero, bigSepL_none, bigSepL_none, L1_pcs, L2_pcs,
    show post m ρ c .st2 = iprop(xPts m ρ c ∗ keep c (outC m ρ c)) from rfl, show owL c L2 = owL c [] from owL_L2 c 0]
  iintro ⟨#HR, #HL, HO, -, ⟨Hx, Hp⟩, Ha, Hz⟩
  ihave H := hb $$ [Hp Ha]
  · isplitl [Hp]; · iexact Hp
    iexact Ha
  icases H with ⟨Hp, Hl⟩
  isplitr; · iexact HR
  isplitr; · iexact HL
  isplitl [HO]; · iexact HO
  isplitl [Hp]; · iexact Hp
  isplitr; · iempintro
  isplitl [Hx]; · iexact Hx
  isplitl [Hl]; · iexact Hl
  iexact Hz

/-- What a device ends with: nothing owed, the operand unchanged, the result array whole, every semaphore at zero. -/
def fin : sProp 𝕄 := iprop((∃ W, owes (c : Thread nD τ) 0 W) ∗ xPts m ρ c ∗ whole c (outC m ρ c)
  ∗ (bigSep Finset.univ fun o : Dir × Fin 3 × Fin 8 => semVal (sC c o.1 o.2.1 o.2.2) 0)
  ∗ (bigSep Finset.univ fun o : Dir × Fin 3 × Fin 8 => semVal (rC c o.1 o.2.1 o.2.2) 0) ∗ semVal (barC c) 0)

theorem finish : St m ρ K c (R2 m ρ c) L2 72 ⊢ fin m ρ c := by
  have he : iprop((bigSep Finset.univ fun i => bigSepL (acts2 i) (post m ρ c)) ∗ bigSep Finset.univ fun i => left m ρ c i)
      ⊢ (iprop((bigSep Finset.univ fun o : Dir × Fin 3 × Fin 8 => semVal (sC c o.1 o.2.1 o.2.2) 0)
        ∗ (bigSep Finset.univ fun o : Dir × Fin 3 × Fin 8 => semVal (rC c o.1 o.2.1 o.2.2) 0) ∗ bigSep Finset.univ fun i => blks m ρ c i) : sProp 𝕄) := by
    rw [univ_ots, univ_ots, ← bigSep_sep', ← bigSep_sep', ← bigSep_sep']
    exact bigSep_mono fun i _ => end_piece m ρ c i
  unfold St R2 fin
  rw [← blks_all, show L2.drop 72 = [] from rfl, show L2.take 72 = L2 from rfl, bigSepL_none, L2_pcs, show owL c [] = 0 from rfl]
  iintro ⟨-, -, HO, -, Hp, ⟨Hx, Hk⟩, Hl, Hz⟩
  ihave H := he $$ [Hp Hl]
  · isplitl [Hp]; · iexact Hp
    iexact Hl
  icases H with ⟨Hs, Hr, Hb⟩
  isplitl [HO]; · iexact HO
  isplitl [Hx]; · iexact Hx
  isplitl [Hb Hk]
  · isplitl [Hb]; · iexact Hb
    iexact Hk
  isplitl [Hs]; · iexact Hs
  isplitl [Hr]; · iexact Hr
  iexact Hz

end Cert.GatherProof

end
-- ==== Proof.Body.lean ====
/-
# The whole run of a device
-/
module

public import proofs.«01_k».proof.Proof.Front

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

attribute [local irreducible] WP

/-- Reading the device's own number. -/
theorem wp_dev {α : Type} {S : sProp (MT nD τ sig Unit (Elt F) ℕ UU ℕ)} {Q : α → sProp (MT nD τ sig Unit (Elt F) ℕ UU ℕ)} {k' : Dev nD → Prog (TpuEff nD τ sig (Elt F) Λ₀ .tc) α}
    (hk : S ⊢ WP c (k' c) Q) : S ⊢ WP c (Prog.lift .deviceId >>= k') Q := by
  show _ ⊢ WP c (.op .deviceId k') Q
  unfold WP at *
  rw [wp_deviceId]; exact hk

theorem Fr_mono {O : CellTallies nD τ sig Unit} {T T' : sProp (MT nD τ sig Unit (Elt F) ℕ UU ℕ)} (h : T ⊢ T') : Fr m ρ K c O T ⊢ Fr m ρ K c O T' :=
  sep_mono_right (sep_mono_right (sep_mono_right (sep_mono_right h)))

theorem bar_first {A B C D : sProp (MT nD τ sig Unit (Elt F) ℕ UU ℕ)} : iprop(A ∗ B ∗ C ∗ D) ⊢ iprop(B ∗ C ∗ A ∗ D) := by
  iintro ⟨HA, HB, HC, HD⟩
  isplitl [HB]; · iexact HB
  isplitl [HC]; · iexact HC
  isplitl [HA]; · iexact HA
  iexact HD

theorem owed_order : O₀ c = tallyAt (barC (src 2 c)) () 1 + ((if bv (opp 1) (cz c) then tallyAt (barC (src 1 c)) () 1 else 0)
    + ((if bv (opp 0) (cz c) then tallyAt (barC (src 0 c)) () 1 else 0) + owL c L1)) := by
  unfold O₀ owB
  rw [add_assoc, add_assoc]; rfl

/-- The word saying that a device is inside its line, with a neighbour on both sides. -/
abbrev midw : BitVec 1 := Scalar.andi (Scalar.cmpi .sgt (Scalar.remsi (Scalar.divsi (Dev.word c) 1#32) 4#32) 0#32)
  (Scalar.cmpi .slt (Scalar.remsi (Scalar.divsi (Dev.word c) 1#32) 4#32) 3#32)

/-- A device inside its line waits for three signals, one at an end for two. -/
theorem midw_site : (Scalar.cmpi .ne (Scalar.extui (midw c) : BitVec 32) 0#32 = 1#1
      ∧ ¬ Scalar.cmpi .ne (Scalar.extui (Scalar.xori (midw c) 1#1) : BitVec 32) 0#32 = 1#1 ∧ nbrs c = 3)
    ∨ (¬ Scalar.cmpi .ne (Scalar.extui (midw c) : BitVec 32) 0#32 = 1#1
      ∧ Scalar.cmpi .ne (Scalar.extui (Scalar.xori (midw c) 1#1) : BitVec 32) 0#32 = 1#1 ∧ nbrs c = 2) := by
  revert c; decide +kernel

set_option maxRecDepth 100000 in
set_option maxHeartbeats 40000000 in
/-- The whole run of a device, from what it starts with to what it ends with. -/
theorem run_body {h0 : xM.IsWhole} {h1 : oM.IsWhole} {f : OutC F} {Q : PUnit → sProp (MT nD τ sig Unit (Elt F) ℕ UU ℕ)} (hQ : fin m ρ c ⊢ Q ⟨⟩) :
    Fr m ρ K c (O₀ c) iprop(whole c f ∗ lin c ∗ crd c)
      ⊢ WP c (cc0_body xM h0 oM h1 cc0_scratch0 cc0_scratch1 cc0_scratch2 cc0_scratch3 cc0_scratch4 cc0_scratch5) Q := by
  refine (Fr_mono m ρ K c (begin_eq c f)).trans ?_
  rw [owed_order, cc0_body_eq_skeleton]; unfold cc0_body_skel
  refine wp_part c rfl ?_
  rw [k0_part121_eq_skeleton]; unfold k0_part121_skel
  refine wp_part c rfl ?_
  rw [k0_part1_eq_skeleton]; unfold k0_part1_skel
  refine wp_dev c ?_
  refine step_sig m ρ K c (δ := 2) rfl (Fin.ext (by clear hQ; revert c; decide +kernel)) ?_
  refine step_sig_if m ρ K c (δ := 1) (by clear hQ; revert c; decide +kernel) ?_
  refine step_sig_if m ρ K c (δ := 0) (by clear hQ; revert c; decide +kernel) ?_
  refine step_ld m ρ K c ?_
  refine wp_then c ?_
  refine wp_part c rfl ?_
  rw [k0_part2_eq_skeleton]; unfold k0_part2_skel
  refine step_own m ρ K c (by clear hQ; revert c; decide +kernel) ?_
  refine (Fr_mono m ρ K c bar_first).trans ?_
  refine step_bar_if m ρ K c (C := Scalar.cmpi .ne (Scalar.extui (midw c) : BitVec 32) 0#32)
    (C' := Scalar.cmpi .ne (Scalar.extui (Scalar.xori (midw c) 1#1) : BitVec 32) 0#32) (midw_site c) ?_
  refine (ready m ρ K c f).trans ?_
  refine wp_then c ?_
  iterate 58 refine wp_words c ⟨_, rfl⟩ fun _ => ?_
  refine wp_then c ?_
  refine wp_part c rfl ?_
  refine run_rest m ρ K c (bridge m ρ K c) ?_
  iterate 4 refine step_swx m ρ K c rfl (by decide +kernel) ?_
  exact wp_done c ((finish m ρ K c).trans hQ)

/-! ## The pipeline's data and its obligation -/

theorem one_point : cfg0.N = 1 := by decide
/-- The only point of the launch. -/
def pt : Fin cfg0.N := ⟨0, by rw [one_point]; decide⟩
theorem all_pt (t : Fin cfg0.N) : t = pt := by
  obtain ⟨t, ht⟩ := t; have := one_point; exact Fin.ext (by simp only [pt]; omega)

/-- What a device starts with. -/
def start : sProp 𝕄 := iprop((∃ K, recs m ρ K ∗ lin c) ∗ crd c ∗ levAts L lv)
/-- The counters that a device ends with. -/
def ends : sProp 𝕄 := iprop((bigSep Finset.univ fun o : Dir × Fin 3 × Fin 8 => semVal (sC c o.1 o.2.1 o.2.2) 0)
  ∗ (bigSep Finset.univ fun o : Dir × Fin 3 × Fin 8 => semVal (rC c o.1 o.2.1 o.2.2) 0) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => start m ρ c
    | ⟨_ + 1, _⟩ => ends c
  q _ := fullShare
  owed t := match t with
    | ⟨0, _⟩ => O₀ c
    | ⟨_ + 1, _⟩ => 0

theorem owns_buf (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer of a device with contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetched (t : Fin cfg0.N) : (cfg0.win (0 : Fin 2)).fetch t = true := by rw [all_pt t]; rfl
theorem before_x (d) : (dats m ρ 0 c).before (0 : Fin 2) pt d = xstg m ρ c := by unfold Dat.before; rw [if_pos (fetched pt)]; rfl

def bodyPre : sProp 𝕄 :=
  iprop(start m ρ c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))
def bodyPost : sProp 𝕄 :=
  iprop(ends c ∗ (dats m ρ 0 c).owesAt () pt.succ ∗ stg c cc0_stg0_0 (xstg m ρ c) ∗ stg c cc0_stg1_0 (outC m ρ c))

theorem fin_post : fin m ρ c ⊢ bodyPost m ρ c := by
  unfold fin bodyPost ends Dat.owesAt Pipeline.owesWithin xPts whole
  rw [show (dats m ρ 0 c).owed pt.succ = 0 from rfl]
  iintro ⟨⟨%W, HO⟩, Hx, Ho, Hs, Hr, Hz⟩
  isplitl [Hs Hr Hz]
  · isplitl [Hs]; · iexact Hs
    isplitl [Hr]; · iexact Hr
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_runs {h0 : xM.IsWhole} {h1 : oM.IsWhole} : bodyPre m ρ c
    ⊢ WP c (cc0_body xM h0 oM h1 cc0_scratch0 cc0_scratch1 cc0_scratch2 cc0_scratch3 cc0_scratch4 cc0_scratch5) (fun _ => bodyPost m ρ c) := by
  unfold bodyPre start Dat.owesAt Pipeline.owesWithin
  rw [show (dats m ρ 0 c).owed pt.castSucc = O₀ c from rfl]
  iintro ⟨⟨⟨%K, #HR, Hlin⟩, Hcrd, #HL⟩, ⟨%W, %hW, HO⟩, ⟨%d0, %g0, %hg0, Hx⟩, ⟨%d1, %g1, %hg1, Hout⟩⟩
  rw [before_x] at hg0
  subst hg0
  iapply (run_body m ρ K c (f := g1) (fin_post m ρ c))
  unfold Fr xPts whole
  isplitr; · iexact HR
  isplitr; · iexact HL
  isplitl [HO]; · iexists W; iexact HO
  isplitl [Hx]; · iexact Hx
  isplitl [Hout]; · iexact Hout
  isplitl [Hlin]; · iexact Hlin
  iexact Hcrd

set_option maxRecDepth 8000 in
/-- The library's obligation for the body on a device. -/
theorem body_obligation : BodyObligation (dats (F := F) m ρ 0 c) (defs₀ (F := F)) 𝒱₀ () Set.univ := fun t => by
  rw [all_pt t, bigSep_W0, bigSep_W0]
  simp only [owns_buf]
  show bodyPre m ρ c ⊢ wp frame (wpE (defs₀ (F := F)) 𝒱₀ c none) Set.univ
    (cc0_body xM (Memref.isWhole_whole _) oM (Memref.isWhole_whole _) cc0_scratch0 cc0_scratch1 cc0_scratch2 cc0_scratch3 cc0_scratch4 cc0_scratch5)
    (fun _ => bodyPost m ρ c)
  have h := body_runs m ρ c (h0 := Memref.isWhole_whole _) (h1 := Memref.isWhole_whole _)
  unfold WP at h
  exact h

end Cert.GatherProof

end
-- ==== Proof.Deal.lean ====
/-
# The cells and the tokens

The cells of every device are allocated at once, and the tokens of the duties go to the devices that pay them.
-/
module

public import proofs.«01_k».proof.Proof.Body

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev Tr : Type := Dir × Fin 3 × Fin 8

/-- The kernel's own semaphores. -/
abbrev osem (p : Bool × Dir × Fin 3 × Fin 8) : SemLoc sig := csem (some p)

theorem own_scoped : ∀ p, (osem p).isScoped .tc = true := by decide +kernel
theorem own_disj : ∀ p w s, osem p ≠ .dma ((spec0 w).sem s) := by decide +kernel
theorem own_facts : Pipeline.OwnSemFacts cfg0.spec osem := ⟨own_scoped, fun a b h => Option.some.inj (csem_inj h), own_disj⟩

theorem kcell_inj : Function.Injective (kcell : Dev nD × CI → GSem nD τ sig) := by
  rintro ⟨c, a⟩ ⟨d, b⟩ h
  have h1 : c = d := congrArg (fun g : GSem nD τ sig => g.1.1) h
  have h2 : a = b := csem_inj (congrArg Prod.snd h)
  rw [h1, h2]

/-- All the cells. -/
def allCells : Finset (GSem nD τ sig) := Finset.univ.map ⟨kcell, kcell_inj⟩

/-- The duties of the cells of a device that tokens are made for. -/
abbrev DI : Type := Dir ⊕ (Bool × Tr)
abbrev tokOf (ck : Dev nD × DI) : GSem nD τ sig × ℕ × Dir := match ck.2 with
  | .inl δ => (barC ck.1, 0, δ)
  | .inr p => (kcell (ck.1, some p), 0, 0)
theorem tokOf_inj : Function.Injective tokOf := by
  rintro ⟨c, a⟩ ⟨d, b⟩ h
  rcases a with a | a <;> rcases b with b | b <;> have h1 := kcell_inj (congrArg Prod.fst h) <;> have h2 := congrArg (fun x => x.2.2) h <;> simp_all
/-- All the tokens. -/
def allToks : Finset (GSem nD τ sig × ℕ × Dir) := Finset.univ.map ⟨tokOf, tokOf_inj⟩

def u₀ : UU := (initOf (Pipeline.cells cfgs cellOf_inj) (Pipeline.launchToks cfgs cellOf_inj), initOf allCells allToks)

/-- A conjunction over the cells of a device, by kinds. -/
theorem bigSep_CI (Φ : CI → sProp 𝕄) : bigSep Finset.univ Φ = iprop(Φ none
    ∗ (bigSep Finset.univ fun o : Tr => Φ (some (true, o))) ∗ bigSep Finset.univ fun o : Tr => Φ (some (false, o))) := by
  rw [bigSep_univ_equiv (Equiv.optionEquivSumPUnit.{0} _).symm Φ, BI.bigSep_univ_sum, BI.bigSep_univ_of_subsingleton PUnit.unit, bigSep_univ_prod,
    bigSep_univ_eq_bigSepL [true, false] (by decide) (by decide)]
  exact (BI.equiv_iff.mp ⟨BI.sep_comm, BI.sep_comm⟩).trans rfl

/-- The tokens of a device's own cells, -/
def toks (c : Dev nD) : sProp 𝕄 := iprop((bigSep Finset.univ fun δ : Dir => dutyTok ER (barC c) 0 δ)
  ∗ (bigSep Finset.univ fun o : Tr => dutyTok ER (sC c o.1 o.2.1 o.2.2) 0 (0 : Dir))
  ∗ bigSep Finset.univ fun o : Tr => dutyTok ER (rC c o.1 o.2.1 o.2.2) 0 (0 : Dir))
/-- and the tokens of the duties that it pays. -/
def pays (c : Dev nD) : sProp 𝕄 := iprop((bigSep Finset.univ fun δ : Dir => dutyTok ER (barC (src δ c)) 0 δ)
  ∗ (bigSep Finset.univ fun o : Tr => dutyTok ER (sC c o.1 o.2.1 o.2.2) 0 (0 : Dir))
  ∗ bigSep Finset.univ fun o : Tr => dutyTok ER (rC (nbr o.1 c) o.1 o.2.1 o.2.2) 0 (0 : Dir))

/-- What a device gets of the ghost state, -/
def G (c : Dev nD) : sProp 𝕄 := iprop((bigSep Finset.univ fun k : CI => roundState ER (Rd m ρ) (kcell (c, k)) 0)
  ∗ (bigSep Finset.univ fun k : CI => iprop(atPos ER (kcell (c, k)) 0 ∅ 0 ∗ reached ER (kcell (c, k)) 0)) ∗ toks c)
/-- and what all devices together make of it. -/
def G' (c : Dev nD) : sProp 𝕄 := iprop(∃ K, recs m ρ K ∗ lin c)

theorem over_cells (Φ : GSem nD τ sig → sProp 𝕄) : bigSep allCells Φ = bigSep Finset.univ fun c : Dev nD => bigSep Finset.univ fun k : CI => Φ (kcell (c, k)) := by
  unfold allCells; rw [bigSep_map, bigSep_univ_prod]; rfl
theorem over_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [BI.bigSep_univ_sum, bigSep_univ_prod (α := Bool) (β := Tr), bigSep_univ_eq_bigSepL [true, false] (by decide) (by decide)]
  rfl

theorem fund_all : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst' := (Entails.of_eq (over_cells fun g => roundState ER (Rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat']; · iexact Hat'
    iexact Hr'
  iexact Htok'

theorem bar_alone (c : Dev nD) : (unscopedSems0 c : sProp 𝕄) = semVal (barC c) 0 := by
  unfold unscopedSems0; rw [bigSep_eq_bigSepL_of_eq [SemLoc.reg (0 : Fin 1)] (by decide +kernel) (by decide)]; rfl

theorem own_sems (c : Dev nD) : (Pipeline.ownSems0 (Ix := Unit) (Name := ℕ) (U := UU) (Lvl := ℕ) (Val := Elt F) (τ := τ) osem c : sProp 𝕄)
    = iprop((bigSep Finset.univ fun o : Tr => semVal (sC c o.1 o.2.1 o.2.2) 0) ∗ bigSep Finset.univ fun o : Tr => semVal (rC c o.1 o.2.1 o.2.2) 0) := by
  unfold Pipeline.ownSems0
  rw [bigSep_univ_prod (α := Bool) (β := Tr), bigSep_univ_eq_bigSepL [true, false] (by decide) (by decide)]
  rfl

theorem dev_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
    rw [own_sems, bar_alone, bigSep_CI]; iintro ⟨⟨H1, H2⟩, H0⟩; iframe
  have hi : iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := hv $$ [Hos Hus]
  · isplitl [Hos]; · iexact Hos
    iexact Hus
  imod hi $$ [Hv Hst] with Hinv
  · isplitl [Hv]; · iexact Hv
    iexact Hst
  imodintro
  isplitl [Hinv]; · iexact Hinv
  isplitl [Hat]; · iexact Hat
  iexact Htok

/-- The order of two conjunctions does not matter. -/
theorem swap_over {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1),
    bigSep_univ_equiv (Equiv.prodComm J I) (fun p : I × J => Φ p.1 p.2)]
  rfl

/-- The tokens go to the devices that pay with them. -/
theorem toks_to_payers : (bigSep Finset.univ fun c : Dev nD => (toks c : sProp 𝕄)) = bigSep Finset.univ fun c : Dev nD => pays c := by
  have hb : (bigSep Finset.univ fun c : Dev nD => bigSep Finset.univ fun δ : Dir => (dutyTok ER (barC c) 0 δ : sProp 𝕄))
      = bigSep Finset.univ fun c : Dev nD => bigSep Finset.univ fun δ : Dir => dutyTok ER (barC (src δ c)) 0 δ := by
    rw [swap_over, swap_over (fun (c : Dev nD) (δ : Dir) => (dutyTok ER (barC (src δ c)) 0 δ : sProp 𝕄))]
    exact bigSep_congr fun δ _ => bigSep_univ_equiv (ring δ).symm fun c : Dev nD => (dutyTok ER (barC c) 0 δ : sProp 𝕄)
  have hr : (bigSep Finset.univ fun c : Dev nD => bigSep Finset.univ fun o : Tr => (dutyTok ER (rC c o.1 o.2.1 o.2.2) 0 (0 : Dir) : sProp 𝕄))
      = bigSep Finset.univ fun c : Dev nD => bigSep Finset.univ fun o : Tr => dutyTok ER (rC (nbr o.1 c) o.1 o.2.1 o.2.2) 0 (0 : Dir) := by
    rw [swap_over, swap_over (fun (c : Dev nD) (o : Tr) => (dutyTok ER (rC (nbr o.1 c) o.1 o.2.1 o.2.2) 0 (0 : Dir) : sProp 𝕄))]
    exact bigSep_congr fun o _ => bigSep_univ_equiv (ring o.1) fun c : Dev nD => (dutyTok ER (rC c o.1 o.2.1 o.2.2) 0 (0 : Dir) : sProp 𝕄)
  unfold toks pays
  rw [bigSep_sep', bigSep_sep', bigSep_sep', bigSep_sep', hb, hr]

/-- A persistent fact goes to every member. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem lin_eq (c : Dev nD) : (lin c : sProp 𝕄) = iprop((bigSep Finset.univ fun k : CI => atPos ER (kcell (c, k)) 0 ∅ 0) ∗ pays c) := by
  unfold lin pays; rw [bigSep_CI]
  ac_rfl

theorem gather_records :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', toks_to_payers, ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  have hl : iprop((bigSep Finset.univ fun c : Dev nD => bigSep Finset.univ fun k : CI => (atPos ER (kcell (c, k)) 0 ∅ 0 : sProp 𝕄)) ∗ bigSep Finset.univ pays)
      ⊢ bigSep Finset.univ fun c : Dev nD => (lin c : sProp 𝕄) := by
    rw [← bigSep_sep']; exact bigSep_mono fun c _ => Entails.of_eq (lin_eq c).symm
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  iapply (share_out (R := recs m ρ K) (Φ := fun c : Dev nD => lin c) fun c _ => show iprop(recs m ρ K ∗ lin c) ⊢ G' m ρ c from by
    unfold G'; iintro H; iexists K; iexact H)
  isplitr
  · unfold recs; isplitl; · iexact HI
    iexact HR
  iapply hl
  isplitl [Hat]; · iexact Hat
  iexact Htok

theorem alloc_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => dev_alloc m ρ c).trans (bigSep_fupd _ _)).trans (BI.fupd_mono (gather_records m ρ))

end Cert.GatherProof

end
-- ==== Proof.Run.lean ====
/-
# The launch

Every device starts with the credits of its waits, which are what the others owe it. The run of the whole mesh follows
from the library's launch theorem.
-/
module

public import proofs.«01_k».proof.Proof.Deal
public import Idealize.ShloMosaic.Lib.Pipeline.CollectiveSegs

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credits -/

theorem rC_iff {c d : Dev nD} {o o' : Tr} : rC c o.1 o.2.1 o.2.2 = rC d o'.1 o'.2.1 o'.2.2 ↔ c = d ∧ o = o' := by
  constructor
  · intro h
    have h1 := kcell_inj h
    exact ⟨congrArg Prod.fst h1, congrArg Prod.snd (Option.some.inj (congrArg Prod.snd h1))⟩
  · rintro ⟨rfl, rfl⟩; rfl
theorem bar_iff {c d : Dev nD} : barC c = barC d ↔ c = d := ⟨fun h => congrArg Prod.fst (kcell_inj h), fun h => h ▸ rfl⟩
theorem bar_ne_rC (c d : Dev nD) (o : Tr) : barC c ≠ rC d o.1 o.2.1 o.2.2 := fun h => by
  have h1 := congrArg Prod.snd (kcell_inj h); cases h1

/-- What a list of transfers of device `d` owes to a receive cell of device `c`. -/
theorem obL_at (d c : Dev nD) (o : Tr) (l : List Tr) (hl : l.Nodup) :
    obL d l (rC c o.1 o.2.1 o.2.2) () = if o ∈ l ∧ c = nbr o.1 d then N else 0 := by
  induction l with
  | nil => rw [if_neg (fun h => absurd h.1 List.not_mem_nil)]; rfl
  | cons o' l ih =>
    have ho := List.nodup_cons.mp hl
    rw [obL_cons, Pi.add_apply, Finsupp.add_apply, ih ho.2]
    unfold ob
    rw [tallyAt_apply]
    by_cases h : o = o'
    · subst h
      by_cases hc : c = nbr o.1 d
      · rw [if_pos ⟨rC_iff.mpr ⟨hc, rfl⟩, rfl⟩, if_neg (fun h => ho.1 h.1), if_pos ⟨List.mem_cons_self, hc⟩, Nat.add_zero]
      · rw [if_neg (fun h => hc (rC_iff.mp h.1).1), if_neg (fun h => hc h.2), if_neg (fun h => hc h.2)]
    · rw [if_neg (fun h' => h (rC_iff.mp h'.1).2), Nat.zero_add]
      refine if_congr ?_ rfl rfl
      rw [List.mem_cons]
      exact ⟨fun h' => ⟨.inr h'.1, h'.2⟩, fun h' => ⟨h'.1.resolve_left h, h'.2⟩⟩

theorem owB_at_rC (d c : Dev nD) (o : Tr) : owB d (rC c o.1 o.2.1 o.2.2) () = 0 := by
  unfold owB
  have h (x : Dev nD) : (tallyAt (barC x) () 1 : CellTallies nD τ sig Unit) (rC c o.1 o.2.1 o.2.2) () = 0 := by
    rw [tallyAt_apply, if_neg fun h => bar_ne_rC x c o h.1.symm]
  simp only [Pi.add_apply, Finsupp.add_apply, h]
  split <;> split <;> simp only [h, Pi.zero_apply, Finsupp.zero_apply, Nat.add_zero]

theorem owed_rC (d c : Dev nD) (o : Tr) : O₀ d (rC c o.1 o.2.1 o.2.2) () = if d = src o.1 c then (if rv o.1 (cz c) o.2.1 then N else 0) else 0 := by
  unfold O₀ owL
  rw [Pi.add_apply, Finsupp.add_apply, owB_at_rC, Nat.zero_add, obL_at d c o _ (obs_nodup ⟨cz d, cz_lt d⟩)]
  by_cases h : d = src o.1 c
  · subst h
    rw [if_pos rfl]
    refine if_congr ?_ rfl rfl
    rw [mem_obs ⟨cz (src o.1 c), cz_lt _⟩ o, nbr_src]
    show sv o.1 (cz (src o.1 c)) o.2.1 = true ∧ c = c ↔ _
    rw [sv_src]
    exact and_iff_left rfl
  · rw [if_neg h, if_neg fun h' => h (by rw [h'.2, src_nbr])]

/-- The number of signals from `d` to the barrier of `c`. -/
def sigs (d c : Dev nD) : ℕ := (if c = nbr 2 d then 1 else 0) + ((if bv 0 (cz d) = true ∧ c = nbr 0 d then 1 else 0) + (if bv 1 (cz d) = true ∧ c = nbr 1 d then 1 else 0))
theorem sum_sigs : ∀ c : Dev nD, (∑ d : Dev nD, sigs d c) = nbrs c := by decide +kernel

theorem owed_bar (d c : Dev nD) : O₀ d (barC c) () = sigs d c := by
  unfold O₀ owL owB sigs
  have h0 : obL d (L1.flatMap (obs (cz d))) (barC c) () = 0 := by
    by_contra h
    obtain ⟨o, -, ho⟩ := obL_pos (Nat.pos_of_ne_zero h)
    exact bar_ne_rC c _ o ho
  have h (x : Dev nD) : (tallyAt (barC x) () 1 : CellTallies nD τ sig Unit) (barC c) () = if c = x then 1 else 0 := by
    rw [tallyAt_apply]; exact if_congr ⟨fun h => bar_iff.mp h.1, fun h => ⟨bar_iff.mpr h, rfl⟩⟩ rfl rfl
  have h' (b : Bool) (x : Dev nD) : (if b = true then tallyAt (barC x) () 1 else (0 : CellTallies nD τ sig Unit)) (barC c) () = if b = true ∧ c = x then 1 else 0 := by
    cases b
    · rfl
    · rw [if_pos rfl, h]; exact if_congr ⟨fun h => ⟨rfl, h⟩, fun h => h.2⟩ rfl rfl
  rw [Pi.add_apply, Finsupp.add_apply, h0, Nat.add_zero, Pi.add_apply, Finsupp.add_apply, Pi.add_apply, Finsupp.add_apply, h, h', h']

theorem credit_bar (c : Dev nD) : tallyOn (barC c) (launchCredit (Pipeline.owing O₀) 0 (barC c)) = (tallyAt (barC c) () (nbrs c) : CellTallies nD τ sig Unit) := by
  unfold tallyAt; refine congrArg _ (Finsupp.ext fun u => ?_); cases u
  rw [Pipeline.launchCredit_owing, Finsupp.single_eq_same, Finset.sum_congr rfl fun d _ => owed_bar d c, sum_sigs]

theorem credit_rC (c : Dev nD) (o : Tr) (h : rv o.1 (cz c) o.2.1 = true) :
    tallyOn (rC c o.1 o.2.1 o.2.2) (launchCredit (Pipeline.owing O₀) 0 (rC c o.1 o.2.1 o.2.2)) = (tallyAt (rC c o.1 o.2.1 o.2.2) () N : CellTallies nD τ sig Unit) := by
  unfold tallyAt; refine congrArg _ (Finsupp.ext fun u => ?_); cases u
  rw [Pipeline.launchCredit_owing, Finsupp.single_eq_same, Finset.sum_congr rfl fun d _ => owed_rC d c o, if_pos h,
    Finset.sum_ite_eq' Finset.univ (src o.1 c) fun _ => N, if_pos (Finset.mem_univ _)]

theorem drop_mid (A B C : sProp 𝕄) : iprop(A ∗ B ∗ C) ⊢ iprop(A ∗ C) := by
  iintro ⟨HA, -, HC⟩
  iframe

theorem to_emp (A : sProp 𝕄) : A ⊢ iprop(emp) := by
  iintro -; iempintro

theorem credits (c : Dev nD) : (Pipeline.launchCred O₀ c : sProp 𝕄) ⊢ crd c := by
  unfold Pipeline.launchCred crd
  refine (BI.bigSep_subset (Finset.subset_univ (Finset.univ.map ⟨csem, csem_inj⟩))).trans ?_
  rw [bigSep_map, bigSep_CI]
  refine (drop_mid _ _ _).trans (sep_mono (Entails.of_eq (congrArg _ (credit_bar c))) (bigSep_mono fun o _ => ?_))
  by_cases h : rv o.1 (cz c) o.2.1 = true
  · rw [if_pos h]; exact Entails.of_eq (PROP := sProp 𝕄) (congrArg cred (credit_rC c o h))
  · rw [if_neg h]; exact to_emp _

/-! ## The side conditions of the launch theorem -/

theorem share_full (c : Dev nD) (w : Fin cfg0.W) : (dats m ρ 0 c).share w = fullShare := by unfold Dat.share; split <;> rfl

theorem start_from (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits (F := F) c) $$ Hcr
  imodintro
  unfold start G'
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩; iexact Hs

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ends c from rfl, scopedRest0_eq, own_sems, bar_alone]
  unfold ends
  iintro ⟨Hs, Hr, Hb⟩
  isplitl [Hb]; · iexact Hb
  isplitl [Hs Hr]
  · isplitl [Hs]; · iexact Hs
    iexact Hr
  iempintro

/-- Everything owed at the start is owed to a barrier or a receive cell. -/
theorem owed_where {c : Dev nD} {g : GSem nD τ sig} {u : Unit} (h : 0 < O₀ c g u) : (∃ d, g = barC d) ∨ ∃ d, ∃ o : Tr, g = rC d o.1 o.2.1 o.2.2 := by
  by_contra hn
  rw [not_or] at hn
  have hl : owL c L1 g u = 0 := by
    by_contra h'
    obtain ⟨o, -, ho⟩ := obL_pos (Nat.pos_of_ne_zero h')
    exact hn.2 ⟨_, o, ho⟩
  have hb (x : Dev nD) : (tallyAt (barC x) () 1 : CellTallies nD τ sig Unit) g u = 0 := by
    rw [tallyAt_apply, if_neg fun h => hn.1 ⟨x, h.1⟩]
  have hb' (b : Bool) (x : Dev nD) : (if b = true then tallyAt (barC x) () 1 else (0 : CellTallies nD τ sig Unit)) g u = 0 := by
    cases b
    · rfl
    · rw [if_pos rfl, hb]
  unfold O₀ owB at h
  rw [Pi.add_apply, Finsupp.add_apply, hl, Pi.add_apply, Finsupp.add_apply, Pi.add_apply, Finsupp.add_apply, hb, hb', hb'] at h
  exact Nat.lt_irrefl 0 h

theorem rlev_pos (o : Tr) : 0 < rlev o := by revert o; decide

theorem stage_wait (c : Dev nD) (q : DmaSem sig) (hq : decode (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_where hg with ⟨d, rfl⟩ | ⟨d, o, rfl⟩ <;> exact Finset.mem_singleton_self _)
      (fun p hp => by rw [Finset.mem_singleton.mp hp]; dsimp only [lv]; rw [hq])
      (fun g u hg => by
        rcases owed_where hg with ⟨d, rfl⟩ | ⟨d, o, rfl⟩
        · rw [lv_bar]; decide
        · rw [lv_r]; exact rlev_pos o)
  · rw [MayWait_zero]; iintro -; iempintro

theorem stage_waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide) _ (by
      rcases t with ⟨_ | _, ht⟩
      · exact Or.inl rfl
      · exact Or.inr rfl)

/-! ## The run -/

/-- A window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every run of the mesh ends, with the arrays at their computed contents and every
    counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := alloc_all m ρ)
    (hA := fun _ _ => rfl) (hpf := fun _ k => k.elim0)
    (X := start m ρ) (Y := fun c => unscopedSems0 c) (Z := fun _ => iprop(emp))
    (hX := start_from m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand ends as it began. -/
theorem final_x (c : Dev nD) : finalA m ρ c (0 : Fin 2) = (s₀ m ρ).mem (win0_0.arr.view.loc (c : Thread nD τ)) :=
  (dats (F := F) m ρ 0 c).arrAt_in (0 : Fin 2) rfl _

end Cert.GatherProof

end
-- ==== Proof.Value.lean ====
/-
# The value

What a device's result array holds at the end, and that it is the whole array when every device holds its block of it.
-/
module

public import proofs.«01_k».proof.Proof.Run
public import Idealize.ShloMosaic.Lib.Pipeline.ValueKit
public import Idealize.ShloMosaic.Lib.LayoutAt

@[expose] public section

noncomputable section

namespace Cert.GatherProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array ends holding what the body leaves in its window. -/
theorem final_o (c : Dev nD) : finalA m ρ c (1 : Fin 2) = outC m ρ c :=
  (dats (F := F) m ρ 0 c).arrAt_eq_of_after_last (1 : Fin 2) t0_0 (by decide +kernel) _ fun j => by
    blk_simp
    rfl

/-- What the operand's window holds is the device's operand. -/
theorem xstg_at (c : Dev nD) (j : S2048x512.Idx) : xstg m ρ c j = m ((c : Thread nD τ).loc main_arg0) j := by
  unfold xstg
  blk_simp
  refine congrArg (m ((c : Thread nD τ).loc main_arg0)) (funext fun a => Fin.ext ?_)
  match a with
  | ⟨0, _⟩ => show 0 * 2048 + 1 * (j (0 : Fin 2)).val = (j (0 : Fin 2)).val; omega
  | ⟨1, _⟩ => show 0 * 512 + 1 * (j (1 : Fin 2)).val = (j (1 : Fin 2)).val; omega

variable {α : Type}

/-- The block of the whole array that a device holds. -/
abbrev part (X : S8192x512.Idx → α) (c : Dev nD) : S2048x512.Idx → α :=
  Layout.blockN ⟨2, ![2048, 512]⟩ ⟨2, ![8192, 512]⟩ (Layout.meshBlock [2, 4, 4] ![[2], []] c) X

theorem block_row : ∀ c : Dev nD, Layout.meshLin [2, 4, 4] c.val [2] = cz c := by decide +kernel

theorem part_at (X : S8192x512.Idx → α) (c : Dev nD) (i : S8192x512.Idx) (h : (i (0 : Fin 2)).val / 2048 = cz c) : part X c (locIdx i) = X i := by
  unfold part
  rw [Layout.blockN_apply]
  refine congrArg X (funext fun b => Fin.ext ?_)
  rw [Layout.TilesN.idx_val]
  match b with
  | ⟨0, _⟩ =>
    show Layout.meshLin [2, 4, 4] c.val [2] * 2048 + (i (0 : Fin 2)).val % 2048 = (i (0 : Fin 2)).val
    rw [block_row, ← h]; omega
  | ⟨1, _⟩ =>
    show Layout.meshLin [2, 4, 4] c.val [] * 512 + (i (1 : Fin 2)).val = (i (1 : Fin 2)).val
    rw [show Layout.meshLin [2, 4, 4] c.val [] = 0 from rfl]; omega

theorem cz_devAt (c : Dev nD) (h j : ℕ) (hj : j < 4) : cz (devAt h (cy c) j) = j := by
  unfold cz devAt; dsimp only; omega

/-- When every device holds its block of an array, every device ends with the whole array. -/
theorem out_whole (X : S8192x512.Idx → Elt F .bf16) (hX : ∀ c : Dev nD, m ((c : Thread nD τ).loc main_arg0) = part X c) (c : Dev nD) :
    outC m ρ c = X := by
  have hx (d : Dev nD) (i : S8192x512.Idx) (h : (i (0 : Fin 2)).val / 2048 = cz d) : xstg m ρ d (locIdx i) = X i := by
    rw [xstg_at, hX]; exact part_at X d i h
  funext (i : S8192x512.Idx)
  have hi : (i (0 : Fin 2)).val < 8192 := (i (0 : Fin 2)).isLt
  unfold outC gat
  dsimp only
  split
  · refine hx c i ?_
    have := cx_lt c; omega
  · refine hx _ i (cz_devAt c _ _ (by omega)).symm

end Cert.GatherProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Lib.StableHlo.RunHlo
public import Idealize.ShloMosaic.Lib.Claim
public import Idealize.ShloMosaic.Adequacy
public import Idealize.ShloMosaic.Init

@[expose] public section

noncomputable section

namespace Cert.Proof

open Idealize.ShloMosaic Idealize.SL.Sem

/-- The two programs have the same text, so the same kernels, -/
theorem same_bodies : (Cert.Kernel.defs₀ (F := Bits) : Defs Cert.Kernel.nD Cert.Kernel.τ Cert.Kernel.sig (Elt Bits) Cert.Kernel.Λ₀) = Cert.KernelIdeal.defs₀ (F := Bits) := by
  unfold Cert.Kernel.defs₀ Cert.KernelIdeal.defs₀
  refine congrArg Defs.onTc ?_
  funext l a
  match l, a with
  | ⟨0, _⟩, (t, s) =>
    show Cert.Kernel.cc0_body (F := Bits) (Cert.Kernel.win0_0.stage (s 0)) (Cert.Kernel.Facts₀.hstage0_0 0) (Cert.Kernel.win0_1.stage (s 1)) (Cert.Kernel.Facts₀.hstage0_1 0)
        Cert.Kernel.cc0_scratch0 Cert.Kernel.cc0_scratch1 Cert.Kernel.cc0_scratch2 Cert.Kernel.cc0_scratch3 Cert.Kernel.cc0_scratch4 Cert.Kernel.cc0_scratch5
      = Cert.KernelIdeal.cc0_body (F := Bits) (Cert.KernelIdeal.win0_0.stage (s 0)) (Cert.KernelIdeal.Facts₀.hstage0_0 0) (Cert.KernelIdeal.win0_1.stage (s 1)) (Cert.KernelIdeal.Facts₀.hstage0_1 0)
        Cert.KernelIdeal.cc0_scratch0 Cert.KernelIdeal.cc0_scratch1 Cert.KernelIdeal.cc0_scratch2 Cert.KernelIdeal.cc0_scratch3 Cert.KernelIdeal.cc0_scratch4 Cert.KernelIdeal.cc0_scratch5
    rfl
  | ⟨n + 1, h⟩, _ => exact absurd h (Nat.not_lt.2 (Nat.le_add_left _ _))

/-- and the same body tables. -/
theorem same_defs : (Cert.Kernel.defs (F := Bits) : Defs Cert.Kernel.nD Cert.Kernel.τ Cert.Kernel.sig (Elt Bits)
      (Pipeline.Sig Cert.Kernel.Λ₀ (Fin 1) fun p => (Cert.Kernel.pcfgs (F := Bits) p).Adm))
    = Cert.KernelIdeal.defs (F := Bits) :=
  congrArg (Pipeline.defs (Cert.Kernel.pcfgs (F := Bits))) same_bodies

/-- The kernel over the bits runs, keeps its operand, and ends with every counter at zero. -/
theorem frame_kernel : Cert.quiescent_Kernel := fun m ρ _ => by
  rw [same_defs]
  exact (θ_run Cert.KernelIdeal.defs _ _).mono (fun _ h => ⟨fun c => (h.1 c (0 : Fin 2)).trans (Cert.GatherProof.final_x m ρ c), h.2⟩)
    (Cert.GatherProof.run_main (F := Bits) m ρ)

/-- So does its idealization. -/
theorem frame_ideal : Cert.quiescent_KernelIdeal := fun m ρ _ =>
  (θ_run Cert.KernelIdeal.defs _ _).mono (fun _ h => ⟨fun c => (h.1 c (0 : Fin 2)).trans (Cert.GatherProof.final_x m ρ c), h.2⟩)
    (Cert.GatherProof.run_main (F := Ideal) m ρ)

/-- The reference returns its argument. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) := by
  hlo_run

/-- The reference has no counter. -/
theorem frame_reference : Cert.quiescent_ReferenceIdeal := fun m ρ _ =>
  (θ_run Cert.ReferenceIdeal.defs _ _).mono (fun r h => ⟨h, sem_eq_zero_of_no_sems (by decide) r.2⟩) (run_reference m ρ)

/-- Every device ends holding the array that the reference returns. -/
theorem algebraic : Cert.algebraic_KernelIdeal_ReferenceIdeal := fun m ρ m' ρ' _ hagree =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨((h.1 c (1 : Fin 2)).trans (Cert.GatherProof.final_o m ρ c)).trans (Cert.GatherProof.out_whole m ρ _ hagree c),
        (h.1 c (0 : Fin 2)).trans (Cert.GatherProof.final_x m ρ c)⟩)
      (Cert.GatherProof.run_main (F := Ideal) m ρ),
    (θ_run Cert.ReferenceIdeal.defs _ _).mono (fun _ h => ⟨h 0, h 0⟩) (run_reference m' ρ')⟩

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
